-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_n" .f32 0x33AAAAAB#32 ((12582912⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x3x512x512 : Shape := ⟨4, ![16, 3, 512, 512]⟩
abbrev S_ : Shape := ⟨0, ![]⟩
abbrev S1 : Shape := ⟨1, ![1]⟩
abbrev S2 : Shape := ⟨1, ![2]⟩
abbrev S12582912 : Shape := ⟨1, ![12582912]⟩
abbrev S2x1 : Shape := ⟨2, ![2, 1]⟩
abbrev S2x2 : Shape := ⟨2, ![2, 2]⟩
abbrev S1x2 : Shape := ⟨2, ![1, 2]⟩
abbrev S6291456 : Shape := ⟨1, ![6291456]⟩
abbrev S6291456x1 : Shape := ⟨2, ![6291456, 1]⟩
abbrev S12288x1024 : Shape := ⟨2, ![12288, 1024]⟩
abbrev S1x1 : Shape := ⟨2, ![1, 1]⟩
abbrev S512x1024 : Shape := ⟨2, ![512, 1024]⟩
abbrev S1x512x1024 : Shape := ⟨3, ![1, 512, 1024]⟩
abbrev S1x1x1 : Shape := ⟨3, ![1, 1, 1]⟩

abbrev nBuf : Space → Nat
  | .hbm => 1471
  | .vmem => 6
  | .smem => 1
  | _ => 0

abbrev hbmTy0_0 (i : Nat) : BufTy := match i % 128 with
  | 0 => ⟨S16x3x512x512, .f32⟩
  | 1 => ⟨S16x3x512x512, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S12582912, .i32⟩
  | 13 => ⟨S1, .i32⟩
  | 14 => ⟨S_, .i32⟩
  | 15 => ⟨S1, .i32⟩
  | 16 => ⟨S_, .i32⟩
  | 17 => ⟨S2, .i64⟩
  | 18 => ⟨S_, .i64⟩
  | 19 => ⟨S2, .i64⟩
  | 20 => ⟨S2, .i64⟩
  | 21 => ⟨S_, .i64⟩
  | 22 => ⟨S2, .i64⟩
  | 23 => ⟨S2, .i64⟩
  | 24 => ⟨S2, .i32⟩
  | 25 => ⟨S2, .i32⟩
  | 26 => ⟨S_, .i32⟩
  | 27 => ⟨S_, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S16x3x512x512, .f32⟩

abbrev hbmTy0_1 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2x1, .i32⟩
  | 121 => ⟨S2x1, .i32⟩
  | 122 => ⟨S2x2, .i32⟩
  | 123 => ⟨S1x2, .i32⟩
  | 124 => ⟨S2, .i32⟩
  | 125 => ⟨S1x2, .i32⟩
  | 126 => ⟨S2, .i32⟩
  | 127 => ⟨S1, .i32⟩
  | _ => ⟨S16x3x512x512, .f32⟩

abbrev hbmTy0_2 (i : Nat) : BufTy := match i % 128 with
  | 0 => ⟨S_, .i32⟩
  | 1 => ⟨S1, .i32⟩
  | 2 => ⟨S_, .i32⟩
  | 3 => ⟨S12582912, .i64⟩
  | 4 => ⟨S_, .i64⟩
  | 5 => ⟨S12582912, .i64⟩
  | 6 => ⟨S12582912, .i64⟩
  | 7 => ⟨S_, .i64⟩
  | 8 => ⟨S12582912, .i64⟩
  | 9 => ⟨S12582912, .i64⟩
  | 10 => ⟨S12582912, .i32⟩
  | 11 => ⟨S12582912, .i32⟩
  | 12 => ⟨S_, .i32⟩
  | 13 => ⟨S_, .i32⟩
  | 14 => ⟨S_, .i32⟩
  | 15 => ⟨S12582912, .i32⟩
  | 16 => ⟨S12582912, .i32⟩
  | 17 => ⟨S12582912, .i32⟩
  | 18 => ⟨S12582912, .i32⟩
  | 19 => ⟨S12582912, .i32⟩
  | 20 => ⟨S_, .i32⟩
  | 21 => ⟨S12582912, .i32⟩
  | 22 => ⟨S12582912, .i32⟩
  | 23 => ⟨S_, .i32⟩
  | 24 => ⟨S12582912, .i32⟩
  | 25 => ⟨S12582912, .i32⟩
  | 26 => ⟨S12582912, .i32⟩
  | 27 => ⟨S12582912, .i32⟩
  | 28 => ⟨S12582912, .i32⟩
  | 29 => ⟨S_, .i32⟩
  | 30 => ⟨S12582912, .i32⟩
  | 31 => ⟨S12582912, .i32⟩
  | 32 => ⟨S_, .i32⟩
  | 33 => ⟨S12582912, .i32⟩
  | 34 => ⟨S12582912, .i32⟩
  | 35 => ⟨S12582912, .i32⟩
  | 36 => ⟨S12582912, .i32⟩
  | 37 => ⟨S12582912, .i32⟩
  | 38 => ⟨S_, .i32⟩
  | 39 => ⟨S12582912, .i32⟩
  | 40 => ⟨S12582912, .i32⟩
  | 41 => ⟨S_, .i32⟩
  | 42 => ⟨S12582912, .i32⟩
  | 43 => ⟨S12582912, .i32⟩
  | 44 => ⟨S12582912, .i32⟩
  | 45 => ⟨S12582912, .i32⟩
  | 46 => ⟨S12582912, .i32⟩
  | 47 => ⟨S_, .i32⟩
  | 48 => ⟨S12582912, .i32⟩
  | 49 => ⟨S12582912, .i32⟩
  | 50 => ⟨S_, .i32⟩
  | 51 => ⟨S12582912, .i32⟩
  | 52 => ⟨S12582912, .i32⟩
  | 53 => ⟨S12582912, .i32⟩
  | 54 => ⟨S12582912, .i32⟩
  | 55 => ⟨S12582912, .i32⟩
  | 56 => ⟨S12582912, .i32⟩
  | 57 => ⟨S12582912, .i32⟩
  | 58 => ⟨S12582912, .i32⟩
  | 59 => ⟨S_, .i32⟩
  | 60 => ⟨S12582912, .i32⟩
  | 61 => ⟨S12582912, .i32⟩
  | 62 => ⟨S12582912, .i32⟩
  | 63 => ⟨S_, .i32⟩
  | 64 => ⟨S12582912, .i32⟩
  | 65 => ⟨S12582912, .i32⟩
  | 66 => ⟨S_, .i32⟩
  | 67 => ⟨S12582912, .i32⟩
  | 68 => ⟨S12582912, .i32⟩
  | 69 => ⟨S12582912, .i32⟩
  | 70 => ⟨S12582912, .i32⟩
  | 71 => ⟨S12582912, .i32⟩
  | 72 => ⟨S_, .i32⟩
  | 73 => ⟨S12582912, .i32⟩
  | 74 => ⟨S12582912, .i32⟩
  | 75 => ⟨S_, .i32⟩
  | 76 => ⟨S12582912, .i32⟩
  | 77 => ⟨S12582912, .i32⟩
  | 78 => ⟨S12582912, .i32⟩
  | 79 => ⟨S12582912, .i32⟩
  | 80 => ⟨S12582912, .i32⟩
  | 81 => ⟨S_, .i32⟩
  | 82 => ⟨S12582912, .i32⟩
  | 83 => ⟨S12582912, .i32⟩
  | 84 => ⟨S_, .i32⟩
  | 85 => ⟨S12582912, .i32⟩
  | 86 => ⟨S12582912, .i32⟩
  | 87 => ⟨S12582912, .i32⟩
  | 88 => ⟨S12582912, .i32⟩
  | 89 => ⟨S12582912, .i32⟩
  | 90 => ⟨S_, .i32⟩
  | 91 => ⟨S12582912, .i32⟩
  | 92 => ⟨S12582912, .i32⟩
  | 93 => ⟨S_, .i32⟩
  | 94 => ⟨S12582912, .i32⟩
  | 95 => ⟨S12582912, .i32⟩
  | 96 => ⟨S12582912, .i32⟩
  | 97 => ⟨S12582912, .i32⟩
  | 98 => ⟨S12582912, .i32⟩
  | 99 => ⟨S12582912, .i32⟩
  | 100 => ⟨S12582912, .i32⟩
  | 101 => ⟨S12582912, .i32⟩
  | 102 => ⟨S_, .i32⟩
  | 103 => ⟨S12582912, .i32⟩
  | 104 => ⟨S12582912, .i32⟩
  | 105 => ⟨S12582912, .i32⟩
  | 106 => ⟨S_, .i32⟩
  | 107 => ⟨S12582912, .i32⟩
  | 108 => ⟨S12582912, .i32⟩
  | 109 => ⟨S_, .i32⟩
  | 110 => ⟨S12582912, .i32⟩
  | 111 => ⟨S12582912, .i32⟩
  | 112 => ⟨S12582912, .i32⟩
  | 113 => ⟨S12582912, .i32⟩
  | 114 => ⟨S12582912, .i32⟩
  | 115 => ⟨S_, .i32⟩
  | 116 => ⟨S12582912, .i32⟩
  | 117 => ⟨S12582912, .i32⟩
  | 118 => ⟨S_, .i32⟩
  | 119 => ⟨S12582912, .i32⟩
  | 120 => ⟨S12582912, .i32⟩
  | 121 => ⟨S12582912, .i32⟩
  | 122 => ⟨S12582912, .i32⟩
  | 123 => ⟨S12582912, .i32⟩
  | 124 => ⟨S_, .i32⟩
  | 125 => ⟨S12582912, .i32⟩
  | 126 => ⟨S12582912, .i32⟩
  | 127 => ⟨S_, .i32⟩
  | _ => ⟨S16x3x512x512, .f32⟩

abbrev hbmTy0_3 (i : Nat) : BufTy := match i % 128 with
  | 0 => ⟨S12582912, .i32⟩
  | 1 => ⟨S12582912, .i32⟩
  | 2 => ⟨S12582912, .i32⟩
  | 3 => ⟨S12582912, .i32⟩
  | 4 => ⟨S12582912, .i32⟩
  | 5 => ⟨S_, .i32⟩
  | 6 => ⟨S12582912, .i32⟩
  | 7 => ⟨S12582912, .i32⟩
  | 8 => ⟨S_, .i32⟩
  | 9 => ⟨S12582912, .i32⟩
  | 10 => ⟨S12582912, .i32⟩
  | 11 => ⟨S12582912, .i32⟩
  | 12 => ⟨S12582912, .i32⟩
  | 13 => ⟨S12582912, .i32⟩
  | 14 => ⟨S12582912, .i32⟩
  | 15 => ⟨S12582912, .i32⟩
  | 16 => ⟨S12582912, .i32⟩
  | 17 => ⟨S_, .i32⟩
  | 18 => ⟨S12582912, .i32⟩
  | 19 => ⟨S12582912, .i32⟩
  | 20 => ⟨S12582912, .i32⟩
  | 21 => ⟨S_, .i32⟩
  | 22 => ⟨S12582912, .i32⟩
  | 23 => ⟨S12582912, .i32⟩
  | 24 => ⟨S_, .i32⟩
  | 25 => ⟨S12582912, .i32⟩
  | 26 => ⟨S12582912, .i32⟩
  | 27 => ⟨S12582912, .i32⟩
  | 28 => ⟨S12582912, .i32⟩
  | 29 => ⟨S12582912, .i32⟩
  | 30 => ⟨S_, .i32⟩
  | 31 => ⟨S12582912, .i32⟩
  | 32 => ⟨S12582912, .i32⟩
  | 33 => ⟨S_, .i32⟩
  | 34 => ⟨S12582912, .i32⟩
  | 35 => ⟨S12582912, .i32⟩
  | 36 => ⟨S12582912, .i32⟩
  | 37 => ⟨S12582912, .i32⟩
  | 38 => ⟨S12582912, .i32⟩
  | 39 => ⟨S_, .i32⟩
  | 40 => ⟨S12582912, .i32⟩
  | 41 => ⟨S12582912, .i32⟩
  | 42 => ⟨S_, .i32⟩
  | 43 => ⟨S12582912, .i32⟩
  | 44 => ⟨S12582912, .i32⟩
  | 45 => ⟨S12582912, .i32⟩
  | 46 => ⟨S12582912, .i32⟩
  | 47 => ⟨S12582912, .i32⟩
  | 48 => ⟨S_, .i32⟩
  | 49 => ⟨S12582912, .i32⟩
  | 50 => ⟨S12582912, .i32⟩
  | 51 => ⟨S_, .i32⟩
  | 52 => ⟨S12582912, .i32⟩
  | 53 => ⟨S12582912, .i32⟩
  | 54 => ⟨S12582912, .i32⟩
  | 55 => ⟨S12582912, .i32⟩
  | 56 => ⟨S12582912, .i32⟩
  | 57 => ⟨S12582912, .i32⟩
  | 58 => ⟨S12582912, .i32⟩
  | 59 => ⟨S12582912, .i32⟩
  | 60 => ⟨S_, .i32⟩
  | 61 => ⟨S12582912, .i32⟩
  | 62 => ⟨S12582912, .i32⟩
  | 63 => ⟨S12582912, .i32⟩
  | 64 => ⟨S_, .i32⟩
  | 65 => ⟨S12582912, .i32⟩
  | 66 => ⟨S12582912, .i32⟩
  | 67 => ⟨S_, .i32⟩
  | 68 => ⟨S12582912, .i32⟩
  | 69 => ⟨S12582912, .i32⟩
  | 70 => ⟨S12582912, .i32⟩
  | 71 => ⟨S12582912, .i32⟩
  | 72 => ⟨S12582912, .i32⟩
  | 73 => ⟨S_, .i32⟩
  | 74 => ⟨S12582912, .i32⟩
  | 75 => ⟨S12582912, .i32⟩
  | 76 => ⟨S_, .i32⟩
  | 77 => ⟨S12582912, .i32⟩
  | 78 => ⟨S12582912, .i32⟩
  | 79 => ⟨S12582912, .i32⟩
  | 80 => ⟨S12582912, .i32⟩
  | 81 => ⟨S12582912, .i32⟩
  | 82 => ⟨S_, .i32⟩
  | 83 => ⟨S12582912, .i32⟩
  | 84 => ⟨S12582912, .i32⟩
  | 85 => ⟨S_, .i32⟩
  | 86 => ⟨S12582912, .i32⟩
  | 87 => ⟨S12582912, .i32⟩
  | 88 => ⟨S12582912, .i32⟩
  | 89 => ⟨S12582912, .i32⟩
  | 90 => ⟨S12582912, .i32⟩
  | 91 => ⟨S_, .i32⟩
  | 92 => ⟨S12582912, .i32⟩
  | 93 => ⟨S12582912, .i32⟩
  | 94 => ⟨S_, .i32⟩
  | 95 => ⟨S12582912, .i32⟩
  | 96 => ⟨S12582912, .i32⟩
  | 97 => ⟨S12582912, .i32⟩
  | 98 => ⟨S12582912, .i32⟩
  | 99 => ⟨S12582912, .i32⟩
  | 100 => ⟨S12582912, .i32⟩
  | 101 => ⟨S12582912, .i32⟩
  | 102 => ⟨S12582912, .i32⟩
  | 103 => ⟨S_, .i32⟩
  | 104 => ⟨S12582912, .i32⟩
  | 105 => ⟨S12582912, .i32⟩
  | 106 => ⟨S12582912, .i32⟩
  | 107 => ⟨S12582912, .i32⟩
  | 108 => ⟨S12582912, .i32⟩
  | 109 => ⟨S1, .i32⟩
  | 110 => ⟨S_, .i32⟩
  | 111 => ⟨S1, .i32⟩
  | 112 => ⟨S_, .i32⟩
  | 113 => ⟨S2, .i64⟩
  | 114 => ⟨S_, .i64⟩
  | 115 => ⟨S2, .i64⟩
  | 116 => ⟨S2, .i64⟩
  | 117 => ⟨S_, .i64⟩
  | 118 => ⟨S2, .i64⟩
  | 119 => ⟨S2, .i64⟩
  | 120 => ⟨S2, .i32⟩
  | 121 => ⟨S2, .i32⟩
  | 122 => ⟨S_, .i32⟩
  | 123 => ⟨S_, .i32⟩
  | 124 => ⟨S_, .i32⟩
  | 125 => ⟨S2, .i32⟩
  | 126 => ⟨S2, .i32⟩
  | 127 => ⟨S2, .i32⟩
  | _ => ⟨S16x3x512x512, .f32⟩

abbrev hbmTy0_4 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S16x3x512x512, .f32⟩

abbrev hbmTy0_5 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S2x1, .i32⟩
  | 89 => ⟨S2x1, .i32⟩
  | 90 => ⟨S2x2, .i32⟩
  | 91 => ⟨S1x2, .i32⟩
  | 92 => ⟨S2, .i32⟩
  | 93 => ⟨S1x2, .i32⟩
  | 94 => ⟨S2, .i32⟩
  | 95 => ⟨S1, .i32⟩
  | 96 => ⟨S_, .i32⟩
  | 97 => ⟨S1, .i32⟩
  | 98 => ⟨S_, .i32⟩
  | 99 => ⟨S12582912, .i64⟩
  | 100 => ⟨S_, .i64⟩
  | 101 => ⟨S12582912, .i64⟩
  | 102 => ⟨S12582912, .i64⟩
  | 103 => ⟨S_, .i64⟩
  | 104 => ⟨S12582912, .i64⟩
  | 105 => ⟨S12582912, .i64⟩
  | 106 => ⟨S12582912, .i32⟩
  | 107 => ⟨S12582912, .i32⟩
  | 108 => ⟨S_, .i32⟩
  | 109 => ⟨S_, .i32⟩
  | 110 => ⟨S_, .i32⟩
  | 111 => ⟨S12582912, .i32⟩
  | 112 => ⟨S12582912, .i32⟩
  | 113 => ⟨S12582912, .i32⟩
  | 114 => ⟨S12582912, .i32⟩
  | 115 => ⟨S12582912, .i32⟩
  | 116 => ⟨S_, .i32⟩
  | 117 => ⟨S12582912, .i32⟩
  | 118 => ⟨S12582912, .i32⟩
  | 119 => ⟨S_, .i32⟩
  | 120 => ⟨S12582912, .i32⟩
  | 121 => ⟨S12582912, .i32⟩
  | 122 => ⟨S12582912, .i32⟩
  | 123 => ⟨S12582912, .i32⟩
  | 124 => ⟨S12582912, .i32⟩
  | 125 => ⟨S_, .i32⟩
  | 126 => ⟨S12582912, .i32⟩
  | 127 => ⟨S12582912, .i32⟩
  | _ => ⟨S16x3x512x512, .f32⟩

abbrev hbmTy0_6 (i : Nat) : BufTy := match i % 128 with
  | 0 => ⟨S_, .i32⟩
  | 1 => ⟨S12582912, .i32⟩
  | 2 => ⟨S12582912, .i32⟩
  | 3 => ⟨S12582912, .i32⟩
  | 4 => ⟨S12582912, .i32⟩
  | 5 => ⟨S12582912, .i32⟩
  | 6 => ⟨S_, .i32⟩
  | 7 => ⟨S12582912, .i32⟩
  | 8 => ⟨S12582912, .i32⟩
  | 9 => ⟨S_, .i32⟩
  | 10 => ⟨S12582912, .i32⟩
  | 11 => ⟨S12582912, .i32⟩
  | 12 => ⟨S12582912, .i32⟩
  | 13 => ⟨S12582912, .i32⟩
  | 14 => ⟨S12582912, .i32⟩
  | 15 => ⟨S_, .i32⟩
  | 16 => ⟨S12582912, .i32⟩
  | 17 => ⟨S12582912, .i32⟩
  | 18 => ⟨S_, .i32⟩
  | 19 => ⟨S12582912, .i32⟩
  | 20 => ⟨S12582912, .i32⟩
  | 21 => ⟨S12582912, .i32⟩
  | 22 => ⟨S12582912, .i32⟩
  | 23 => ⟨S12582912, .i32⟩
  | 24 => ⟨S12582912, .i32⟩
  | 25 => ⟨S12582912, .i32⟩
  | 26 => ⟨S12582912, .i32⟩
  | 27 => ⟨S_, .i32⟩
  | 28 => ⟨S12582912, .i32⟩
  | 29 => ⟨S12582912, .i32⟩
  | 30 => ⟨S12582912, .i32⟩
  | 31 => ⟨S_, .i32⟩
  | 32 => ⟨S12582912, .i32⟩
  | 33 => ⟨S12582912, .i32⟩
  | 34 => ⟨S_, .i32⟩
  | 35 => ⟨S12582912, .i32⟩
  | 36 => ⟨S12582912, .i32⟩
  | 37 => ⟨S12582912, .i32⟩
  | 38 => ⟨S12582912, .i32⟩
  | 39 => ⟨S12582912, .i32⟩
  | 40 => ⟨S_, .i32⟩
  | 41 => ⟨S12582912, .i32⟩
  | 42 => ⟨S12582912, .i32⟩
  | 43 => ⟨S_, .i32⟩
  | 44 => ⟨S12582912, .i32⟩
  | 45 => ⟨S12582912, .i32⟩
  | 46 => ⟨S12582912, .i32⟩
  | 47 => ⟨S12582912, .i32⟩
  | 48 => ⟨S12582912, .i32⟩
  | 49 => ⟨S_, .i32⟩
  | 50 => ⟨S12582912, .i32⟩
  | 51 => ⟨S12582912, .i32⟩
  | 52 => ⟨S_, .i32⟩
  | 53 => ⟨S12582912, .i32⟩
  | 54 => ⟨S12582912, .i32⟩
  | 55 => ⟨S12582912, .i32⟩
  | 56 => ⟨S12582912, .i32⟩
  | 57 => ⟨S12582912, .i32⟩
  | 58 => ⟨S_, .i32⟩
  | 59 => ⟨S12582912, .i32⟩
  | 60 => ⟨S12582912, .i32⟩
  | 61 => ⟨S_, .i32⟩
  | 62 => ⟨S12582912, .i32⟩
  | 63 => ⟨S12582912, .i32⟩
  | 64 => ⟨S12582912, .i32⟩
  | 65 => ⟨S12582912, .i32⟩
  | 66 => ⟨S12582912, .i32⟩
  | 67 => ⟨S12582912, .i32⟩
  | 68 => ⟨S12582912, .i32⟩
  | 69 => ⟨S12582912, .i32⟩
  | 70 => ⟨S_, .i32⟩
  | 71 => ⟨S12582912, .i32⟩
  | 72 => ⟨S12582912, .i32⟩
  | 73 => ⟨S12582912, .i32⟩
  | 74 => ⟨S_, .i32⟩
  | 75 => ⟨S12582912, .i32⟩
  | 76 => ⟨S12582912, .i32⟩
  | 77 => ⟨S_, .i32⟩
  | 78 => ⟨S12582912, .i32⟩
  | 79 => ⟨S12582912, .i32⟩
  | 80 => ⟨S12582912, .i32⟩
  | 81 => ⟨S12582912, .i32⟩
  | 82 => ⟨S12582912, .i32⟩
  | 83 => ⟨S_, .i32⟩
  | 84 => ⟨S12582912, .i32⟩
  | 85 => ⟨S12582912, .i32⟩
  | 86 => ⟨S_, .i32⟩
  | 87 => ⟨S12582912, .i32⟩
  | 88 => ⟨S12582912, .i32⟩
  | 89 => ⟨S12582912, .i32⟩
  | 90 => ⟨S12582912, .i32⟩
  | 91 => ⟨S12582912, .i32⟩
  | 92 => ⟨S_, .i32⟩
  | 93 => ⟨S12582912, .i32⟩
  | 94 => ⟨S12582912, .i32⟩
  | 95 => ⟨S_, .i32⟩
  | 96 => ⟨S12582912, .i32⟩
  | 97 => ⟨S12582912, .i32⟩
  | 98 => ⟨S12582912, .i32⟩
  | 99 => ⟨S12582912, .i32⟩
  | 100 => ⟨S12582912, .i32⟩
  | 101 => ⟨S_, .i32⟩
  | 102 => ⟨S12582912, .i32⟩
  | 103 => ⟨S12582912, .i32⟩
  | 104 => ⟨S_, .i32⟩
  | 105 => ⟨S12582912, .i32⟩
  | 106 => ⟨S12582912, .i32⟩
  | 107 => ⟨S12582912, .i32⟩
  | 108 => ⟨S12582912, .i32⟩
  | 109 => ⟨S12582912, .i32⟩
  | 110 => ⟨S12582912, .i32⟩
  | 111 => ⟨S12582912, .i32⟩
  | 112 => ⟨S12582912, .i32⟩
  | 113 => ⟨S_, .i32⟩
  | 114 => ⟨S12582912, .i32⟩
  | 115 => ⟨S12582912, .i32⟩
  | 116 => ⟨S12582912, .i32⟩
  | 117 => ⟨S_, .i32⟩
  | 118 => ⟨S12582912, .i32⟩
  | 119 => ⟨S12582912, .i32⟩
  | 120 => ⟨S_, .i32⟩
  | 121 => ⟨S12582912, .i32⟩
  | 122 => ⟨S12582912, .i32⟩
  | 123 => ⟨S12582912, .i32⟩
  | 124 => ⟨S12582912, .i32⟩
  | 125 => ⟨S12582912, .i32⟩
  | 126 => ⟨S_, .i32⟩
  | 127 => ⟨S12582912, .i32⟩
  | _ => ⟨S16x3x512x512, .f32⟩

abbrev hbmTy0_7 (i : Nat) : BufTy := match i % 128 with
  | 0 => ⟨S12582912, .i32⟩
  | 1 => ⟨S_, .i32⟩
  | 2 => ⟨S12582912, .i32⟩
  | 3 => ⟨S12582912, .i32⟩
  | 4 => ⟨S12582912, .i32⟩
  | 5 => ⟨S12582912, .i32⟩
  | 6 => ⟨S12582912, .i32⟩
  | 7 => ⟨S_, .i32⟩
  | 8 => ⟨S12582912, .i32⟩
  | 9 => ⟨S12582912, .i32⟩
  | 10 => ⟨S_, .i32⟩
  | 11 => ⟨S12582912, .i32⟩
  | 12 => ⟨S12582912, .i32⟩
  | 13 => ⟨S12582912, .i32⟩
  | 14 => ⟨S12582912, .i32⟩
  | 15 => ⟨S12582912, .i32⟩
  | 16 => ⟨S_, .i32⟩
  | 17 => ⟨S12582912, .i32⟩
  | 18 => ⟨S12582912, .i32⟩
  | 19 => ⟨S_, .i32⟩
  | 20 => ⟨S12582912, .i32⟩
  | 21 => ⟨S12582912, .i32⟩
  | 22 => ⟨S12582912, .i32⟩
  | 23 => ⟨S12582912, .i32⟩
  | 24 => ⟨S12582912, .i32⟩
  | 25 => ⟨S12582912, .i32⟩
  | 26 => ⟨S12582912, .i32⟩
  | 27 => ⟨S12582912, .i32⟩
  | 28 => ⟨S_, .i32⟩
  | 29 => ⟨S12582912, .i32⟩
  | 30 => ⟨S12582912, .i32⟩
  | 31 => ⟨S12582912, .i32⟩
  | 32 => ⟨S_, .i32⟩
  | 33 => ⟨S12582912, .i32⟩
  | 34 => ⟨S12582912, .i32⟩
  | 35 => ⟨S_, .i32⟩
  | 36 => ⟨S12582912, .i32⟩
  | 37 => ⟨S12582912, .i32⟩
  | 38 => ⟨S12582912, .i32⟩
  | 39 => ⟨S12582912, .i32⟩
  | 40 => ⟨S12582912, .i32⟩
  | 41 => ⟨S_, .i32⟩
  | 42 => ⟨S12582912, .i32⟩
  | 43 => ⟨S12582912, .i32⟩
  | 44 => ⟨S_, .i32⟩
  | 45 => ⟨S12582912, .i32⟩
  | 46 => ⟨S12582912, .i32⟩
  | 47 => ⟨S12582912, .i32⟩
  | 48 => ⟨S12582912, .i32⟩
  | 49 => ⟨S12582912, .i32⟩
  | 50 => ⟨S_, .i32⟩
  | 51 => ⟨S12582912, .i32⟩
  | 52 => ⟨S12582912, .i32⟩
  | 53 => ⟨S_, .i32⟩
  | 54 => ⟨S12582912, .i32⟩
  | 55 => ⟨S12582912, .i32⟩
  | 56 => ⟨S12582912, .i32⟩
  | 57 => ⟨S12582912, .i32⟩
  | 58 => ⟨S12582912, .i32⟩
  | 59 => ⟨S_, .i32⟩
  | 60 => ⟨S12582912, .i32⟩
  | 61 => ⟨S12582912, .i32⟩
  | 62 => ⟨S_, .i32⟩
  | 63 => ⟨S12582912, .i32⟩
  | 64 => ⟨S12582912, .i32⟩
  | 65 => ⟨S12582912, .i32⟩
  | 66 => ⟨S12582912, .i32⟩
  | 67 => ⟨S12582912, .i32⟩
  | 68 => ⟨S12582912, .i32⟩
  | 69 => ⟨S12582912, .i32⟩
  | 70 => ⟨S12582912, .i32⟩
  | 71 => ⟨S_, .i32⟩
  | 72 => ⟨S12582912, .i32⟩
  | 73 => ⟨S12582912, .i32⟩
  | 74 => ⟨S12582912, .i32⟩
  | 75 => ⟨S12582912, .i32⟩
  | 76 => ⟨S12582912, .i32⟩
  | 77 => ⟨S1, .i32⟩
  | 78 => ⟨S_, .i32⟩
  | 79 => ⟨S1, .i32⟩
  | 80 => ⟨S_, .i32⟩
  | 81 => ⟨S2, .i64⟩
  | 82 => ⟨S_, .i64⟩
  | 83 => ⟨S2, .i64⟩
  | 84 => ⟨S2, .i64⟩
  | 85 => ⟨S_, .i64⟩
  | 86 => ⟨S2, .i64⟩
  | 87 => ⟨S2, .i64⟩
  | 88 => ⟨S2, .i32⟩
  | 89 => ⟨S2, .i32⟩
  | 90 => ⟨S_, .i32⟩
  | 91 => ⟨S_, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S16x3x512x512, .f32⟩

abbrev hbmTy0_8 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S16x3x512x512, .f32⟩

abbrev hbmTy0_9 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S2x1, .i32⟩
  | 57 => ⟨S2x1, .i32⟩
  | 58 => ⟨S2x2, .i32⟩
  | 59 => ⟨S1x2, .i32⟩
  | 60 => ⟨S2, .i32⟩
  | 61 => ⟨S1x2, .i32⟩
  | 62 => ⟨S2, .i32⟩
  | 63 => ⟨S1, .i32⟩
  | 64 => ⟨S_, .i32⟩
  | 65 => ⟨S1, .i32⟩
  | 66 => ⟨S_, .i32⟩
  | 67 => ⟨S12582912, .i64⟩
  | 68 => ⟨S_, .i64⟩
  | 69 => ⟨S12582912, .i64⟩
  | 70 => ⟨S12582912, .i64⟩
  | 71 => ⟨S_, .i64⟩
  | 72 => ⟨S12582912, .i64⟩
  | 73 => ⟨S12582912, .i64⟩
  | 74 => ⟨S12582912, .i32⟩
  | 75 => ⟨S12582912, .i32⟩
  | 76 => ⟨S_, .i32⟩
  | 77 => ⟨S_, .i32⟩
  | 78 => ⟨S_, .i32⟩
  | 79 => ⟨S12582912, .i32⟩
  | 80 => ⟨S12582912, .i32⟩
  | 81 => ⟨S12582912, .i32⟩
  | 82 => ⟨S12582912, .i32⟩
  | 83 => ⟨S12582912, .i32⟩
  | 84 => ⟨S_, .i32⟩
  | 85 => ⟨S12582912, .i32⟩
  | 86 => ⟨S12582912, .i32⟩
  | 87 => ⟨S_, .i32⟩
  | 88 => ⟨S12582912, .i32⟩
  | 89 => ⟨S12582912, .i32⟩
  | 90 => ⟨S12582912, .i32⟩
  | 91 => ⟨S12582912, .i32⟩
  | 92 => ⟨S12582912, .i32⟩
  | 93 => ⟨S_, .i32⟩
  | 94 => ⟨S12582912, .i32⟩
  | 95 => ⟨S12582912, .i32⟩
  | 96 => ⟨S_, .i32⟩
  | 97 => ⟨S12582912, .i32⟩
  | 98 => ⟨S12582912, .i32⟩
  | 99 => ⟨S12582912, .i32⟩
  | 100 => ⟨S12582912, .i32⟩
  | 101 => ⟨S12582912, .i32⟩
  | 102 => ⟨S_, .i32⟩
  | 103 => ⟨S12582912, .i32⟩
  | 104 => ⟨S12582912, .i32⟩
  | 105 => ⟨S_, .i32⟩
  | 106 => ⟨S12582912, .i32⟩
  | 107 => ⟨S12582912, .i32⟩
  | 108 => ⟨S12582912, .i32⟩
  | 109 => ⟨S12582912, .i32⟩
  | 110 => ⟨S12582912, .i32⟩
  | 111 => ⟨S_, .i32⟩
  | 112 => ⟨S12582912, .i32⟩
  | 113 => ⟨S12582912, .i32⟩
  | 114 => ⟨S_, .i32⟩
  | 115 => ⟨S12582912, .i32⟩
  | 116 => ⟨S12582912, .i32⟩
  | 117 => ⟨S12582912, .i32⟩
  | 118 => ⟨S12582912, .i32⟩
  | 119 => ⟨S12582912, .i32⟩
  | 120 => ⟨S12582912, .i32⟩
  | 121 => ⟨S12582912, .i32⟩
  | 122 => ⟨S12582912, .i32⟩
  | 123 => ⟨S_, .i32⟩
  | 124 => ⟨S12582912, .i32⟩
  | 125 => ⟨S12582912, .i32⟩
  | 126 => ⟨S12582912, .i32⟩
  | 127 => ⟨S_, .i32⟩
  | _ => ⟨S16x3x512x512, .f32⟩

abbrev hbmTy0_10 (i : Nat) : BufTy := match i % 128 with
  | 0 => ⟨S12582912, .i32⟩
  | 1 => ⟨S12582912, .i32⟩
  | 2 => ⟨S_, .i32⟩
  | 3 => ⟨S12582912, .i32⟩
  | 4 => ⟨S12582912, .i32⟩
  | 5 => ⟨S12582912, .i32⟩
  | 6 => ⟨S12582912, .i32⟩
  | 7 => ⟨S12582912, .i32⟩
  | 8 => ⟨S_, .i32⟩
  | 9 => ⟨S12582912, .i32⟩
  | 10 => ⟨S12582912, .i32⟩
  | 11 => ⟨S_, .i32⟩
  | 12 => ⟨S12582912, .i32⟩
  | 13 => ⟨S12582912, .i32⟩
  | 14 => ⟨S12582912, .i32⟩
  | 15 => ⟨S12582912, .i32⟩
  | 16 => ⟨S12582912, .i32⟩
  | 17 => ⟨S_, .i32⟩
  | 18 => ⟨S12582912, .i32⟩
  | 19 => ⟨S12582912, .i32⟩
  | 20 => ⟨S_, .i32⟩
  | 21 => ⟨S12582912, .i32⟩
  | 22 => ⟨S12582912, .i32⟩
  | 23 => ⟨S12582912, .i32⟩
  | 24 => ⟨S12582912, .i32⟩
  | 25 => ⟨S12582912, .i32⟩
  | 26 => ⟨S_, .i32⟩
  | 27 => ⟨S12582912, .i32⟩
  | 28 => ⟨S12582912, .i32⟩
  | 29 => ⟨S_, .i32⟩
  | 30 => ⟨S12582912, .i32⟩
  | 31 => ⟨S12582912, .i32⟩
  | 32 => ⟨S12582912, .i32⟩
  | 33 => ⟨S12582912, .i32⟩
  | 34 => ⟨S12582912, .i32⟩
  | 35 => ⟨S12582912, .i32⟩
  | 36 => ⟨S12582912, .i32⟩
  | 37 => ⟨S12582912, .i32⟩
  | 38 => ⟨S_, .i32⟩
  | 39 => ⟨S12582912, .i32⟩
  | 40 => ⟨S12582912, .i32⟩
  | 41 => ⟨S12582912, .i32⟩
  | 42 => ⟨S_, .i32⟩
  | 43 => ⟨S12582912, .i32⟩
  | 44 => ⟨S12582912, .i32⟩
  | 45 => ⟨S_, .i32⟩
  | 46 => ⟨S12582912, .i32⟩
  | 47 => ⟨S12582912, .i32⟩
  | 48 => ⟨S12582912, .i32⟩
  | 49 => ⟨S12582912, .i32⟩
  | 50 => ⟨S12582912, .i32⟩
  | 51 => ⟨S_, .i32⟩
  | 52 => ⟨S12582912, .i32⟩
  | 53 => ⟨S12582912, .i32⟩
  | 54 => ⟨S_, .i32⟩
  | 55 => ⟨S12582912, .i32⟩
  | 56 => ⟨S12582912, .i32⟩
  | 57 => ⟨S12582912, .i32⟩
  | 58 => ⟨S12582912, .i32⟩
  | 59 => ⟨S12582912, .i32⟩
  | 60 => ⟨S_, .i32⟩
  | 61 => ⟨S12582912, .i32⟩
  | 62 => ⟨S12582912, .i32⟩
  | 63 => ⟨S_, .i32⟩
  | 64 => ⟨S12582912, .i32⟩
  | 65 => ⟨S12582912, .i32⟩
  | 66 => ⟨S12582912, .i32⟩
  | 67 => ⟨S12582912, .i32⟩
  | 68 => ⟨S12582912, .i32⟩
  | 69 => ⟨S_, .i32⟩
  | 70 => ⟨S12582912, .i32⟩
  | 71 => ⟨S12582912, .i32⟩
  | 72 => ⟨S_, .i32⟩
  | 73 => ⟨S12582912, .i32⟩
  | 74 => ⟨S12582912, .i32⟩
  | 75 => ⟨S12582912, .i32⟩
  | 76 => ⟨S12582912, .i32⟩
  | 77 => ⟨S12582912, .i32⟩
  | 78 => ⟨S12582912, .i32⟩
  | 79 => ⟨S12582912, .i32⟩
  | 80 => ⟨S12582912, .i32⟩
  | 81 => ⟨S_, .i32⟩
  | 82 => ⟨S12582912, .i32⟩
  | 83 => ⟨S12582912, .i32⟩
  | 84 => ⟨S12582912, .i32⟩
  | 85 => ⟨S_, .i32⟩
  | 86 => ⟨S12582912, .i32⟩
  | 87 => ⟨S12582912, .i32⟩
  | 88 => ⟨S_, .i32⟩
  | 89 => ⟨S12582912, .i32⟩
  | 90 => ⟨S12582912, .i32⟩
  | 91 => ⟨S12582912, .i32⟩
  | 92 => ⟨S12582912, .i32⟩
  | 93 => ⟨S12582912, .i32⟩
  | 94 => ⟨S_, .i32⟩
  | 95 => ⟨S12582912, .i32⟩
  | 96 => ⟨S12582912, .i32⟩
  | 97 => ⟨S_, .i32⟩
  | 98 => ⟨S12582912, .i32⟩
  | 99 => ⟨S12582912, .i32⟩
  | 100 => ⟨S12582912, .i32⟩
  | 101 => ⟨S12582912, .i32⟩
  | 102 => ⟨S12582912, .i32⟩
  | 103 => ⟨S_, .i32⟩
  | 104 => ⟨S12582912, .i32⟩
  | 105 => ⟨S12582912, .i32⟩
  | 106 => ⟨S_, .i32⟩
  | 107 => ⟨S12582912, .i32⟩
  | 108 => ⟨S12582912, .i32⟩
  | 109 => ⟨S12582912, .i32⟩
  | 110 => ⟨S12582912, .i32⟩
  | 111 => ⟨S12582912, .i32⟩
  | 112 => ⟨S_, .i32⟩
  | 113 => ⟨S12582912, .i32⟩
  | 114 => ⟨S12582912, .i32⟩
  | 115 => ⟨S_, .i32⟩
  | 116 => ⟨S12582912, .i32⟩
  | 117 => ⟨S12582912, .i32⟩
  | 118 => ⟨S12582912, .i32⟩
  | 119 => ⟨S12582912, .i32⟩
  | 120 => ⟨S12582912, .i32⟩
  | 121 => ⟨S12582912, .i32⟩
  | 122 => ⟨S12582912, .i32⟩
  | 123 => ⟨S12582912, .i32⟩
  | 124 => ⟨S_, .i32⟩
  | 125 => ⟨S12582912, .i32⟩
  | 126 => ⟨S12582912, .i32⟩
  | 127 => ⟨S12582912, .i32⟩
  | _ => ⟨S16x3x512x512, .f32⟩

abbrev hbmTy0_11 (i : Nat) : BufTy := match i % 128 with
  | 0 => ⟨S_, .i32⟩
  | 1 => ⟨S12582912, .i32⟩
  | 2 => ⟨S12582912, .i32⟩
  | 3 => ⟨S_, .i32⟩
  | 4 => ⟨S12582912, .i32⟩
  | 5 => ⟨S12582912, .i32⟩
  | 6 => ⟨S12582912, .i32⟩
  | 7 => ⟨S12582912, .i32⟩
  | 8 => ⟨S12582912, .i32⟩
  | 9 => ⟨S_, .i32⟩
  | 10 => ⟨S12582912, .i32⟩
  | 11 => ⟨S12582912, .i32⟩
  | 12 => ⟨S_, .i32⟩
  | 13 => ⟨S12582912, .i32⟩
  | 14 => ⟨S12582912, .i32⟩
  | 15 => ⟨S12582912, .i32⟩
  | 16 => ⟨S12582912, .i32⟩
  | 17 => ⟨S12582912, .i32⟩
  | 18 => ⟨S_, .i32⟩
  | 19 => ⟨S12582912, .i32⟩
  | 20 => ⟨S12582912, .i32⟩
  | 21 => ⟨S_, .i32⟩
  | 22 => ⟨S12582912, .i32⟩
  | 23 => ⟨S12582912, .i32⟩
  | 24 => ⟨S12582912, .i32⟩
  | 25 => ⟨S12582912, .i32⟩
  | 26 => ⟨S12582912, .i32⟩
  | 27 => ⟨S_, .i32⟩
  | 28 => ⟨S12582912, .i32⟩
  | 29 => ⟨S12582912, .i32⟩
  | 30 => ⟨S_, .i32⟩
  | 31 => ⟨S12582912, .i32⟩
  | 32 => ⟨S12582912, .i32⟩
  | 33 => ⟨S12582912, .i32⟩
  | 34 => ⟨S12582912, .i32⟩
  | 35 => ⟨S12582912, .i32⟩
  | 36 => ⟨S12582912, .i32⟩
  | 37 => ⟨S12582912, .i32⟩
  | 38 => ⟨S12582912, .i32⟩
  | 39 => ⟨S_, .i32⟩
  | 40 => ⟨S12582912, .i32⟩
  | 41 => ⟨S12582912, .i32⟩
  | 42 => ⟨S12582912, .i32⟩
  | 43 => ⟨S12582912, .i32⟩
  | 44 => ⟨S12582912, .i32⟩
  | 45 => ⟨S6291456, .i32⟩
  | 46 => ⟨S_, .i8⟩
  | 47 => ⟨S12582912, .i8⟩
  | 48 => ⟨S_, .i32⟩
  | 49 => ⟨S6291456, .i32⟩
  | 50 => ⟨S6291456, .i1⟩
  | 51 => ⟨S_, .i32⟩
  | 52 => ⟨S6291456, .i32⟩
  | 53 => ⟨S6291456, .i32⟩
  | 54 => ⟨S6291456, .i32⟩
  | 55 => ⟨S6291456x1, .i32⟩
  | 56 => ⟨S_, .i8⟩
  | 57 => ⟨S6291456, .i8⟩
  | 58 => ⟨S12582912, .i8⟩
  | 59 => ⟨S12288x1024, .i8⟩
  | 60 => ⟨S12288x1024, .f32⟩
  | 61 => ⟨S12288x1024, .f32⟩
  | 62 => ⟨S1x1, .f32⟩
  | _ => ⟨S16x3x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S16x3x512x512, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .i8⟩
  | .local _ .vmem, ⟨5, _⟩ => ⟨S512x1024, .i8⟩
  | .local _ .smem, ⟨0, _⟩ => ⟨S1x1, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_c : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_c_0 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_call0_v0 : Ref sig .tc := ⟨.hbm, 26, rfl⟩
abbrev main_call0_call0_call0_c : Ref sig .tc := ⟨.hbm, 27, rfl⟩
abbrev main_call0_call0_call0_v1 : Ref sig .tc := ⟨.hbm, 28, rfl⟩
abbrev main_call0_call0_call0_v2 : Ref sig .tc := ⟨.hbm, 29, rfl⟩
abbrev main_call0_call0_call0_v3 : Ref sig .tc := ⟨.hbm, 30, rfl⟩
abbrev main_call0_call0_call0_v4 : Ref sig .tc := ⟨.hbm, 31, rfl⟩
abbrev main_call0_call0_call0_v5 : Ref sig .tc := ⟨.hbm, 32, rfl⟩
abbrev main_call0_call0_call0_v6 : Ref sig .tc := ⟨.hbm, 33, rfl⟩
abbrev main_call0_call0_call0_c_0 : Ref sig .tc := ⟨.hbm, 34, rfl⟩
abbrev main_call0_call0_call0_v7 : Ref sig .tc := ⟨.hbm, 35, rfl⟩
abbrev main_call0_call0_call0_v8 : Ref sig .tc := ⟨.hbm, 36, rfl⟩
abbrev main_call0_call0_call0_c_1 : Ref sig .tc := ⟨.hbm, 37, rfl⟩
abbrev main_call0_call0_call0_v9 : Ref sig .tc := ⟨.hbm, 38, rfl⟩
abbrev main_call0_call0_call0_v10 : Ref sig .tc := ⟨.hbm, 39, rfl⟩
abbrev main_call0_call0_call0_v11 : Ref sig .tc := ⟨.hbm, 40, rfl⟩
abbrev main_call0_call0_call0_v12 : Ref sig .tc := ⟨.hbm, 41, rfl⟩
abbrev main_call0_call0_call0_v13 : Ref sig .tc := ⟨.hbm, 42, rfl⟩
abbrev main_call0_call0_call0_c_2 : Ref sig .tc := ⟨.hbm, 43, rfl⟩
abbrev main_call0_call0_call0_v14 : Ref sig .tc := ⟨.hbm, 44, rfl⟩
abbrev main_call0_call0_call0_v15 : Ref sig .tc := ⟨.hbm, 45, rfl⟩
abbrev main_call0_call0_call0_c_3 : Ref sig .tc := ⟨.hbm, 46, rfl⟩
abbrev main_call0_call0_call0_v16 : Ref sig .tc := ⟨.hbm, 47, rfl⟩
abbrev main_call0_call0_call0_v17 : Ref sig .tc := ⟨.hbm, 48, rfl⟩
abbrev main_call0_call0_call0_v18 : Ref sig .tc := ⟨.hbm, 49, rfl⟩
abbrev main_call0_call0_call0_v19 : Ref sig .tc := ⟨.hbm, 50, rfl⟩
abbrev main_call0_call0_call0_v20 : Ref sig .tc := ⟨.hbm, 51, rfl⟩
abbrev main_call0_call0_call0_c_4 : Ref sig .tc := ⟨.hbm, 52, rfl⟩
abbrev main_call0_call0_call0_v21 : Ref sig .tc := ⟨.hbm, 53, rfl⟩
abbrev main_call0_call0_call0_v22 : Ref sig .tc := ⟨.hbm, 54, rfl⟩
abbrev main_call0_call0_call0_c_5 : Ref sig .tc := ⟨.hbm, 55, rfl⟩
abbrev main_call0_call0_call0_v23 : Ref sig .tc := ⟨.hbm, 56, rfl⟩
abbrev main_call0_call0_call0_v24 : Ref sig .tc := ⟨.hbm, 57, rfl⟩
abbrev main_call0_call0_call0_v25 : Ref sig .tc := ⟨.hbm, 58, rfl⟩
abbrev main_call0_call0_call0_v26 : Ref sig .tc := ⟨.hbm, 59, rfl⟩
abbrev main_call0_call0_call0_v27 : Ref sig .tc := ⟨.hbm, 60, rfl⟩
abbrev main_call0_call0_call0_c_6 : Ref sig .tc := ⟨.hbm, 61, rfl⟩
abbrev main_call0_call0_call0_v28 : Ref sig .tc := ⟨.hbm, 62, rfl⟩
abbrev main_call0_call0_call0_v29 : Ref sig .tc := ⟨.hbm, 63, rfl⟩
abbrev main_call0_call0_call0_c_7 : Ref sig .tc := ⟨.hbm, 64, rfl⟩
abbrev main_call0_call0_call0_v30 : Ref sig .tc := ⟨.hbm, 65, rfl⟩
abbrev main_call0_call0_call0_v31 : Ref sig .tc := ⟨.hbm, 66, rfl⟩
abbrev main_call0_call0_call0_v32 : Ref sig .tc := ⟨.hbm, 67, rfl⟩
abbrev main_call0_call0_call0_v33 : Ref sig .tc := ⟨.hbm, 68, rfl⟩
abbrev main_call0_call0_call0_v34 : Ref sig .tc := ⟨.hbm, 69, rfl⟩
abbrev main_call0_call0_call0_v35 : Ref sig .tc := ⟨.hbm, 70, rfl⟩
abbrev main_call0_call0_call0_v36 : Ref sig .tc := ⟨.hbm, 71, rfl⟩
abbrev main_call0_call0_call0_v37 : Ref sig .tc := ⟨.hbm, 72, rfl⟩
abbrev main_call0_call0_call0_c_8 : Ref sig .tc := ⟨.hbm, 73, rfl⟩
abbrev main_call0_call0_call0_v38 : Ref sig .tc := ⟨.hbm, 74, rfl⟩
abbrev main_call0_call0_call0_v39 : Ref sig .tc := ⟨.hbm, 75, rfl⟩
abbrev main_call0_call0_call0_v40 : Ref sig .tc := ⟨.hbm, 76, rfl⟩
abbrev main_call0_call0_call0_c_9 : Ref sig .tc := ⟨.hbm, 77, rfl⟩
abbrev main_call0_call0_call0_v41 : Ref sig .tc := ⟨.hbm, 78, rfl⟩
abbrev main_call0_call0_call0_v42 : Ref sig .tc := ⟨.hbm, 79, rfl⟩
abbrev main_call0_call0_call0_c_10 : Ref sig .tc := ⟨.hbm, 80, rfl⟩
abbrev main_call0_call0_call0_v43 : Ref sig .tc := ⟨.hbm, 81, rfl⟩
abbrev main_call0_call0_call0_v44 : Ref sig .tc := ⟨.hbm, 82, rfl⟩
abbrev main_call0_call0_call0_v45 : Ref sig .tc := ⟨.hbm, 83, rfl⟩
abbrev main_call0_call0_call0_v46 : Ref sig .tc := ⟨.hbm, 84, rfl⟩
abbrev main_call0_call0_call0_v47 : Ref sig .tc := ⟨.hbm, 85, rfl⟩
abbrev main_call0_call0_call0_c_11 : Ref sig .tc := ⟨.hbm, 86, rfl⟩
abbrev main_call0_call0_call0_v48 : Ref sig .tc := ⟨.hbm, 87, rfl⟩
abbrev main_call0_call0_call0_v49 : Ref sig .tc := ⟨.hbm, 88, rfl⟩
abbrev main_call0_call0_call0_c_12 : Ref sig .tc := ⟨.hbm, 89, rfl⟩
abbrev main_call0_call0_call0_v50 : Ref sig .tc := ⟨.hbm, 90, rfl⟩
abbrev main_call0_call0_call0_v51 : Ref sig .tc := ⟨.hbm, 91, rfl⟩
abbrev main_call0_call0_call0_v52 : Ref sig .tc := ⟨.hbm, 92, rfl⟩
abbrev main_call0_call0_call0_v53 : Ref sig .tc := ⟨.hbm, 93, rfl⟩
abbrev main_call0_call0_call0_v54 : Ref sig .tc := ⟨.hbm, 94, rfl⟩
abbrev main_call0_call0_call0_c_13 : Ref sig .tc := ⟨.hbm, 95, rfl⟩
abbrev main_call0_call0_call0_v55 : Ref sig .tc := ⟨.hbm, 96, rfl⟩
abbrev main_call0_call0_call0_v56 : Ref sig .tc := ⟨.hbm, 97, rfl⟩
abbrev main_call0_call0_call0_c_14 : Ref sig .tc := ⟨.hbm, 98, rfl⟩
abbrev main_call0_call0_call0_v57 : Ref sig .tc := ⟨.hbm, 99, rfl⟩
abbrev main_call0_call0_call0_v58 : Ref sig .tc := ⟨.hbm, 100, rfl⟩
abbrev main_call0_call0_call0_v59 : Ref sig .tc := ⟨.hbm, 101, rfl⟩
abbrev main_call0_call0_call0_v60 : Ref sig .tc := ⟨.hbm, 102, rfl⟩
abbrev main_call0_call0_call0_v61 : Ref sig .tc := ⟨.hbm, 103, rfl⟩
abbrev main_call0_call0_call0_c_15 : Ref sig .tc := ⟨.hbm, 104, rfl⟩
abbrev main_call0_call0_call0_v62 : Ref sig .tc := ⟨.hbm, 105, rfl⟩
abbrev main_call0_call0_call0_v63 : Ref sig .tc := ⟨.hbm, 106, rfl⟩
abbrev main_call0_call0_call0_c_16 : Ref sig .tc := ⟨.hbm, 107, rfl⟩
abbrev main_call0_call0_call0_v64 : Ref sig .tc := ⟨.hbm, 108, rfl⟩
abbrev main_call0_call0_call0_v65 : Ref sig .tc := ⟨.hbm, 109, rfl⟩
abbrev main_call0_call0_call0_v66 : Ref sig .tc := ⟨.hbm, 110, rfl⟩
abbrev main_call0_call0_call0_v67 : Ref sig .tc := ⟨.hbm, 111, rfl⟩
abbrev main_call0_call0_call0_v68 : Ref sig .tc := ⟨.hbm, 112, rfl⟩
abbrev main_call0_call0_call0_v69 : Ref sig .tc := ⟨.hbm, 113, rfl⟩
abbrev main_call0_call0_call0_v70 : Ref sig .tc := ⟨.hbm, 114, rfl⟩
abbrev main_call0_call0_call0_v71 : Ref sig .tc := ⟨.hbm, 115, rfl⟩
abbrev main_call0_call0_call0_c_17 : Ref sig .tc := ⟨.hbm, 116, rfl⟩
abbrev main_call0_call0_call0_v72 : Ref sig .tc := ⟨.hbm, 117, rfl⟩
abbrev main_call0_call0_call0_v73 : Ref sig .tc := ⟨.hbm, 118, rfl⟩
abbrev main_call0_call0_call0_v74 : Ref sig .tc := ⟨.hbm, 119, rfl⟩
abbrev main_call0_call0_call0_c_18 : Ref sig .tc := ⟨.hbm, 120, rfl⟩
abbrev main_call0_call0_call0_v75 : Ref sig .tc := ⟨.hbm, 121, rfl⟩
abbrev main_call0_call0_call0_v76 : Ref sig .tc := ⟨.hbm, 122, rfl⟩
abbrev main_call0_call0_call0_c_19 : Ref sig .tc := ⟨.hbm, 123, rfl⟩
abbrev main_call0_call0_call0_v77 : Ref sig .tc := ⟨.hbm, 124, rfl⟩
abbrev main_call0_call0_call0_v78 : Ref sig .tc := ⟨.hbm, 125, rfl⟩
abbrev main_call0_call0_call0_v79 : Ref sig .tc := ⟨.hbm, 126, rfl⟩
abbrev main_call0_call0_call0_v80 : Ref sig .tc := ⟨.hbm, 127, rfl⟩
abbrev main_call0_call0_call0_v81 : Ref sig .tc := ⟨.hbm, 128, rfl⟩
abbrev main_call0_call0_call0_c_20 : Ref sig .tc := ⟨.hbm, 129, rfl⟩
abbrev main_call0_call0_call0_v82 : Ref sig .tc := ⟨.hbm, 130, rfl⟩
abbrev main_call0_call0_call0_v83 : Ref sig .tc := ⟨.hbm, 131, rfl⟩
abbrev main_call0_call0_call0_c_21 : Ref sig .tc := ⟨.hbm, 132, rfl⟩
abbrev main_call0_call0_call0_v84 : Ref sig .tc := ⟨.hbm, 133, rfl⟩
abbrev main_call0_call0_call0_v85 : Ref sig .tc := ⟨.hbm, 134, rfl⟩
abbrev main_call0_call0_call0_v86 : Ref sig .tc := ⟨.hbm, 135, rfl⟩
abbrev main_call0_call0_call0_v87 : Ref sig .tc := ⟨.hbm, 136, rfl⟩
abbrev main_call0_call0_call0_v88 : Ref sig .tc := ⟨.hbm, 137, rfl⟩
abbrev main_call0_call0_call0_c_22 : Ref sig .tc := ⟨.hbm, 138, rfl⟩
abbrev main_call0_call0_call0_v89 : Ref sig .tc := ⟨.hbm, 139, rfl⟩
abbrev main_call0_call0_call0_v90 : Ref sig .tc := ⟨.hbm, 140, rfl⟩
abbrev main_call0_call0_call0_c_23 : Ref sig .tc := ⟨.hbm, 141, rfl⟩
abbrev main_call0_call0_call0_v91 : Ref sig .tc := ⟨.hbm, 142, rfl⟩
abbrev main_call0_call0_call0_v92 : Ref sig .tc := ⟨.hbm, 143, rfl⟩
abbrev main_call0_call0_call0_v93 : Ref sig .tc := ⟨.hbm, 144, rfl⟩
abbrev main_call0_call0_call0_v94 : Ref sig .tc := ⟨.hbm, 145, rfl⟩
abbrev main_call0_call0_call0_v95 : Ref sig .tc := ⟨.hbm, 146, rfl⟩
abbrev main_call0_call0_call0_c_24 : Ref sig .tc := ⟨.hbm, 147, rfl⟩
abbrev main_call0_call0_call0_v96 : Ref sig .tc := ⟨.hbm, 148, rfl⟩
abbrev main_call0_call0_call0_v97 : Ref sig .tc := ⟨.hbm, 149, rfl⟩
abbrev main_call0_call0_call0_c_25 : Ref sig .tc := ⟨.hbm, 150, rfl⟩
abbrev main_call0_call0_call0_v98 : Ref sig .tc := ⟨.hbm, 151, rfl⟩
abbrev main_call0_call0_call0_v99 : Ref sig .tc := ⟨.hbm, 152, rfl⟩
abbrev main_call0_call0_call0_v100 : Ref sig .tc := ⟨.hbm, 153, rfl⟩
abbrev main_call0_call0_call0_v101 : Ref sig .tc := ⟨.hbm, 154, rfl⟩
abbrev main_call0_call0_call0_v102 : Ref sig .tc := ⟨.hbm, 155, rfl⟩
abbrev main_call0_call0_call0_v103 : Ref sig .tc := ⟨.hbm, 156, rfl⟩
abbrev main_call0_call0_call0_v104 : Ref sig .tc := ⟨.hbm, 157, rfl⟩
abbrev main_call0_call0_call0_v105 : Ref sig .tc := ⟨.hbm, 158, rfl⟩
abbrev main_call0_call0_call0_c_26 : Ref sig .tc := ⟨.hbm, 159, rfl⟩
abbrev main_call0_call0_call0_v106 : Ref sig .tc := ⟨.hbm, 160, rfl⟩
abbrev main_call0_call0_call0_v107 : Ref sig .tc := ⟨.hbm, 161, rfl⟩
abbrev main_call0_call0_call0_v108 : Ref sig .tc := ⟨.hbm, 162, rfl⟩
abbrev main_call0_call0_call0_c_27 : Ref sig .tc := ⟨.hbm, 163, rfl⟩
abbrev main_call0_call0_call0_v109 : Ref sig .tc := ⟨.hbm, 164, rfl⟩
abbrev main_call0_call0_call0_v110 : Ref sig .tc := ⟨.hbm, 165, rfl⟩
abbrev main_call0_call0_call0_c_28 : Ref sig .tc := ⟨.hbm, 166, rfl⟩
abbrev main_call0_call0_call0_v111 : Ref sig .tc := ⟨.hbm, 167, rfl⟩
abbrev main_call0_call0_call0_v112 : Ref sig .tc := ⟨.hbm, 168, rfl⟩
abbrev main_call0_call0_call0_v113 : Ref sig .tc := ⟨.hbm, 169, rfl⟩
abbrev main_call0_call0_call0_v114 : Ref sig .tc := ⟨.hbm, 170, rfl⟩
abbrev main_call0_call0_call0_v115 : Ref sig .tc := ⟨.hbm, 171, rfl⟩
abbrev main_call0_call0_call0_c_29 : Ref sig .tc := ⟨.hbm, 172, rfl⟩
abbrev main_call0_call0_call0_v116 : Ref sig .tc := ⟨.hbm, 173, rfl⟩
abbrev main_call0_call0_call0_v117 : Ref sig .tc := ⟨.hbm, 174, rfl⟩
abbrev main_call0_call0_call0_c_30 : Ref sig .tc := ⟨.hbm, 175, rfl⟩
abbrev main_call0_call0_call0_v118 : Ref sig .tc := ⟨.hbm, 176, rfl⟩
abbrev main_call0_call0_call0_v119 : Ref sig .tc := ⟨.hbm, 177, rfl⟩
abbrev main_call0_call0_call0_v120 : Ref sig .tc := ⟨.hbm, 178, rfl⟩
abbrev main_call0_call0_call0_v121 : Ref sig .tc := ⟨.hbm, 179, rfl⟩
abbrev main_call0_call0_call0_v122 : Ref sig .tc := ⟨.hbm, 180, rfl⟩
abbrev main_call0_call0_call0_c_31 : Ref sig .tc := ⟨.hbm, 181, rfl⟩
abbrev main_call0_call0_call0_v123 : Ref sig .tc := ⟨.hbm, 182, rfl⟩
abbrev main_call0_call0_call0_v124 : Ref sig .tc := ⟨.hbm, 183, rfl⟩
abbrev main_call0_call0_call0_c_32 : Ref sig .tc := ⟨.hbm, 184, rfl⟩
abbrev main_call0_call0_call0_v125 : Ref sig .tc := ⟨.hbm, 185, rfl⟩
abbrev main_call0_call0_call0_v126 : Ref sig .tc := ⟨.hbm, 186, rfl⟩
abbrev main_call0_call0_call0_v127 : Ref sig .tc := ⟨.hbm, 187, rfl⟩
abbrev main_call0_call0_call0_v128 : Ref sig .tc := ⟨.hbm, 188, rfl⟩
abbrev main_call0_call0_call0_v129 : Ref sig .tc := ⟨.hbm, 189, rfl⟩
abbrev main_call0_call0_call0_c_33 : Ref sig .tc := ⟨.hbm, 190, rfl⟩
abbrev main_call0_call0_call0_v130 : Ref sig .tc := ⟨.hbm, 191, rfl⟩
abbrev main_call0_call0_call0_v131 : Ref sig .tc := ⟨.hbm, 192, rfl⟩
abbrev main_call0_call0_call0_c_34 : Ref sig .tc := ⟨.hbm, 193, rfl⟩
abbrev main_call0_call0_call0_v132 : Ref sig .tc := ⟨.hbm, 194, rfl⟩
abbrev main_call0_call0_call0_v133 : Ref sig .tc := ⟨.hbm, 195, rfl⟩
abbrev main_call0_call0_call0_v134 : Ref sig .tc := ⟨.hbm, 196, rfl⟩
abbrev main_call0_call0_call0_v135 : Ref sig .tc := ⟨.hbm, 197, rfl⟩
abbrev main_call0_call0_call0_v136 : Ref sig .tc := ⟨.hbm, 198, rfl⟩
abbrev main_call0_call0_call0_v137 : Ref sig .tc := ⟨.hbm, 199, rfl⟩
abbrev main_call0_call0_call0_v138 : Ref sig .tc := ⟨.hbm, 200, rfl⟩
abbrev main_call0_call0_call0_v139 : Ref sig .tc := ⟨.hbm, 201, rfl⟩
abbrev main_call0_call0_call0_c_35 : Ref sig .tc := ⟨.hbm, 202, rfl⟩
abbrev main_call0_call0_call0_v140 : Ref sig .tc := ⟨.hbm, 203, rfl⟩
abbrev main_call0_call0_call0_v141 : Ref sig .tc := ⟨.hbm, 204, rfl⟩
abbrev main_call0_call0_call0_v142 : Ref sig .tc := ⟨.hbm, 205, rfl⟩
abbrev main_call0_call0_call0_c_36 : Ref sig .tc := ⟨.hbm, 206, rfl⟩
abbrev main_call0_call0_call0_v143 : Ref sig .tc := ⟨.hbm, 207, rfl⟩
abbrev main_call0_call0_call0_v144 : Ref sig .tc := ⟨.hbm, 208, rfl⟩
abbrev main_call0_call0_call0_c_37 : Ref sig .tc := ⟨.hbm, 209, rfl⟩
abbrev main_call0_call0_call0_v145 : Ref sig .tc := ⟨.hbm, 210, rfl⟩
abbrev main_call0_call0_call0_v146 : Ref sig .tc := ⟨.hbm, 211, rfl⟩
abbrev main_call0_call0_call0_v147 : Ref sig .tc := ⟨.hbm, 212, rfl⟩
abbrev main_call0_call0_call0_v148 : Ref sig .tc := ⟨.hbm, 213, rfl⟩
abbrev main_call0_call0_call0_v149 : Ref sig .tc := ⟨.hbm, 214, rfl⟩
abbrev main_call0_call0_call0_c_38 : Ref sig .tc := ⟨.hbm, 215, rfl⟩
abbrev main_call0_call0_call0_v150 : Ref sig .tc := ⟨.hbm, 216, rfl⟩
abbrev main_call0_call0_call0_v151 : Ref sig .tc := ⟨.hbm, 217, rfl⟩
abbrev main_call0_call0_call0_c_39 : Ref sig .tc := ⟨.hbm, 218, rfl⟩
abbrev main_call0_call0_call0_v152 : Ref sig .tc := ⟨.hbm, 219, rfl⟩
abbrev main_call0_call0_call0_v153 : Ref sig .tc := ⟨.hbm, 220, rfl⟩
abbrev main_call0_call0_call0_v154 : Ref sig .tc := ⟨.hbm, 221, rfl⟩
abbrev main_call0_call0_call0_v155 : Ref sig .tc := ⟨.hbm, 222, rfl⟩
abbrev main_call0_call0_call0_v156 : Ref sig .tc := ⟨.hbm, 223, rfl⟩
abbrev main_call0_call0_call0_c_40 : Ref sig .tc := ⟨.hbm, 224, rfl⟩
abbrev main_call0_call0_call0_v157 : Ref sig .tc := ⟨.hbm, 225, rfl⟩
abbrev main_call0_call0_call0_v158 : Ref sig .tc := ⟨.hbm, 226, rfl⟩
abbrev main_call0_call0_call0_c_41 : Ref sig .tc := ⟨.hbm, 227, rfl⟩
abbrev main_call0_call0_call0_v159 : Ref sig .tc := ⟨.hbm, 228, rfl⟩
abbrev main_call0_call0_call0_v160 : Ref sig .tc := ⟨.hbm, 229, rfl⟩
abbrev main_call0_call0_call0_v161 : Ref sig .tc := ⟨.hbm, 230, rfl⟩
abbrev main_call0_call0_call0_v162 : Ref sig .tc := ⟨.hbm, 231, rfl⟩
abbrev main_call0_call0_call0_v163 : Ref sig .tc := ⟨.hbm, 232, rfl⟩
abbrev main_call0_call0_call0_c_42 : Ref sig .tc := ⟨.hbm, 233, rfl⟩
abbrev main_call0_call0_call0_v164 : Ref sig .tc := ⟨.hbm, 234, rfl⟩
abbrev main_call0_call0_call0_v165 : Ref sig .tc := ⟨.hbm, 235, rfl⟩
abbrev main_call0_call0_call0_c_43 : Ref sig .tc := ⟨.hbm, 236, rfl⟩
abbrev main_call0_call0_call0_v166 : Ref sig .tc := ⟨.hbm, 237, rfl⟩
abbrev main_call0_call0_call0_v167 : Ref sig .tc := ⟨.hbm, 238, rfl⟩
abbrev main_call0_call0_call0_v168 : Ref sig .tc := ⟨.hbm, 239, rfl⟩
abbrev main_call0_call0_call0_v169 : Ref sig .tc := ⟨.hbm, 240, rfl⟩
abbrev main_call0_call0_call0_v170 : Ref sig .tc := ⟨.hbm, 241, rfl⟩
abbrev main_call0_call0_v11_0 : Ref sig .tc := ⟨.hbm, 242, rfl⟩
abbrev main_call0_call0_call0_v172 : Ref sig .tc := ⟨.hbm, 243, rfl⟩
abbrev main_call0_call0_call0_v173 : Ref sig .tc := ⟨.hbm, 244, rfl⟩
abbrev main_call0_call0_call0_c_44 : Ref sig .tc := ⟨.hbm, 245, rfl⟩
abbrev main_call0_call0_call0_v174 : Ref sig .tc := ⟨.hbm, 246, rfl⟩
abbrev main_call0_call0_v11_1 : Ref sig .tc := ⟨.hbm, 247, rfl⟩
abbrev main_call0_call0_v12 : Ref sig .tc := ⟨.hbm, 248, rfl⟩
abbrev main_call0_call0_v13 : Ref sig .tc := ⟨.hbm, 249, rfl⟩
abbrev main_call0_v0 : Ref sig .tc := ⟨.hbm, 250, rfl⟩
abbrev main_call0_v1 : Ref sig .tc := ⟨.hbm, 251, rfl⟩
abbrev main_call0_v2 : Ref sig .tc := ⟨.hbm, 252, rfl⟩
abbrev main_call0_v3 : Ref sig .tc := ⟨.hbm, 253, rfl⟩
abbrev main_call0_v4 : Ref sig .tc := ⟨.hbm, 254, rfl⟩
abbrev main_call0_v5 : Ref sig .tc := ⟨.hbm, 255, rfl⟩
abbrev main_call0_v6 : Ref sig .tc := ⟨.hbm, 256, rfl⟩
abbrev main_call0_v7 : Ref sig .tc := ⟨.hbm, 257, rfl⟩
abbrev main_call0_v8 : Ref sig .tc := ⟨.hbm, 258, rfl⟩
abbrev main_call0_v9 : Ref sig .tc := ⟨.hbm, 259, rfl⟩
abbrev main_call0_c : Ref sig .tc := ⟨.hbm, 260, rfl⟩
abbrev main_call0_v10 : Ref sig .tc := ⟨.hbm, 261, rfl⟩
abbrev main_call0_v11 : Ref sig .tc := ⟨.hbm, 262, rfl⟩
abbrev main_call0_c_0 : Ref sig .tc := ⟨.hbm, 263, rfl⟩
abbrev main_call0_v12 : Ref sig .tc := ⟨.hbm, 264, rfl⟩
abbrev main_call0_v13 : Ref sig .tc := ⟨.hbm, 265, rfl⟩
abbrev main_call0_v14 : Ref sig .tc := ⟨.hbm, 266, rfl⟩
abbrev main_call0_v15 : Ref sig .tc := ⟨.hbm, 267, rfl⟩
abbrev main_call0_call1_v0 : Ref sig .tc := ⟨.hbm, 268, rfl⟩
abbrev main_call0_call1_c : Ref sig .tc := ⟨.hbm, 269, rfl⟩
abbrev main_call0_call1_v1 : Ref sig .tc := ⟨.hbm, 270, rfl⟩
abbrev main_call0_call1_v2 : Ref sig .tc := ⟨.hbm, 271, rfl⟩
abbrev main_call0_call1_v3 : Ref sig .tc := ⟨.hbm, 272, rfl⟩
abbrev main_call0_call1_v4 : Ref sig .tc := ⟨.hbm, 273, rfl⟩
abbrev main_call0_call1_v5 : Ref sig .tc := ⟨.hbm, 274, rfl⟩
abbrev main_call0_call1_v6 : Ref sig .tc := ⟨.hbm, 275, rfl⟩
abbrev main_call0_call1_c_0 : Ref sig .tc := ⟨.hbm, 276, rfl⟩
abbrev main_call0_call1_v7 : Ref sig .tc := ⟨.hbm, 277, rfl⟩
abbrev main_call0_call1_v8 : Ref sig .tc := ⟨.hbm, 278, rfl⟩
abbrev main_call0_call1_c_1 : Ref sig .tc := ⟨.hbm, 279, rfl⟩
abbrev main_call0_call1_v9 : Ref sig .tc := ⟨.hbm, 280, rfl⟩
abbrev main_call0_call1_v10 : Ref sig .tc := ⟨.hbm, 281, rfl⟩
abbrev main_call0_call1_v11 : Ref sig .tc := ⟨.hbm, 282, rfl⟩
abbrev main_call0_call1_v12 : Ref sig .tc := ⟨.hbm, 283, rfl⟩
abbrev main_call0_call1_v13 : Ref sig .tc := ⟨.hbm, 284, rfl⟩
abbrev main_call0_call1_c_2 : Ref sig .tc := ⟨.hbm, 285, rfl⟩
abbrev main_call0_call1_v14 : Ref sig .tc := ⟨.hbm, 286, rfl⟩
abbrev main_call0_call1_v15 : Ref sig .tc := ⟨.hbm, 287, rfl⟩
abbrev main_call0_call1_c_3 : Ref sig .tc := ⟨.hbm, 288, rfl⟩
abbrev main_call0_call1_v16 : Ref sig .tc := ⟨.hbm, 289, rfl⟩
abbrev main_call0_call1_v17 : Ref sig .tc := ⟨.hbm, 290, rfl⟩
abbrev main_call0_call1_v18 : Ref sig .tc := ⟨.hbm, 291, rfl⟩
abbrev main_call0_call1_v19 : Ref sig .tc := ⟨.hbm, 292, rfl⟩
abbrev main_call0_call1_v20 : Ref sig .tc := ⟨.hbm, 293, rfl⟩
abbrev main_call0_call1_c_4 : Ref sig .tc := ⟨.hbm, 294, rfl⟩
abbrev main_call0_call1_v21 : Ref sig .tc := ⟨.hbm, 295, rfl⟩
abbrev main_call0_call1_v22 : Ref sig .tc := ⟨.hbm, 296, rfl⟩
abbrev main_call0_call1_c_5 : Ref sig .tc := ⟨.hbm, 297, rfl⟩
abbrev main_call0_call1_v23 : Ref sig .tc := ⟨.hbm, 298, rfl⟩
abbrev main_call0_call1_v24 : Ref sig .tc := ⟨.hbm, 299, rfl⟩
abbrev main_call0_call1_v25 : Ref sig .tc := ⟨.hbm, 300, rfl⟩
abbrev main_call0_call1_v26 : Ref sig .tc := ⟨.hbm, 301, rfl⟩
abbrev main_call0_call1_v27 : Ref sig .tc := ⟨.hbm, 302, rfl⟩
abbrev main_call0_call1_c_6 : Ref sig .tc := ⟨.hbm, 303, rfl⟩
abbrev main_call0_call1_v28 : Ref sig .tc := ⟨.hbm, 304, rfl⟩
abbrev main_call0_call1_v29 : Ref sig .tc := ⟨.hbm, 305, rfl⟩
abbrev main_call0_call1_c_7 : Ref sig .tc := ⟨.hbm, 306, rfl⟩
abbrev main_call0_call1_v30 : Ref sig .tc := ⟨.hbm, 307, rfl⟩
abbrev main_call0_call1_v31 : Ref sig .tc := ⟨.hbm, 308, rfl⟩
abbrev main_call0_call1_v32 : Ref sig .tc := ⟨.hbm, 309, rfl⟩
abbrev main_call0_call1_v33 : Ref sig .tc := ⟨.hbm, 310, rfl⟩
abbrev main_call0_call1_v34 : Ref sig .tc := ⟨.hbm, 311, rfl⟩
abbrev main_call0_call1_v35 : Ref sig .tc := ⟨.hbm, 312, rfl⟩
abbrev main_call0_call1_v36 : Ref sig .tc := ⟨.hbm, 313, rfl⟩
abbrev main_call0_call1_v37 : Ref sig .tc := ⟨.hbm, 314, rfl⟩
abbrev main_call0_call1_c_8 : Ref sig .tc := ⟨.hbm, 315, rfl⟩
abbrev main_call0_call1_v38 : Ref sig .tc := ⟨.hbm, 316, rfl⟩
abbrev main_call0_call1_v39 : Ref sig .tc := ⟨.hbm, 317, rfl⟩
abbrev main_call0_call1_v40 : Ref sig .tc := ⟨.hbm, 318, rfl⟩
abbrev main_call0_call1_c_9 : Ref sig .tc := ⟨.hbm, 319, rfl⟩
abbrev main_call0_call1_v41 : Ref sig .tc := ⟨.hbm, 320, rfl⟩
abbrev main_call0_call1_v42 : Ref sig .tc := ⟨.hbm, 321, rfl⟩
abbrev main_call0_call1_c_10 : Ref sig .tc := ⟨.hbm, 322, rfl⟩
abbrev main_call0_call1_v43 : Ref sig .tc := ⟨.hbm, 323, rfl⟩
abbrev main_call0_call1_v44 : Ref sig .tc := ⟨.hbm, 324, rfl⟩
abbrev main_call0_call1_v45 : Ref sig .tc := ⟨.hbm, 325, rfl⟩
abbrev main_call0_call1_v46 : Ref sig .tc := ⟨.hbm, 326, rfl⟩
abbrev main_call0_call1_v47 : Ref sig .tc := ⟨.hbm, 327, rfl⟩
abbrev main_call0_call1_c_11 : Ref sig .tc := ⟨.hbm, 328, rfl⟩
abbrev main_call0_call1_v48 : Ref sig .tc := ⟨.hbm, 329, rfl⟩
abbrev main_call0_call1_v49 : Ref sig .tc := ⟨.hbm, 330, rfl⟩
abbrev main_call0_call1_c_12 : Ref sig .tc := ⟨.hbm, 331, rfl⟩
abbrev main_call0_call1_v50 : Ref sig .tc := ⟨.hbm, 332, rfl⟩
abbrev main_call0_call1_v51 : Ref sig .tc := ⟨.hbm, 333, rfl⟩
abbrev main_call0_call1_v52 : Ref sig .tc := ⟨.hbm, 334, rfl⟩
abbrev main_call0_call1_v53 : Ref sig .tc := ⟨.hbm, 335, rfl⟩
abbrev main_call0_call1_v54 : Ref sig .tc := ⟨.hbm, 336, rfl⟩
abbrev main_call0_call1_c_13 : Ref sig .tc := ⟨.hbm, 337, rfl⟩
abbrev main_call0_call1_v55 : Ref sig .tc := ⟨.hbm, 338, rfl⟩
abbrev main_call0_call1_v56 : Ref sig .tc := ⟨.hbm, 339, rfl⟩
abbrev main_call0_call1_c_14 : Ref sig .tc := ⟨.hbm, 340, rfl⟩
abbrev main_call0_call1_v57 : Ref sig .tc := ⟨.hbm, 341, rfl⟩
abbrev main_call0_call1_v58 : Ref sig .tc := ⟨.hbm, 342, rfl⟩
abbrev main_call0_call1_v59 : Ref sig .tc := ⟨.hbm, 343, rfl⟩
abbrev main_call0_call1_v60 : Ref sig .tc := ⟨.hbm, 344, rfl⟩
abbrev main_call0_call1_v61 : Ref sig .tc := ⟨.hbm, 345, rfl⟩
abbrev main_call0_call1_c_15 : Ref sig .tc := ⟨.hbm, 346, rfl⟩
abbrev main_call0_call1_v62 : Ref sig .tc := ⟨.hbm, 347, rfl⟩
abbrev main_call0_call1_v63 : Ref sig .tc := ⟨.hbm, 348, rfl⟩
abbrev main_call0_call1_c_16 : Ref sig .tc := ⟨.hbm, 349, rfl⟩
abbrev main_call0_call1_v64 : Ref sig .tc := ⟨.hbm, 350, rfl⟩
abbrev main_call0_call1_v65 : Ref sig .tc := ⟨.hbm, 351, rfl⟩
abbrev main_call0_call1_v66 : Ref sig .tc := ⟨.hbm, 352, rfl⟩
abbrev main_call0_call1_v67 : Ref sig .tc := ⟨.hbm, 353, rfl⟩
abbrev main_call0_call1_v68 : Ref sig .tc := ⟨.hbm, 354, rfl⟩
abbrev main_call0_call1_v69 : Ref sig .tc := ⟨.hbm, 355, rfl⟩
abbrev main_call0_call1_v70 : Ref sig .tc := ⟨.hbm, 356, rfl⟩
abbrev main_call0_call1_v71 : Ref sig .tc := ⟨.hbm, 357, rfl⟩
abbrev main_call0_call1_c_17 : Ref sig .tc := ⟨.hbm, 358, rfl⟩
abbrev main_call0_call1_v72 : Ref sig .tc := ⟨.hbm, 359, rfl⟩
abbrev main_call0_call1_v73 : Ref sig .tc := ⟨.hbm, 360, rfl⟩
abbrev main_call0_call1_v74 : Ref sig .tc := ⟨.hbm, 361, rfl⟩
abbrev main_call0_call1_c_18 : Ref sig .tc := ⟨.hbm, 362, rfl⟩
abbrev main_call0_call1_v75 : Ref sig .tc := ⟨.hbm, 363, rfl⟩
abbrev main_call0_call1_v76 : Ref sig .tc := ⟨.hbm, 364, rfl⟩
abbrev main_call0_call1_c_19 : Ref sig .tc := ⟨.hbm, 365, rfl⟩
abbrev main_call0_call1_v77 : Ref sig .tc := ⟨.hbm, 366, rfl⟩
abbrev main_call0_call1_v78 : Ref sig .tc := ⟨.hbm, 367, rfl⟩
abbrev main_call0_call1_v79 : Ref sig .tc := ⟨.hbm, 368, rfl⟩
abbrev main_call0_call1_v80 : Ref sig .tc := ⟨.hbm, 369, rfl⟩
abbrev main_call0_call1_v81 : Ref sig .tc := ⟨.hbm, 370, rfl⟩
abbrev main_call0_call1_c_20 : Ref sig .tc := ⟨.hbm, 371, rfl⟩
abbrev main_call0_call1_v82 : Ref sig .tc := ⟨.hbm, 372, rfl⟩
abbrev main_call0_call1_v83 : Ref sig .tc := ⟨.hbm, 373, rfl⟩
abbrev main_call0_call1_c_21 : Ref sig .tc := ⟨.hbm, 374, rfl⟩
abbrev main_call0_call1_v84 : Ref sig .tc := ⟨.hbm, 375, rfl⟩
abbrev main_call0_call1_v85 : Ref sig .tc := ⟨.hbm, 376, rfl⟩
abbrev main_call0_call1_v86 : Ref sig .tc := ⟨.hbm, 377, rfl⟩
abbrev main_call0_call1_v87 : Ref sig .tc := ⟨.hbm, 378, rfl⟩
abbrev main_call0_call1_v88 : Ref sig .tc := ⟨.hbm, 379, rfl⟩
abbrev main_call0_call1_c_22 : Ref sig .tc := ⟨.hbm, 380, rfl⟩
abbrev main_call0_call1_v89 : Ref sig .tc := ⟨.hbm, 381, rfl⟩
abbrev main_call0_call1_v90 : Ref sig .tc := ⟨.hbm, 382, rfl⟩
abbrev main_call0_call1_c_23 : Ref sig .tc := ⟨.hbm, 383, rfl⟩
abbrev main_call0_call1_v91 : Ref sig .tc := ⟨.hbm, 384, rfl⟩
abbrev main_call0_call1_v92 : Ref sig .tc := ⟨.hbm, 385, rfl⟩
abbrev main_call0_call1_v93 : Ref sig .tc := ⟨.hbm, 386, rfl⟩
abbrev main_call0_call1_v94 : Ref sig .tc := ⟨.hbm, 387, rfl⟩
abbrev main_call0_call1_v95 : Ref sig .tc := ⟨.hbm, 388, rfl⟩
abbrev main_call0_call1_c_24 : Ref sig .tc := ⟨.hbm, 389, rfl⟩
abbrev main_call0_call1_v96 : Ref sig .tc := ⟨.hbm, 390, rfl⟩
abbrev main_call0_call1_v97 : Ref sig .tc := ⟨.hbm, 391, rfl⟩
abbrev main_call0_call1_c_25 : Ref sig .tc := ⟨.hbm, 392, rfl⟩
abbrev main_call0_call1_v98 : Ref sig .tc := ⟨.hbm, 393, rfl⟩
abbrev main_call0_call1_v99 : Ref sig .tc := ⟨.hbm, 394, rfl⟩
abbrev main_call0_call1_v100 : Ref sig .tc := ⟨.hbm, 395, rfl⟩
abbrev main_call0_call1_v101 : Ref sig .tc := ⟨.hbm, 396, rfl⟩
abbrev main_call0_call1_v102 : Ref sig .tc := ⟨.hbm, 397, rfl⟩
abbrev main_call0_call1_v103 : Ref sig .tc := ⟨.hbm, 398, rfl⟩
abbrev main_call0_call1_v104 : Ref sig .tc := ⟨.hbm, 399, rfl⟩
abbrev main_call0_call1_v105 : Ref sig .tc := ⟨.hbm, 400, rfl⟩
abbrev main_call0_call1_c_26 : Ref sig .tc := ⟨.hbm, 401, rfl⟩
abbrev main_call0_call1_v106 : Ref sig .tc := ⟨.hbm, 402, rfl⟩
abbrev main_call0_call1_v107 : Ref sig .tc := ⟨.hbm, 403, rfl⟩
abbrev main_call0_call1_v108 : Ref sig .tc := ⟨.hbm, 404, rfl⟩
abbrev main_call0_call1_c_27 : Ref sig .tc := ⟨.hbm, 405, rfl⟩
abbrev main_call0_call1_v109 : Ref sig .tc := ⟨.hbm, 406, rfl⟩
abbrev main_call0_call1_v110 : Ref sig .tc := ⟨.hbm, 407, rfl⟩
abbrev main_call0_call1_c_28 : Ref sig .tc := ⟨.hbm, 408, rfl⟩
abbrev main_call0_call1_v111 : Ref sig .tc := ⟨.hbm, 409, rfl⟩
abbrev main_call0_call1_v112 : Ref sig .tc := ⟨.hbm, 410, rfl⟩
abbrev main_call0_call1_v113 : Ref sig .tc := ⟨.hbm, 411, rfl⟩
abbrev main_call0_call1_v114 : Ref sig .tc := ⟨.hbm, 412, rfl⟩
abbrev main_call0_call1_v115 : Ref sig .tc := ⟨.hbm, 413, rfl⟩
abbrev main_call0_call1_c_29 : Ref sig .tc := ⟨.hbm, 414, rfl⟩
abbrev main_call0_call1_v116 : Ref sig .tc := ⟨.hbm, 415, rfl⟩
abbrev main_call0_call1_v117 : Ref sig .tc := ⟨.hbm, 416, rfl⟩
abbrev main_call0_call1_c_30 : Ref sig .tc := ⟨.hbm, 417, rfl⟩
abbrev main_call0_call1_v118 : Ref sig .tc := ⟨.hbm, 418, rfl⟩
abbrev main_call0_call1_v119 : Ref sig .tc := ⟨.hbm, 419, rfl⟩
abbrev main_call0_call1_v120 : Ref sig .tc := ⟨.hbm, 420, rfl⟩
abbrev main_call0_call1_v121 : Ref sig .tc := ⟨.hbm, 421, rfl⟩
abbrev main_call0_call1_v122 : Ref sig .tc := ⟨.hbm, 422, rfl⟩
abbrev main_call0_call1_c_31 : Ref sig .tc := ⟨.hbm, 423, rfl⟩
abbrev main_call0_call1_v123 : Ref sig .tc := ⟨.hbm, 424, rfl⟩
abbrev main_call0_call1_v124 : Ref sig .tc := ⟨.hbm, 425, rfl⟩
abbrev main_call0_call1_c_32 : Ref sig .tc := ⟨.hbm, 426, rfl⟩
abbrev main_call0_call1_v125 : Ref sig .tc := ⟨.hbm, 427, rfl⟩
abbrev main_call0_call1_v126 : Ref sig .tc := ⟨.hbm, 428, rfl⟩
abbrev main_call0_call1_v127 : Ref sig .tc := ⟨.hbm, 429, rfl⟩
abbrev main_call0_call1_v128 : Ref sig .tc := ⟨.hbm, 430, rfl⟩
abbrev main_call0_call1_v129 : Ref sig .tc := ⟨.hbm, 431, rfl⟩
abbrev main_call0_call1_c_33 : Ref sig .tc := ⟨.hbm, 432, rfl⟩
abbrev main_call0_call1_v130 : Ref sig .tc := ⟨.hbm, 433, rfl⟩
abbrev main_call0_call1_v131 : Ref sig .tc := ⟨.hbm, 434, rfl⟩
abbrev main_call0_call1_c_34 : Ref sig .tc := ⟨.hbm, 435, rfl⟩
abbrev main_call0_call1_v132 : Ref sig .tc := ⟨.hbm, 436, rfl⟩
abbrev main_call0_call1_v133 : Ref sig .tc := ⟨.hbm, 437, rfl⟩
abbrev main_call0_call1_v134 : Ref sig .tc := ⟨.hbm, 438, rfl⟩
abbrev main_call0_call1_v135 : Ref sig .tc := ⟨.hbm, 439, rfl⟩
abbrev main_call0_call1_v136 : Ref sig .tc := ⟨.hbm, 440, rfl⟩
abbrev main_call0_call1_v137 : Ref sig .tc := ⟨.hbm, 441, rfl⟩
abbrev main_call0_call1_v138 : Ref sig .tc := ⟨.hbm, 442, rfl⟩
abbrev main_call0_call1_v139 : Ref sig .tc := ⟨.hbm, 443, rfl⟩
abbrev main_call0_call1_c_35 : Ref sig .tc := ⟨.hbm, 444, rfl⟩
abbrev main_call0_call1_v140 : Ref sig .tc := ⟨.hbm, 445, rfl⟩
abbrev main_call0_call1_v141 : Ref sig .tc := ⟨.hbm, 446, rfl⟩
abbrev main_call0_call1_v142 : Ref sig .tc := ⟨.hbm, 447, rfl⟩
abbrev main_call0_call1_c_36 : Ref sig .tc := ⟨.hbm, 448, rfl⟩
abbrev main_call0_call1_v143 : Ref sig .tc := ⟨.hbm, 449, rfl⟩
abbrev main_call0_call1_v144 : Ref sig .tc := ⟨.hbm, 450, rfl⟩
abbrev main_call0_call1_c_37 : Ref sig .tc := ⟨.hbm, 451, rfl⟩
abbrev main_call0_call1_v145 : Ref sig .tc := ⟨.hbm, 452, rfl⟩
abbrev main_call0_call1_v146 : Ref sig .tc := ⟨.hbm, 453, rfl⟩
abbrev main_call0_call1_v147 : Ref sig .tc := ⟨.hbm, 454, rfl⟩
abbrev main_call0_call1_v148 : Ref sig .tc := ⟨.hbm, 455, rfl⟩
abbrev main_call0_call1_v149 : Ref sig .tc := ⟨.hbm, 456, rfl⟩
abbrev main_call0_call1_c_38 : Ref sig .tc := ⟨.hbm, 457, rfl⟩
abbrev main_call0_call1_v150 : Ref sig .tc := ⟨.hbm, 458, rfl⟩
abbrev main_call0_call1_v151 : Ref sig .tc := ⟨.hbm, 459, rfl⟩
abbrev main_call0_call1_c_39 : Ref sig .tc := ⟨.hbm, 460, rfl⟩
abbrev main_call0_call1_v152 : Ref sig .tc := ⟨.hbm, 461, rfl⟩
abbrev main_call0_call1_v153 : Ref sig .tc := ⟨.hbm, 462, rfl⟩
abbrev main_call0_call1_v154 : Ref sig .tc := ⟨.hbm, 463, rfl⟩
abbrev main_call0_call1_v155 : Ref sig .tc := ⟨.hbm, 464, rfl⟩
abbrev main_call0_call1_v156 : Ref sig .tc := ⟨.hbm, 465, rfl⟩
abbrev main_call0_call1_c_40 : Ref sig .tc := ⟨.hbm, 466, rfl⟩
abbrev main_call0_call1_v157 : Ref sig .tc := ⟨.hbm, 467, rfl⟩
abbrev main_call0_call1_v158 : Ref sig .tc := ⟨.hbm, 468, rfl⟩
abbrev main_call0_call1_c_41 : Ref sig .tc := ⟨.hbm, 469, rfl⟩
abbrev main_call0_call1_v159 : Ref sig .tc := ⟨.hbm, 470, rfl⟩
abbrev main_call0_call1_v160 : Ref sig .tc := ⟨.hbm, 471, rfl⟩
abbrev main_call0_call1_v161 : Ref sig .tc := ⟨.hbm, 472, rfl⟩
abbrev main_call0_call1_v162 : Ref sig .tc := ⟨.hbm, 473, rfl⟩
abbrev main_call0_call1_v163 : Ref sig .tc := ⟨.hbm, 474, rfl⟩
abbrev main_call0_call1_c_42 : Ref sig .tc := ⟨.hbm, 475, rfl⟩
abbrev main_call0_call1_v164 : Ref sig .tc := ⟨.hbm, 476, rfl⟩
abbrev main_call0_call1_v165 : Ref sig .tc := ⟨.hbm, 477, rfl⟩
abbrev main_call0_call1_c_43 : Ref sig .tc := ⟨.hbm, 478, rfl⟩
abbrev main_call0_call1_v166 : Ref sig .tc := ⟨.hbm, 479, rfl⟩
abbrev main_call0_call1_v167 : Ref sig .tc := ⟨.hbm, 480, rfl⟩
abbrev main_call0_call1_v168 : Ref sig .tc := ⟨.hbm, 481, rfl⟩
abbrev main_call0_call1_v169 : Ref sig .tc := ⟨.hbm, 482, rfl⟩
abbrev main_call0_call1_v170 : Ref sig .tc := ⟨.hbm, 483, rfl⟩
abbrev main_call0_v16_0 : Ref sig .tc := ⟨.hbm, 484, rfl⟩
abbrev main_call0_call1_v172 : Ref sig .tc := ⟨.hbm, 485, rfl⟩
abbrev main_call0_call1_v173 : Ref sig .tc := ⟨.hbm, 486, rfl⟩
abbrev main_call0_call1_c_44 : Ref sig .tc := ⟨.hbm, 487, rfl⟩
abbrev main_call0_call1_v174 : Ref sig .tc := ⟨.hbm, 488, rfl⟩
abbrev main_call0_v16_1 : Ref sig .tc := ⟨.hbm, 489, rfl⟩
abbrev main_call0_v17 : Ref sig .tc := ⟨.hbm, 490, rfl⟩
abbrev main_call0_v18_0 : Ref sig .tc := ⟨.hbm, 491, rfl⟩
abbrev main_call0_v18_1 : Ref sig .tc := ⟨.hbm, 492, rfl⟩
abbrev main_call0_call2_v0 : Ref sig .tc := ⟨.hbm, 493, rfl⟩
abbrev main_call0_call2_v1 : Ref sig .tc := ⟨.hbm, 494, rfl⟩
abbrev main_call0_call2_v2 : Ref sig .tc := ⟨.hbm, 495, rfl⟩
abbrev main_call0_call2_v3 : Ref sig .tc := ⟨.hbm, 496, rfl⟩
abbrev main_call0_call2_v4 : Ref sig .tc := ⟨.hbm, 497, rfl⟩
abbrev main_call0_call2_c : Ref sig .tc := ⟨.hbm, 498, rfl⟩
abbrev main_call0_call2_v5 : Ref sig .tc := ⟨.hbm, 499, rfl⟩
abbrev main_call0_call2_v6 : Ref sig .tc := ⟨.hbm, 500, rfl⟩
abbrev main_call0_call2_c_0 : Ref sig .tc := ⟨.hbm, 501, rfl⟩
abbrev main_call0_call2_v7 : Ref sig .tc := ⟨.hbm, 502, rfl⟩
abbrev main_call0_call2_v8 : Ref sig .tc := ⟨.hbm, 503, rfl⟩
abbrev main_call0_call2_v9 : Ref sig .tc := ⟨.hbm, 504, rfl⟩
abbrev main_call0_call2_v10 : Ref sig .tc := ⟨.hbm, 505, rfl⟩
abbrev main_call0_call2_call0_v0 : Ref sig .tc := ⟨.hbm, 506, rfl⟩
abbrev main_call0_call2_call0_c : Ref sig .tc := ⟨.hbm, 507, rfl⟩
abbrev main_call0_call2_call0_v1 : Ref sig .tc := ⟨.hbm, 508, rfl⟩
abbrev main_call0_call2_call0_v2 : Ref sig .tc := ⟨.hbm, 509, rfl⟩
abbrev main_call0_call2_call0_v3 : Ref sig .tc := ⟨.hbm, 510, rfl⟩
abbrev main_call0_call2_call0_v4 : Ref sig .tc := ⟨.hbm, 511, rfl⟩
abbrev main_call0_call2_call0_v5 : Ref sig .tc := ⟨.hbm, 512, rfl⟩
abbrev main_call0_call2_call0_v6 : Ref sig .tc := ⟨.hbm, 513, rfl⟩
abbrev main_call0_call2_call0_c_0 : Ref sig .tc := ⟨.hbm, 514, rfl⟩
abbrev main_call0_call2_call0_v7 : Ref sig .tc := ⟨.hbm, 515, rfl⟩
abbrev main_call0_call2_call0_v8 : Ref sig .tc := ⟨.hbm, 516, rfl⟩
abbrev main_call0_call2_call0_c_1 : Ref sig .tc := ⟨.hbm, 517, rfl⟩
abbrev main_call0_call2_call0_v9 : Ref sig .tc := ⟨.hbm, 518, rfl⟩
abbrev main_call0_call2_call0_v10 : Ref sig .tc := ⟨.hbm, 519, rfl⟩
abbrev main_call0_call2_call0_v11 : Ref sig .tc := ⟨.hbm, 520, rfl⟩
abbrev main_call0_call2_call0_v12 : Ref sig .tc := ⟨.hbm, 521, rfl⟩
abbrev main_call0_call2_call0_v13 : Ref sig .tc := ⟨.hbm, 522, rfl⟩
abbrev main_call0_call2_call0_c_2 : Ref sig .tc := ⟨.hbm, 523, rfl⟩
abbrev main_call0_call2_call0_v14 : Ref sig .tc := ⟨.hbm, 524, rfl⟩
abbrev main_call0_call2_call0_v15 : Ref sig .tc := ⟨.hbm, 525, rfl⟩
abbrev main_call0_call2_call0_c_3 : Ref sig .tc := ⟨.hbm, 526, rfl⟩
abbrev main_call0_call2_call0_v16 : Ref sig .tc := ⟨.hbm, 527, rfl⟩
abbrev main_call0_call2_call0_v17 : Ref sig .tc := ⟨.hbm, 528, rfl⟩
abbrev main_call0_call2_call0_v18 : Ref sig .tc := ⟨.hbm, 529, rfl⟩
abbrev main_call0_call2_call0_v19 : Ref sig .tc := ⟨.hbm, 530, rfl⟩
abbrev main_call0_call2_call0_v20 : Ref sig .tc := ⟨.hbm, 531, rfl⟩
abbrev main_call0_call2_call0_c_4 : Ref sig .tc := ⟨.hbm, 532, rfl⟩
abbrev main_call0_call2_call0_v21 : Ref sig .tc := ⟨.hbm, 533, rfl⟩
abbrev main_call0_call2_call0_v22 : Ref sig .tc := ⟨.hbm, 534, rfl⟩
abbrev main_call0_call2_call0_c_5 : Ref sig .tc := ⟨.hbm, 535, rfl⟩
abbrev main_call0_call2_call0_v23 : Ref sig .tc := ⟨.hbm, 536, rfl⟩
abbrev main_call0_call2_call0_v24 : Ref sig .tc := ⟨.hbm, 537, rfl⟩
abbrev main_call0_call2_call0_v25 : Ref sig .tc := ⟨.hbm, 538, rfl⟩
abbrev main_call0_call2_call0_v26 : Ref sig .tc := ⟨.hbm, 539, rfl⟩
abbrev main_call0_call2_call0_v27 : Ref sig .tc := ⟨.hbm, 540, rfl⟩
abbrev main_call0_call2_call0_c_6 : Ref sig .tc := ⟨.hbm, 541, rfl⟩
abbrev main_call0_call2_call0_v28 : Ref sig .tc := ⟨.hbm, 542, rfl⟩
abbrev main_call0_call2_call0_v29 : Ref sig .tc := ⟨.hbm, 543, rfl⟩
abbrev main_call0_call2_call0_c_7 : Ref sig .tc := ⟨.hbm, 544, rfl⟩
abbrev main_call0_call2_call0_v30 : Ref sig .tc := ⟨.hbm, 545, rfl⟩
abbrev main_call0_call2_call0_v31 : Ref sig .tc := ⟨.hbm, 546, rfl⟩
abbrev main_call0_call2_call0_v32 : Ref sig .tc := ⟨.hbm, 547, rfl⟩
abbrev main_call0_call2_call0_v33 : Ref sig .tc := ⟨.hbm, 548, rfl⟩
abbrev main_call0_call2_call0_v34 : Ref sig .tc := ⟨.hbm, 549, rfl⟩
abbrev main_call0_call2_call0_v35 : Ref sig .tc := ⟨.hbm, 550, rfl⟩
abbrev main_call0_call2_call0_v36 : Ref sig .tc := ⟨.hbm, 551, rfl⟩
abbrev main_call0_call2_call0_v37 : Ref sig .tc := ⟨.hbm, 552, rfl⟩
abbrev main_call0_call2_call0_c_8 : Ref sig .tc := ⟨.hbm, 553, rfl⟩
abbrev main_call0_call2_call0_v38 : Ref sig .tc := ⟨.hbm, 554, rfl⟩
abbrev main_call0_call2_call0_v39 : Ref sig .tc := ⟨.hbm, 555, rfl⟩
abbrev main_call0_call2_call0_v40 : Ref sig .tc := ⟨.hbm, 556, rfl⟩
abbrev main_call0_call2_call0_c_9 : Ref sig .tc := ⟨.hbm, 557, rfl⟩
abbrev main_call0_call2_call0_v41 : Ref sig .tc := ⟨.hbm, 558, rfl⟩
abbrev main_call0_call2_call0_v42 : Ref sig .tc := ⟨.hbm, 559, rfl⟩
abbrev main_call0_call2_call0_c_10 : Ref sig .tc := ⟨.hbm, 560, rfl⟩
abbrev main_call0_call2_call0_v43 : Ref sig .tc := ⟨.hbm, 561, rfl⟩
abbrev main_call0_call2_call0_v44 : Ref sig .tc := ⟨.hbm, 562, rfl⟩
abbrev main_call0_call2_call0_v45 : Ref sig .tc := ⟨.hbm, 563, rfl⟩
abbrev main_call0_call2_call0_v46 : Ref sig .tc := ⟨.hbm, 564, rfl⟩
abbrev main_call0_call2_call0_v47 : Ref sig .tc := ⟨.hbm, 565, rfl⟩
abbrev main_call0_call2_call0_c_11 : Ref sig .tc := ⟨.hbm, 566, rfl⟩
abbrev main_call0_call2_call0_v48 : Ref sig .tc := ⟨.hbm, 567, rfl⟩
abbrev main_call0_call2_call0_v49 : Ref sig .tc := ⟨.hbm, 568, rfl⟩
abbrev main_call0_call2_call0_c_12 : Ref sig .tc := ⟨.hbm, 569, rfl⟩
abbrev main_call0_call2_call0_v50 : Ref sig .tc := ⟨.hbm, 570, rfl⟩
abbrev main_call0_call2_call0_v51 : Ref sig .tc := ⟨.hbm, 571, rfl⟩
abbrev main_call0_call2_call0_v52 : Ref sig .tc := ⟨.hbm, 572, rfl⟩
abbrev main_call0_call2_call0_v53 : Ref sig .tc := ⟨.hbm, 573, rfl⟩
abbrev main_call0_call2_call0_v54 : Ref sig .tc := ⟨.hbm, 574, rfl⟩
abbrev main_call0_call2_call0_c_13 : Ref sig .tc := ⟨.hbm, 575, rfl⟩
abbrev main_call0_call2_call0_v55 : Ref sig .tc := ⟨.hbm, 576, rfl⟩
abbrev main_call0_call2_call0_v56 : Ref sig .tc := ⟨.hbm, 577, rfl⟩
abbrev main_call0_call2_call0_c_14 : Ref sig .tc := ⟨.hbm, 578, rfl⟩
abbrev main_call0_call2_call0_v57 : Ref sig .tc := ⟨.hbm, 579, rfl⟩
abbrev main_call0_call2_call0_v58 : Ref sig .tc := ⟨.hbm, 580, rfl⟩
abbrev main_call0_call2_call0_v59 : Ref sig .tc := ⟨.hbm, 581, rfl⟩
abbrev main_call0_call2_call0_v60 : Ref sig .tc := ⟨.hbm, 582, rfl⟩
abbrev main_call0_call2_call0_v61 : Ref sig .tc := ⟨.hbm, 583, rfl⟩
abbrev main_call0_call2_call0_c_15 : Ref sig .tc := ⟨.hbm, 584, rfl⟩
abbrev main_call0_call2_call0_v62 : Ref sig .tc := ⟨.hbm, 585, rfl⟩
abbrev main_call0_call2_call0_v63 : Ref sig .tc := ⟨.hbm, 586, rfl⟩
abbrev main_call0_call2_call0_c_16 : Ref sig .tc := ⟨.hbm, 587, rfl⟩
abbrev main_call0_call2_call0_v64 : Ref sig .tc := ⟨.hbm, 588, rfl⟩
abbrev main_call0_call2_call0_v65 : Ref sig .tc := ⟨.hbm, 589, rfl⟩
abbrev main_call0_call2_call0_v66 : Ref sig .tc := ⟨.hbm, 590, rfl⟩
abbrev main_call0_call2_call0_v67 : Ref sig .tc := ⟨.hbm, 591, rfl⟩
abbrev main_call0_call2_call0_v68 : Ref sig .tc := ⟨.hbm, 592, rfl⟩
abbrev main_call0_call2_call0_v69 : Ref sig .tc := ⟨.hbm, 593, rfl⟩
abbrev main_call0_call2_call0_v70 : Ref sig .tc := ⟨.hbm, 594, rfl⟩
abbrev main_call0_call2_call0_v71 : Ref sig .tc := ⟨.hbm, 595, rfl⟩
abbrev main_call0_call2_call0_c_17 : Ref sig .tc := ⟨.hbm, 596, rfl⟩
abbrev main_call0_call2_call0_v72 : Ref sig .tc := ⟨.hbm, 597, rfl⟩
abbrev main_call0_call2_call0_v73 : Ref sig .tc := ⟨.hbm, 598, rfl⟩
abbrev main_call0_call2_call0_v74 : Ref sig .tc := ⟨.hbm, 599, rfl⟩
abbrev main_call0_call2_call0_c_18 : Ref sig .tc := ⟨.hbm, 600, rfl⟩
abbrev main_call0_call2_call0_v75 : Ref sig .tc := ⟨.hbm, 601, rfl⟩
abbrev main_call0_call2_call0_v76 : Ref sig .tc := ⟨.hbm, 602, rfl⟩
abbrev main_call0_call2_call0_c_19 : Ref sig .tc := ⟨.hbm, 603, rfl⟩
abbrev main_call0_call2_call0_v77 : Ref sig .tc := ⟨.hbm, 604, rfl⟩
abbrev main_call0_call2_call0_v78 : Ref sig .tc := ⟨.hbm, 605, rfl⟩
abbrev main_call0_call2_call0_v79 : Ref sig .tc := ⟨.hbm, 606, rfl⟩
abbrev main_call0_call2_call0_v80 : Ref sig .tc := ⟨.hbm, 607, rfl⟩
abbrev main_call0_call2_call0_v81 : Ref sig .tc := ⟨.hbm, 608, rfl⟩
abbrev main_call0_call2_call0_c_20 : Ref sig .tc := ⟨.hbm, 609, rfl⟩
abbrev main_call0_call2_call0_v82 : Ref sig .tc := ⟨.hbm, 610, rfl⟩
abbrev main_call0_call2_call0_v83 : Ref sig .tc := ⟨.hbm, 611, rfl⟩
abbrev main_call0_call2_call0_c_21 : Ref sig .tc := ⟨.hbm, 612, rfl⟩
abbrev main_call0_call2_call0_v84 : Ref sig .tc := ⟨.hbm, 613, rfl⟩
abbrev main_call0_call2_call0_v85 : Ref sig .tc := ⟨.hbm, 614, rfl⟩
abbrev main_call0_call2_call0_v86 : Ref sig .tc := ⟨.hbm, 615, rfl⟩
abbrev main_call0_call2_call0_v87 : Ref sig .tc := ⟨.hbm, 616, rfl⟩
abbrev main_call0_call2_call0_v88 : Ref sig .tc := ⟨.hbm, 617, rfl⟩
abbrev main_call0_call2_call0_c_22 : Ref sig .tc := ⟨.hbm, 618, rfl⟩
abbrev main_call0_call2_call0_v89 : Ref sig .tc := ⟨.hbm, 619, rfl⟩
abbrev main_call0_call2_call0_v90 : Ref sig .tc := ⟨.hbm, 620, rfl⟩
abbrev main_call0_call2_call0_c_23 : Ref sig .tc := ⟨.hbm, 621, rfl⟩
abbrev main_call0_call2_call0_v91 : Ref sig .tc := ⟨.hbm, 622, rfl⟩
abbrev main_call0_call2_call0_v92 : Ref sig .tc := ⟨.hbm, 623, rfl⟩
abbrev main_call0_call2_call0_v93 : Ref sig .tc := ⟨.hbm, 624, rfl⟩
abbrev main_call0_call2_call0_v94 : Ref sig .tc := ⟨.hbm, 625, rfl⟩
abbrev main_call0_call2_call0_v95 : Ref sig .tc := ⟨.hbm, 626, rfl⟩
abbrev main_call0_call2_call0_c_24 : Ref sig .tc := ⟨.hbm, 627, rfl⟩
abbrev main_call0_call2_call0_v96 : Ref sig .tc := ⟨.hbm, 628, rfl⟩
abbrev main_call0_call2_call0_v97 : Ref sig .tc := ⟨.hbm, 629, rfl⟩
abbrev main_call0_call2_call0_c_25 : Ref sig .tc := ⟨.hbm, 630, rfl⟩
abbrev main_call0_call2_call0_v98 : Ref sig .tc := ⟨.hbm, 631, rfl⟩
abbrev main_call0_call2_call0_v99 : Ref sig .tc := ⟨.hbm, 632, rfl⟩
abbrev main_call0_call2_call0_v100 : Ref sig .tc := ⟨.hbm, 633, rfl⟩
abbrev main_call0_call2_call0_v101 : Ref sig .tc := ⟨.hbm, 634, rfl⟩
abbrev main_call0_call2_call0_v102 : Ref sig .tc := ⟨.hbm, 635, rfl⟩
abbrev main_call0_call2_call0_v103 : Ref sig .tc := ⟨.hbm, 636, rfl⟩
abbrev main_call0_call2_call0_v104 : Ref sig .tc := ⟨.hbm, 637, rfl⟩
abbrev main_call0_call2_call0_v105 : Ref sig .tc := ⟨.hbm, 638, rfl⟩
abbrev main_call0_call2_call0_c_26 : Ref sig .tc := ⟨.hbm, 639, rfl⟩
abbrev main_call0_call2_call0_v106 : Ref sig .tc := ⟨.hbm, 640, rfl⟩
abbrev main_call0_call2_call0_v107 : Ref sig .tc := ⟨.hbm, 641, rfl⟩
abbrev main_call0_call2_call0_v108 : Ref sig .tc := ⟨.hbm, 642, rfl⟩
abbrev main_call0_call2_call0_c_27 : Ref sig .tc := ⟨.hbm, 643, rfl⟩
abbrev main_call0_call2_call0_v109 : Ref sig .tc := ⟨.hbm, 644, rfl⟩
abbrev main_call0_call2_call0_v110 : Ref sig .tc := ⟨.hbm, 645, rfl⟩
abbrev main_call0_call2_call0_c_28 : Ref sig .tc := ⟨.hbm, 646, rfl⟩
abbrev main_call0_call2_call0_v111 : Ref sig .tc := ⟨.hbm, 647, rfl⟩
abbrev main_call0_call2_call0_v112 : Ref sig .tc := ⟨.hbm, 648, rfl⟩
abbrev main_call0_call2_call0_v113 : Ref sig .tc := ⟨.hbm, 649, rfl⟩
abbrev main_call0_call2_call0_v114 : Ref sig .tc := ⟨.hbm, 650, rfl⟩
abbrev main_call0_call2_call0_v115 : Ref sig .tc := ⟨.hbm, 651, rfl⟩
abbrev main_call0_call2_call0_c_29 : Ref sig .tc := ⟨.hbm, 652, rfl⟩
abbrev main_call0_call2_call0_v116 : Ref sig .tc := ⟨.hbm, 653, rfl⟩
abbrev main_call0_call2_call0_v117 : Ref sig .tc := ⟨.hbm, 654, rfl⟩
abbrev main_call0_call2_call0_c_30 : Ref sig .tc := ⟨.hbm, 655, rfl⟩
abbrev main_call0_call2_call0_v118 : Ref sig .tc := ⟨.hbm, 656, rfl⟩
abbrev main_call0_call2_call0_v119 : Ref sig .tc := ⟨.hbm, 657, rfl⟩
abbrev main_call0_call2_call0_v120 : Ref sig .tc := ⟨.hbm, 658, rfl⟩
abbrev main_call0_call2_call0_v121 : Ref sig .tc := ⟨.hbm, 659, rfl⟩
abbrev main_call0_call2_call0_v122 : Ref sig .tc := ⟨.hbm, 660, rfl⟩
abbrev main_call0_call2_call0_c_31 : Ref sig .tc := ⟨.hbm, 661, rfl⟩
abbrev main_call0_call2_call0_v123 : Ref sig .tc := ⟨.hbm, 662, rfl⟩
abbrev main_call0_call2_call0_v124 : Ref sig .tc := ⟨.hbm, 663, rfl⟩
abbrev main_call0_call2_call0_c_32 : Ref sig .tc := ⟨.hbm, 664, rfl⟩
abbrev main_call0_call2_call0_v125 : Ref sig .tc := ⟨.hbm, 665, rfl⟩
abbrev main_call0_call2_call0_v126 : Ref sig .tc := ⟨.hbm, 666, rfl⟩
abbrev main_call0_call2_call0_v127 : Ref sig .tc := ⟨.hbm, 667, rfl⟩
abbrev main_call0_call2_call0_v128 : Ref sig .tc := ⟨.hbm, 668, rfl⟩
abbrev main_call0_call2_call0_v129 : Ref sig .tc := ⟨.hbm, 669, rfl⟩
abbrev main_call0_call2_call0_c_33 : Ref sig .tc := ⟨.hbm, 670, rfl⟩
abbrev main_call0_call2_call0_v130 : Ref sig .tc := ⟨.hbm, 671, rfl⟩
abbrev main_call0_call2_call0_v131 : Ref sig .tc := ⟨.hbm, 672, rfl⟩
abbrev main_call0_call2_call0_c_34 : Ref sig .tc := ⟨.hbm, 673, rfl⟩
abbrev main_call0_call2_call0_v132 : Ref sig .tc := ⟨.hbm, 674, rfl⟩
abbrev main_call0_call2_call0_v133 : Ref sig .tc := ⟨.hbm, 675, rfl⟩
abbrev main_call0_call2_call0_v134 : Ref sig .tc := ⟨.hbm, 676, rfl⟩
abbrev main_call0_call2_call0_v135 : Ref sig .tc := ⟨.hbm, 677, rfl⟩
abbrev main_call0_call2_call0_v136 : Ref sig .tc := ⟨.hbm, 678, rfl⟩
abbrev main_call0_call2_call0_v137 : Ref sig .tc := ⟨.hbm, 679, rfl⟩
abbrev main_call0_call2_call0_v138 : Ref sig .tc := ⟨.hbm, 680, rfl⟩
abbrev main_call0_call2_call0_v139 : Ref sig .tc := ⟨.hbm, 681, rfl⟩
abbrev main_call0_call2_call0_c_35 : Ref sig .tc := ⟨.hbm, 682, rfl⟩
abbrev main_call0_call2_call0_v140 : Ref sig .tc := ⟨.hbm, 683, rfl⟩
abbrev main_call0_call2_call0_v141 : Ref sig .tc := ⟨.hbm, 684, rfl⟩
abbrev main_call0_call2_call0_v142 : Ref sig .tc := ⟨.hbm, 685, rfl⟩
abbrev main_call0_call2_call0_c_36 : Ref sig .tc := ⟨.hbm, 686, rfl⟩
abbrev main_call0_call2_call0_v143 : Ref sig .tc := ⟨.hbm, 687, rfl⟩
abbrev main_call0_call2_call0_v144 : Ref sig .tc := ⟨.hbm, 688, rfl⟩
abbrev main_call0_call2_call0_c_37 : Ref sig .tc := ⟨.hbm, 689, rfl⟩
abbrev main_call0_call2_call0_v145 : Ref sig .tc := ⟨.hbm, 690, rfl⟩
abbrev main_call0_call2_call0_v146 : Ref sig .tc := ⟨.hbm, 691, rfl⟩
abbrev main_call0_call2_call0_v147 : Ref sig .tc := ⟨.hbm, 692, rfl⟩
abbrev main_call0_call2_call0_v148 : Ref sig .tc := ⟨.hbm, 693, rfl⟩
abbrev main_call0_call2_call0_v149 : Ref sig .tc := ⟨.hbm, 694, rfl⟩
abbrev main_call0_call2_call0_c_38 : Ref sig .tc := ⟨.hbm, 695, rfl⟩
abbrev main_call0_call2_call0_v150 : Ref sig .tc := ⟨.hbm, 696, rfl⟩
abbrev main_call0_call2_call0_v151 : Ref sig .tc := ⟨.hbm, 697, rfl⟩
abbrev main_call0_call2_call0_c_39 : Ref sig .tc := ⟨.hbm, 698, rfl⟩
abbrev main_call0_call2_call0_v152 : Ref sig .tc := ⟨.hbm, 699, rfl⟩
abbrev main_call0_call2_call0_v153 : Ref sig .tc := ⟨.hbm, 700, rfl⟩
abbrev main_call0_call2_call0_v154 : Ref sig .tc := ⟨.hbm, 701, rfl⟩
abbrev main_call0_call2_call0_v155 : Ref sig .tc := ⟨.hbm, 702, rfl⟩
abbrev main_call0_call2_call0_v156 : Ref sig .tc := ⟨.hbm, 703, rfl⟩
abbrev main_call0_call2_call0_c_40 : Ref sig .tc := ⟨.hbm, 704, rfl⟩
abbrev main_call0_call2_call0_v157 : Ref sig .tc := ⟨.hbm, 705, rfl⟩
abbrev main_call0_call2_call0_v158 : Ref sig .tc := ⟨.hbm, 706, rfl⟩
abbrev main_call0_call2_call0_c_41 : Ref sig .tc := ⟨.hbm, 707, rfl⟩
abbrev main_call0_call2_call0_v159 : Ref sig .tc := ⟨.hbm, 708, rfl⟩
abbrev main_call0_call2_call0_v160 : Ref sig .tc := ⟨.hbm, 709, rfl⟩
abbrev main_call0_call2_call0_v161 : Ref sig .tc := ⟨.hbm, 710, rfl⟩
abbrev main_call0_call2_call0_v162 : Ref sig .tc := ⟨.hbm, 711, rfl⟩
abbrev main_call0_call2_call0_v163 : Ref sig .tc := ⟨.hbm, 712, rfl⟩
abbrev main_call0_call2_call0_c_42 : Ref sig .tc := ⟨.hbm, 713, rfl⟩
abbrev main_call0_call2_call0_v164 : Ref sig .tc := ⟨.hbm, 714, rfl⟩
abbrev main_call0_call2_call0_v165 : Ref sig .tc := ⟨.hbm, 715, rfl⟩
abbrev main_call0_call2_call0_c_43 : Ref sig .tc := ⟨.hbm, 716, rfl⟩
abbrev main_call0_call2_call0_v166 : Ref sig .tc := ⟨.hbm, 717, rfl⟩
abbrev main_call0_call2_call0_v167 : Ref sig .tc := ⟨.hbm, 718, rfl⟩
abbrev main_call0_call2_call0_v168 : Ref sig .tc := ⟨.hbm, 719, rfl⟩
abbrev main_call0_call2_call0_v169 : Ref sig .tc := ⟨.hbm, 720, rfl⟩
abbrev main_call0_call2_call0_v170 : Ref sig .tc := ⟨.hbm, 721, rfl⟩
abbrev main_call0_call2_v11_0 : Ref sig .tc := ⟨.hbm, 722, rfl⟩
abbrev main_call0_call2_call0_v172 : Ref sig .tc := ⟨.hbm, 723, rfl⟩
abbrev main_call0_call2_call0_v173 : Ref sig .tc := ⟨.hbm, 724, rfl⟩
abbrev main_call0_call2_call0_c_44 : Ref sig .tc := ⟨.hbm, 725, rfl⟩
abbrev main_call0_call2_call0_v174 : Ref sig .tc := ⟨.hbm, 726, rfl⟩
abbrev main_call0_call2_v11_1 : Ref sig .tc := ⟨.hbm, 727, rfl⟩
abbrev main_call0_call2_v12 : Ref sig .tc := ⟨.hbm, 728, rfl⟩
abbrev main_call0_call2_v13 : Ref sig .tc := ⟨.hbm, 729, rfl⟩
abbrev main_call0_v19 : Ref sig .tc := ⟨.hbm, 730, rfl⟩
abbrev main_call0_v20 : Ref sig .tc := ⟨.hbm, 731, rfl⟩
abbrev main_call0_v21 : Ref sig .tc := ⟨.hbm, 732, rfl⟩
abbrev main_call0_v22 : Ref sig .tc := ⟨.hbm, 733, rfl⟩
abbrev main_call0_v23 : Ref sig .tc := ⟨.hbm, 734, rfl⟩
abbrev main_call0_v24 : Ref sig .tc := ⟨.hbm, 735, rfl⟩
abbrev main_call0_v25 : Ref sig .tc := ⟨.hbm, 736, rfl⟩
abbrev main_call0_v26 : Ref sig .tc := ⟨.hbm, 737, rfl⟩
abbrev main_call0_v27 : Ref sig .tc := ⟨.hbm, 738, rfl⟩
abbrev main_call0_v28 : Ref sig .tc := ⟨.hbm, 739, rfl⟩
abbrev main_call0_c_1 : Ref sig .tc := ⟨.hbm, 740, rfl⟩
abbrev main_call0_v29 : Ref sig .tc := ⟨.hbm, 741, rfl⟩
abbrev main_call0_v30 : Ref sig .tc := ⟨.hbm, 742, rfl⟩
abbrev main_call0_c_2 : Ref sig .tc := ⟨.hbm, 743, rfl⟩
abbrev main_call0_v31 : Ref sig .tc := ⟨.hbm, 744, rfl⟩
abbrev main_call0_v32 : Ref sig .tc := ⟨.hbm, 745, rfl⟩
abbrev main_call0_v33 : Ref sig .tc := ⟨.hbm, 746, rfl⟩
abbrev main_call0_v34 : Ref sig .tc := ⟨.hbm, 747, rfl⟩
abbrev main_call0_call3_v0 : Ref sig .tc := ⟨.hbm, 748, rfl⟩
abbrev main_call0_call3_c : Ref sig .tc := ⟨.hbm, 749, rfl⟩
abbrev main_call0_call3_v1 : Ref sig .tc := ⟨.hbm, 750, rfl⟩
abbrev main_call0_call3_v2 : Ref sig .tc := ⟨.hbm, 751, rfl⟩
abbrev main_call0_call3_v3 : Ref sig .tc := ⟨.hbm, 752, rfl⟩
abbrev main_call0_call3_v4 : Ref sig .tc := ⟨.hbm, 753, rfl⟩
abbrev main_call0_call3_v5 : Ref sig .tc := ⟨.hbm, 754, rfl⟩
abbrev main_call0_call3_v6 : Ref sig .tc := ⟨.hbm, 755, rfl⟩
abbrev main_call0_call3_c_0 : Ref sig .tc := ⟨.hbm, 756, rfl⟩
abbrev main_call0_call3_v7 : Ref sig .tc := ⟨.hbm, 757, rfl⟩
abbrev main_call0_call3_v8 : Ref sig .tc := ⟨.hbm, 758, rfl⟩
abbrev main_call0_call3_c_1 : Ref sig .tc := ⟨.hbm, 759, rfl⟩
abbrev main_call0_call3_v9 : Ref sig .tc := ⟨.hbm, 760, rfl⟩
abbrev main_call0_call3_v10 : Ref sig .tc := ⟨.hbm, 761, rfl⟩
abbrev main_call0_call3_v11 : Ref sig .tc := ⟨.hbm, 762, rfl⟩
abbrev main_call0_call3_v12 : Ref sig .tc := ⟨.hbm, 763, rfl⟩
abbrev main_call0_call3_v13 : Ref sig .tc := ⟨.hbm, 764, rfl⟩
abbrev main_call0_call3_c_2 : Ref sig .tc := ⟨.hbm, 765, rfl⟩
abbrev main_call0_call3_v14 : Ref sig .tc := ⟨.hbm, 766, rfl⟩
abbrev main_call0_call3_v15 : Ref sig .tc := ⟨.hbm, 767, rfl⟩
abbrev main_call0_call3_c_3 : Ref sig .tc := ⟨.hbm, 768, rfl⟩
abbrev main_call0_call3_v16 : Ref sig .tc := ⟨.hbm, 769, rfl⟩
abbrev main_call0_call3_v17 : Ref sig .tc := ⟨.hbm, 770, rfl⟩
abbrev main_call0_call3_v18 : Ref sig .tc := ⟨.hbm, 771, rfl⟩
abbrev main_call0_call3_v19 : Ref sig .tc := ⟨.hbm, 772, rfl⟩
abbrev main_call0_call3_v20 : Ref sig .tc := ⟨.hbm, 773, rfl⟩
abbrev main_call0_call3_c_4 : Ref sig .tc := ⟨.hbm, 774, rfl⟩
abbrev main_call0_call3_v21 : Ref sig .tc := ⟨.hbm, 775, rfl⟩
abbrev main_call0_call3_v22 : Ref sig .tc := ⟨.hbm, 776, rfl⟩
abbrev main_call0_call3_c_5 : Ref sig .tc := ⟨.hbm, 777, rfl⟩
abbrev main_call0_call3_v23 : Ref sig .tc := ⟨.hbm, 778, rfl⟩
abbrev main_call0_call3_v24 : Ref sig .tc := ⟨.hbm, 779, rfl⟩
abbrev main_call0_call3_v25 : Ref sig .tc := ⟨.hbm, 780, rfl⟩
abbrev main_call0_call3_v26 : Ref sig .tc := ⟨.hbm, 781, rfl⟩
abbrev main_call0_call3_v27 : Ref sig .tc := ⟨.hbm, 782, rfl⟩
abbrev main_call0_call3_c_6 : Ref sig .tc := ⟨.hbm, 783, rfl⟩
abbrev main_call0_call3_v28 : Ref sig .tc := ⟨.hbm, 784, rfl⟩
abbrev main_call0_call3_v29 : Ref sig .tc := ⟨.hbm, 785, rfl⟩
abbrev main_call0_call3_c_7 : Ref sig .tc := ⟨.hbm, 786, rfl⟩
abbrev main_call0_call3_v30 : Ref sig .tc := ⟨.hbm, 787, rfl⟩
abbrev main_call0_call3_v31 : Ref sig .tc := ⟨.hbm, 788, rfl⟩
abbrev main_call0_call3_v32 : Ref sig .tc := ⟨.hbm, 789, rfl⟩
abbrev main_call0_call3_v33 : Ref sig .tc := ⟨.hbm, 790, rfl⟩
abbrev main_call0_call3_v34 : Ref sig .tc := ⟨.hbm, 791, rfl⟩
abbrev main_call0_call3_v35 : Ref sig .tc := ⟨.hbm, 792, rfl⟩
abbrev main_call0_call3_v36 : Ref sig .tc := ⟨.hbm, 793, rfl⟩
abbrev main_call0_call3_v37 : Ref sig .tc := ⟨.hbm, 794, rfl⟩
abbrev main_call0_call3_c_8 : Ref sig .tc := ⟨.hbm, 795, rfl⟩
abbrev main_call0_call3_v38 : Ref sig .tc := ⟨.hbm, 796, rfl⟩
abbrev main_call0_call3_v39 : Ref sig .tc := ⟨.hbm, 797, rfl⟩
abbrev main_call0_call3_v40 : Ref sig .tc := ⟨.hbm, 798, rfl⟩
abbrev main_call0_call3_c_9 : Ref sig .tc := ⟨.hbm, 799, rfl⟩
abbrev main_call0_call3_v41 : Ref sig .tc := ⟨.hbm, 800, rfl⟩
abbrev main_call0_call3_v42 : Ref sig .tc := ⟨.hbm, 801, rfl⟩
abbrev main_call0_call3_c_10 : Ref sig .tc := ⟨.hbm, 802, rfl⟩
abbrev main_call0_call3_v43 : Ref sig .tc := ⟨.hbm, 803, rfl⟩
abbrev main_call0_call3_v44 : Ref sig .tc := ⟨.hbm, 804, rfl⟩
abbrev main_call0_call3_v45 : Ref sig .tc := ⟨.hbm, 805, rfl⟩
abbrev main_call0_call3_v46 : Ref sig .tc := ⟨.hbm, 806, rfl⟩
abbrev main_call0_call3_v47 : Ref sig .tc := ⟨.hbm, 807, rfl⟩
abbrev main_call0_call3_c_11 : Ref sig .tc := ⟨.hbm, 808, rfl⟩
abbrev main_call0_call3_v48 : Ref sig .tc := ⟨.hbm, 809, rfl⟩
abbrev main_call0_call3_v49 : Ref sig .tc := ⟨.hbm, 810, rfl⟩
abbrev main_call0_call3_c_12 : Ref sig .tc := ⟨.hbm, 811, rfl⟩
abbrev main_call0_call3_v50 : Ref sig .tc := ⟨.hbm, 812, rfl⟩
abbrev main_call0_call3_v51 : Ref sig .tc := ⟨.hbm, 813, rfl⟩
abbrev main_call0_call3_v52 : Ref sig .tc := ⟨.hbm, 814, rfl⟩
abbrev main_call0_call3_v53 : Ref sig .tc := ⟨.hbm, 815, rfl⟩
abbrev main_call0_call3_v54 : Ref sig .tc := ⟨.hbm, 816, rfl⟩
abbrev main_call0_call3_c_13 : Ref sig .tc := ⟨.hbm, 817, rfl⟩
abbrev main_call0_call3_v55 : Ref sig .tc := ⟨.hbm, 818, rfl⟩
abbrev main_call0_call3_v56 : Ref sig .tc := ⟨.hbm, 819, rfl⟩
abbrev main_call0_call3_c_14 : Ref sig .tc := ⟨.hbm, 820, rfl⟩
abbrev main_call0_call3_v57 : Ref sig .tc := ⟨.hbm, 821, rfl⟩
abbrev main_call0_call3_v58 : Ref sig .tc := ⟨.hbm, 822, rfl⟩
abbrev main_call0_call3_v59 : Ref sig .tc := ⟨.hbm, 823, rfl⟩
abbrev main_call0_call3_v60 : Ref sig .tc := ⟨.hbm, 824, rfl⟩
abbrev main_call0_call3_v61 : Ref sig .tc := ⟨.hbm, 825, rfl⟩
abbrev main_call0_call3_c_15 : Ref sig .tc := ⟨.hbm, 826, rfl⟩
abbrev main_call0_call3_v62 : Ref sig .tc := ⟨.hbm, 827, rfl⟩
abbrev main_call0_call3_v63 : Ref sig .tc := ⟨.hbm, 828, rfl⟩
abbrev main_call0_call3_c_16 : Ref sig .tc := ⟨.hbm, 829, rfl⟩
abbrev main_call0_call3_v64 : Ref sig .tc := ⟨.hbm, 830, rfl⟩
abbrev main_call0_call3_v65 : Ref sig .tc := ⟨.hbm, 831, rfl⟩
abbrev main_call0_call3_v66 : Ref sig .tc := ⟨.hbm, 832, rfl⟩
abbrev main_call0_call3_v67 : Ref sig .tc := ⟨.hbm, 833, rfl⟩
abbrev main_call0_call3_v68 : Ref sig .tc := ⟨.hbm, 834, rfl⟩
abbrev main_call0_call3_v69 : Ref sig .tc := ⟨.hbm, 835, rfl⟩
abbrev main_call0_call3_v70 : Ref sig .tc := ⟨.hbm, 836, rfl⟩
abbrev main_call0_call3_v71 : Ref sig .tc := ⟨.hbm, 837, rfl⟩
abbrev main_call0_call3_c_17 : Ref sig .tc := ⟨.hbm, 838, rfl⟩
abbrev main_call0_call3_v72 : Ref sig .tc := ⟨.hbm, 839, rfl⟩
abbrev main_call0_call3_v73 : Ref sig .tc := ⟨.hbm, 840, rfl⟩
abbrev main_call0_call3_v74 : Ref sig .tc := ⟨.hbm, 841, rfl⟩
abbrev main_call0_call3_c_18 : Ref sig .tc := ⟨.hbm, 842, rfl⟩
abbrev main_call0_call3_v75 : Ref sig .tc := ⟨.hbm, 843, rfl⟩
abbrev main_call0_call3_v76 : Ref sig .tc := ⟨.hbm, 844, rfl⟩
abbrev main_call0_call3_c_19 : Ref sig .tc := ⟨.hbm, 845, rfl⟩
abbrev main_call0_call3_v77 : Ref sig .tc := ⟨.hbm, 846, rfl⟩
abbrev main_call0_call3_v78 : Ref sig .tc := ⟨.hbm, 847, rfl⟩
abbrev main_call0_call3_v79 : Ref sig .tc := ⟨.hbm, 848, rfl⟩
abbrev main_call0_call3_v80 : Ref sig .tc := ⟨.hbm, 849, rfl⟩
abbrev main_call0_call3_v81 : Ref sig .tc := ⟨.hbm, 850, rfl⟩
abbrev main_call0_call3_c_20 : Ref sig .tc := ⟨.hbm, 851, rfl⟩
abbrev main_call0_call3_v82 : Ref sig .tc := ⟨.hbm, 852, rfl⟩
abbrev main_call0_call3_v83 : Ref sig .tc := ⟨.hbm, 853, rfl⟩
abbrev main_call0_call3_c_21 : Ref sig .tc := ⟨.hbm, 854, rfl⟩
abbrev main_call0_call3_v84 : Ref sig .tc := ⟨.hbm, 855, rfl⟩
abbrev main_call0_call3_v85 : Ref sig .tc := ⟨.hbm, 856, rfl⟩
abbrev main_call0_call3_v86 : Ref sig .tc := ⟨.hbm, 857, rfl⟩
abbrev main_call0_call3_v87 : Ref sig .tc := ⟨.hbm, 858, rfl⟩
abbrev main_call0_call3_v88 : Ref sig .tc := ⟨.hbm, 859, rfl⟩
abbrev main_call0_call3_c_22 : Ref sig .tc := ⟨.hbm, 860, rfl⟩
abbrev main_call0_call3_v89 : Ref sig .tc := ⟨.hbm, 861, rfl⟩
abbrev main_call0_call3_v90 : Ref sig .tc := ⟨.hbm, 862, rfl⟩
abbrev main_call0_call3_c_23 : Ref sig .tc := ⟨.hbm, 863, rfl⟩
abbrev main_call0_call3_v91 : Ref sig .tc := ⟨.hbm, 864, rfl⟩
abbrev main_call0_call3_v92 : Ref sig .tc := ⟨.hbm, 865, rfl⟩
abbrev main_call0_call3_v93 : Ref sig .tc := ⟨.hbm, 866, rfl⟩
abbrev main_call0_call3_v94 : Ref sig .tc := ⟨.hbm, 867, rfl⟩
abbrev main_call0_call3_v95 : Ref sig .tc := ⟨.hbm, 868, rfl⟩
abbrev main_call0_call3_c_24 : Ref sig .tc := ⟨.hbm, 869, rfl⟩
abbrev main_call0_call3_v96 : Ref sig .tc := ⟨.hbm, 870, rfl⟩
abbrev main_call0_call3_v97 : Ref sig .tc := ⟨.hbm, 871, rfl⟩
abbrev main_call0_call3_c_25 : Ref sig .tc := ⟨.hbm, 872, rfl⟩
abbrev main_call0_call3_v98 : Ref sig .tc := ⟨.hbm, 873, rfl⟩
abbrev main_call0_call3_v99 : Ref sig .tc := ⟨.hbm, 874, rfl⟩
abbrev main_call0_call3_v100 : Ref sig .tc := ⟨.hbm, 875, rfl⟩
abbrev main_call0_call3_v101 : Ref sig .tc := ⟨.hbm, 876, rfl⟩
abbrev main_call0_call3_v102 : Ref sig .tc := ⟨.hbm, 877, rfl⟩
abbrev main_call0_call3_v103 : Ref sig .tc := ⟨.hbm, 878, rfl⟩
abbrev main_call0_call3_v104 : Ref sig .tc := ⟨.hbm, 879, rfl⟩
abbrev main_call0_call3_v105 : Ref sig .tc := ⟨.hbm, 880, rfl⟩
abbrev main_call0_call3_c_26 : Ref sig .tc := ⟨.hbm, 881, rfl⟩
abbrev main_call0_call3_v106 : Ref sig .tc := ⟨.hbm, 882, rfl⟩
abbrev main_call0_call3_v107 : Ref sig .tc := ⟨.hbm, 883, rfl⟩
abbrev main_call0_call3_v108 : Ref sig .tc := ⟨.hbm, 884, rfl⟩
abbrev main_call0_call3_c_27 : Ref sig .tc := ⟨.hbm, 885, rfl⟩
abbrev main_call0_call3_v109 : Ref sig .tc := ⟨.hbm, 886, rfl⟩
abbrev main_call0_call3_v110 : Ref sig .tc := ⟨.hbm, 887, rfl⟩
abbrev main_call0_call3_c_28 : Ref sig .tc := ⟨.hbm, 888, rfl⟩
abbrev main_call0_call3_v111 : Ref sig .tc := ⟨.hbm, 889, rfl⟩
abbrev main_call0_call3_v112 : Ref sig .tc := ⟨.hbm, 890, rfl⟩
abbrev main_call0_call3_v113 : Ref sig .tc := ⟨.hbm, 891, rfl⟩
abbrev main_call0_call3_v114 : Ref sig .tc := ⟨.hbm, 892, rfl⟩
abbrev main_call0_call3_v115 : Ref sig .tc := ⟨.hbm, 893, rfl⟩
abbrev main_call0_call3_c_29 : Ref sig .tc := ⟨.hbm, 894, rfl⟩
abbrev main_call0_call3_v116 : Ref sig .tc := ⟨.hbm, 895, rfl⟩
abbrev main_call0_call3_v117 : Ref sig .tc := ⟨.hbm, 896, rfl⟩
abbrev main_call0_call3_c_30 : Ref sig .tc := ⟨.hbm, 897, rfl⟩
abbrev main_call0_call3_v118 : Ref sig .tc := ⟨.hbm, 898, rfl⟩
abbrev main_call0_call3_v119 : Ref sig .tc := ⟨.hbm, 899, rfl⟩
abbrev main_call0_call3_v120 : Ref sig .tc := ⟨.hbm, 900, rfl⟩
abbrev main_call0_call3_v121 : Ref sig .tc := ⟨.hbm, 901, rfl⟩
abbrev main_call0_call3_v122 : Ref sig .tc := ⟨.hbm, 902, rfl⟩
abbrev main_call0_call3_c_31 : Ref sig .tc := ⟨.hbm, 903, rfl⟩
abbrev main_call0_call3_v123 : Ref sig .tc := ⟨.hbm, 904, rfl⟩
abbrev main_call0_call3_v124 : Ref sig .tc := ⟨.hbm, 905, rfl⟩
abbrev main_call0_call3_c_32 : Ref sig .tc := ⟨.hbm, 906, rfl⟩
abbrev main_call0_call3_v125 : Ref sig .tc := ⟨.hbm, 907, rfl⟩
abbrev main_call0_call3_v126 : Ref sig .tc := ⟨.hbm, 908, rfl⟩
abbrev main_call0_call3_v127 : Ref sig .tc := ⟨.hbm, 909, rfl⟩
abbrev main_call0_call3_v128 : Ref sig .tc := ⟨.hbm, 910, rfl⟩
abbrev main_call0_call3_v129 : Ref sig .tc := ⟨.hbm, 911, rfl⟩
abbrev main_call0_call3_c_33 : Ref sig .tc := ⟨.hbm, 912, rfl⟩
abbrev main_call0_call3_v130 : Ref sig .tc := ⟨.hbm, 913, rfl⟩
abbrev main_call0_call3_v131 : Ref sig .tc := ⟨.hbm, 914, rfl⟩
abbrev main_call0_call3_c_34 : Ref sig .tc := ⟨.hbm, 915, rfl⟩
abbrev main_call0_call3_v132 : Ref sig .tc := ⟨.hbm, 916, rfl⟩
abbrev main_call0_call3_v133 : Ref sig .tc := ⟨.hbm, 917, rfl⟩
abbrev main_call0_call3_v134 : Ref sig .tc := ⟨.hbm, 918, rfl⟩
abbrev main_call0_call3_v135 : Ref sig .tc := ⟨.hbm, 919, rfl⟩
abbrev main_call0_call3_v136 : Ref sig .tc := ⟨.hbm, 920, rfl⟩
abbrev main_call0_call3_v137 : Ref sig .tc := ⟨.hbm, 921, rfl⟩
abbrev main_call0_call3_v138 : Ref sig .tc := ⟨.hbm, 922, rfl⟩
abbrev main_call0_call3_v139 : Ref sig .tc := ⟨.hbm, 923, rfl⟩
abbrev main_call0_call3_c_35 : Ref sig .tc := ⟨.hbm, 924, rfl⟩
abbrev main_call0_call3_v140 : Ref sig .tc := ⟨.hbm, 925, rfl⟩
abbrev main_call0_call3_v141 : Ref sig .tc := ⟨.hbm, 926, rfl⟩
abbrev main_call0_call3_v142 : Ref sig .tc := ⟨.hbm, 927, rfl⟩
abbrev main_call0_call3_c_36 : Ref sig .tc := ⟨.hbm, 928, rfl⟩
abbrev main_call0_call3_v143 : Ref sig .tc := ⟨.hbm, 929, rfl⟩
abbrev main_call0_call3_v144 : Ref sig .tc := ⟨.hbm, 930, rfl⟩
abbrev main_call0_call3_c_37 : Ref sig .tc := ⟨.hbm, 931, rfl⟩
abbrev main_call0_call3_v145 : Ref sig .tc := ⟨.hbm, 932, rfl⟩
abbrev main_call0_call3_v146 : Ref sig .tc := ⟨.hbm, 933, rfl⟩
abbrev main_call0_call3_v147 : Ref sig .tc := ⟨.hbm, 934, rfl⟩
abbrev main_call0_call3_v148 : Ref sig .tc := ⟨.hbm, 935, rfl⟩
abbrev main_call0_call3_v149 : Ref sig .tc := ⟨.hbm, 936, rfl⟩
abbrev main_call0_call3_c_38 : Ref sig .tc := ⟨.hbm, 937, rfl⟩
abbrev main_call0_call3_v150 : Ref sig .tc := ⟨.hbm, 938, rfl⟩
abbrev main_call0_call3_v151 : Ref sig .tc := ⟨.hbm, 939, rfl⟩
abbrev main_call0_call3_c_39 : Ref sig .tc := ⟨.hbm, 940, rfl⟩
abbrev main_call0_call3_v152 : Ref sig .tc := ⟨.hbm, 941, rfl⟩
abbrev main_call0_call3_v153 : Ref sig .tc := ⟨.hbm, 942, rfl⟩
abbrev main_call0_call3_v154 : Ref sig .tc := ⟨.hbm, 943, rfl⟩
abbrev main_call0_call3_v155 : Ref sig .tc := ⟨.hbm, 944, rfl⟩
abbrev main_call0_call3_v156 : Ref sig .tc := ⟨.hbm, 945, rfl⟩
abbrev main_call0_call3_c_40 : Ref sig .tc := ⟨.hbm, 946, rfl⟩
abbrev main_call0_call3_v157 : Ref sig .tc := ⟨.hbm, 947, rfl⟩
abbrev main_call0_call3_v158 : Ref sig .tc := ⟨.hbm, 948, rfl⟩
abbrev main_call0_call3_c_41 : Ref sig .tc := ⟨.hbm, 949, rfl⟩
abbrev main_call0_call3_v159 : Ref sig .tc := ⟨.hbm, 950, rfl⟩
abbrev main_call0_call3_v160 : Ref sig .tc := ⟨.hbm, 951, rfl⟩
abbrev main_call0_call3_v161 : Ref sig .tc := ⟨.hbm, 952, rfl⟩
abbrev main_call0_call3_v162 : Ref sig .tc := ⟨.hbm, 953, rfl⟩
abbrev main_call0_call3_v163 : Ref sig .tc := ⟨.hbm, 954, rfl⟩
abbrev main_call0_call3_c_42 : Ref sig .tc := ⟨.hbm, 955, rfl⟩
abbrev main_call0_call3_v164 : Ref sig .tc := ⟨.hbm, 956, rfl⟩
abbrev main_call0_call3_v165 : Ref sig .tc := ⟨.hbm, 957, rfl⟩
abbrev main_call0_call3_c_43 : Ref sig .tc := ⟨.hbm, 958, rfl⟩
abbrev main_call0_call3_v166 : Ref sig .tc := ⟨.hbm, 959, rfl⟩
abbrev main_call0_call3_v167 : Ref sig .tc := ⟨.hbm, 960, rfl⟩
abbrev main_call0_call3_v168 : Ref sig .tc := ⟨.hbm, 961, rfl⟩
abbrev main_call0_call3_v169 : Ref sig .tc := ⟨.hbm, 962, rfl⟩
abbrev main_call0_call3_v170 : Ref sig .tc := ⟨.hbm, 963, rfl⟩
abbrev main_call0_v35_0 : Ref sig .tc := ⟨.hbm, 964, rfl⟩
abbrev main_call0_call3_v172 : Ref sig .tc := ⟨.hbm, 965, rfl⟩
abbrev main_call0_call3_v173 : Ref sig .tc := ⟨.hbm, 966, rfl⟩
abbrev main_call0_call3_c_44 : Ref sig .tc := ⟨.hbm, 967, rfl⟩
abbrev main_call0_call3_v174 : Ref sig .tc := ⟨.hbm, 968, rfl⟩
abbrev main_call0_v35_1 : Ref sig .tc := ⟨.hbm, 969, rfl⟩
abbrev main_call0_v36 : Ref sig .tc := ⟨.hbm, 970, rfl⟩
abbrev main_call0_v37_0 : Ref sig .tc := ⟨.hbm, 971, rfl⟩
abbrev main_call0_v37_1 : Ref sig .tc := ⟨.hbm, 972, rfl⟩
abbrev main_call0_call4_v0 : Ref sig .tc := ⟨.hbm, 973, rfl⟩
abbrev main_call0_call4_v1 : Ref sig .tc := ⟨.hbm, 974, rfl⟩
abbrev main_call0_call4_v2 : Ref sig .tc := ⟨.hbm, 975, rfl⟩
abbrev main_call0_call4_v3 : Ref sig .tc := ⟨.hbm, 976, rfl⟩
abbrev main_call0_call4_v4 : Ref sig .tc := ⟨.hbm, 977, rfl⟩
abbrev main_call0_call4_c : Ref sig .tc := ⟨.hbm, 978, rfl⟩
abbrev main_call0_call4_v5 : Ref sig .tc := ⟨.hbm, 979, rfl⟩
abbrev main_call0_call4_v6 : Ref sig .tc := ⟨.hbm, 980, rfl⟩
abbrev main_call0_call4_c_0 : Ref sig .tc := ⟨.hbm, 981, rfl⟩
abbrev main_call0_call4_v7 : Ref sig .tc := ⟨.hbm, 982, rfl⟩
abbrev main_call0_call4_v8 : Ref sig .tc := ⟨.hbm, 983, rfl⟩
abbrev main_call0_call4_v9 : Ref sig .tc := ⟨.hbm, 984, rfl⟩
abbrev main_call0_call4_v10 : Ref sig .tc := ⟨.hbm, 985, rfl⟩
abbrev main_call0_call4_call0_v0 : Ref sig .tc := ⟨.hbm, 986, rfl⟩
abbrev main_call0_call4_call0_c : Ref sig .tc := ⟨.hbm, 987, rfl⟩
abbrev main_call0_call4_call0_v1 : Ref sig .tc := ⟨.hbm, 988, rfl⟩
abbrev main_call0_call4_call0_v2 : Ref sig .tc := ⟨.hbm, 989, rfl⟩
abbrev main_call0_call4_call0_v3 : Ref sig .tc := ⟨.hbm, 990, rfl⟩
abbrev main_call0_call4_call0_v4 : Ref sig .tc := ⟨.hbm, 991, rfl⟩
abbrev main_call0_call4_call0_v5 : Ref sig .tc := ⟨.hbm, 992, rfl⟩
abbrev main_call0_call4_call0_v6 : Ref sig .tc := ⟨.hbm, 993, rfl⟩
abbrev main_call0_call4_call0_c_0 : Ref sig .tc := ⟨.hbm, 994, rfl⟩
abbrev main_call0_call4_call0_v7 : Ref sig .tc := ⟨.hbm, 995, rfl⟩
abbrev main_call0_call4_call0_v8 : Ref sig .tc := ⟨.hbm, 996, rfl⟩
abbrev main_call0_call4_call0_c_1 : Ref sig .tc := ⟨.hbm, 997, rfl⟩
abbrev main_call0_call4_call0_v9 : Ref sig .tc := ⟨.hbm, 998, rfl⟩
abbrev main_call0_call4_call0_v10 : Ref sig .tc := ⟨.hbm, 999, rfl⟩
abbrev main_call0_call4_call0_v11 : Ref sig .tc := ⟨.hbm, 1000, rfl⟩
abbrev main_call0_call4_call0_v12 : Ref sig .tc := ⟨.hbm, 1001, rfl⟩
abbrev main_call0_call4_call0_v13 : Ref sig .tc := ⟨.hbm, 1002, rfl⟩
abbrev main_call0_call4_call0_c_2 : Ref sig .tc := ⟨.hbm, 1003, rfl⟩
abbrev main_call0_call4_call0_v14 : Ref sig .tc := ⟨.hbm, 1004, rfl⟩
abbrev main_call0_call4_call0_v15 : Ref sig .tc := ⟨.hbm, 1005, rfl⟩
abbrev main_call0_call4_call0_c_3 : Ref sig .tc := ⟨.hbm, 1006, rfl⟩
abbrev main_call0_call4_call0_v16 : Ref sig .tc := ⟨.hbm, 1007, rfl⟩
abbrev main_call0_call4_call0_v17 : Ref sig .tc := ⟨.hbm, 1008, rfl⟩
abbrev main_call0_call4_call0_v18 : Ref sig .tc := ⟨.hbm, 1009, rfl⟩
abbrev main_call0_call4_call0_v19 : Ref sig .tc := ⟨.hbm, 1010, rfl⟩
abbrev main_call0_call4_call0_v20 : Ref sig .tc := ⟨.hbm, 1011, rfl⟩
abbrev main_call0_call4_call0_c_4 : Ref sig .tc := ⟨.hbm, 1012, rfl⟩
abbrev main_call0_call4_call0_v21 : Ref sig .tc := ⟨.hbm, 1013, rfl⟩
abbrev main_call0_call4_call0_v22 : Ref sig .tc := ⟨.hbm, 1014, rfl⟩
abbrev main_call0_call4_call0_c_5 : Ref sig .tc := ⟨.hbm, 1015, rfl⟩
abbrev main_call0_call4_call0_v23 : Ref sig .tc := ⟨.hbm, 1016, rfl⟩
abbrev main_call0_call4_call0_v24 : Ref sig .tc := ⟨.hbm, 1017, rfl⟩
abbrev main_call0_call4_call0_v25 : Ref sig .tc := ⟨.hbm, 1018, rfl⟩
abbrev main_call0_call4_call0_v26 : Ref sig .tc := ⟨.hbm, 1019, rfl⟩
abbrev main_call0_call4_call0_v27 : Ref sig .tc := ⟨.hbm, 1020, rfl⟩
abbrev main_call0_call4_call0_c_6 : Ref sig .tc := ⟨.hbm, 1021, rfl⟩
abbrev main_call0_call4_call0_v28 : Ref sig .tc := ⟨.hbm, 1022, rfl⟩
abbrev main_call0_call4_call0_v29 : Ref sig .tc := ⟨.hbm, 1023, rfl⟩
abbrev main_call0_call4_call0_c_7 : Ref sig .tc := ⟨.hbm, 1024, rfl⟩
abbrev main_call0_call4_call0_v30 : Ref sig .tc := ⟨.hbm, 1025, rfl⟩
abbrev main_call0_call4_call0_v31 : Ref sig .tc := ⟨.hbm, 1026, rfl⟩
abbrev main_call0_call4_call0_v32 : Ref sig .tc := ⟨.hbm, 1027, rfl⟩
abbrev main_call0_call4_call0_v33 : Ref sig .tc := ⟨.hbm, 1028, rfl⟩
abbrev main_call0_call4_call0_v34 : Ref sig .tc := ⟨.hbm, 1029, rfl⟩
abbrev main_call0_call4_call0_v35 : Ref sig .tc := ⟨.hbm, 1030, rfl⟩
abbrev main_call0_call4_call0_v36 : Ref sig .tc := ⟨.hbm, 1031, rfl⟩
abbrev main_call0_call4_call0_v37 : Ref sig .tc := ⟨.hbm, 1032, rfl⟩
abbrev main_call0_call4_call0_c_8 : Ref sig .tc := ⟨.hbm, 1033, rfl⟩
abbrev main_call0_call4_call0_v38 : Ref sig .tc := ⟨.hbm, 1034, rfl⟩
abbrev main_call0_call4_call0_v39 : Ref sig .tc := ⟨.hbm, 1035, rfl⟩
abbrev main_call0_call4_call0_v40 : Ref sig .tc := ⟨.hbm, 1036, rfl⟩
abbrev main_call0_call4_call0_c_9 : Ref sig .tc := ⟨.hbm, 1037, rfl⟩
abbrev main_call0_call4_call0_v41 : Ref sig .tc := ⟨.hbm, 1038, rfl⟩
abbrev main_call0_call4_call0_v42 : Ref sig .tc := ⟨.hbm, 1039, rfl⟩
abbrev main_call0_call4_call0_c_10 : Ref sig .tc := ⟨.hbm, 1040, rfl⟩
abbrev main_call0_call4_call0_v43 : Ref sig .tc := ⟨.hbm, 1041, rfl⟩
abbrev main_call0_call4_call0_v44 : Ref sig .tc := ⟨.hbm, 1042, rfl⟩
abbrev main_call0_call4_call0_v45 : Ref sig .tc := ⟨.hbm, 1043, rfl⟩
abbrev main_call0_call4_call0_v46 : Ref sig .tc := ⟨.hbm, 1044, rfl⟩
abbrev main_call0_call4_call0_v47 : Ref sig .tc := ⟨.hbm, 1045, rfl⟩
abbrev main_call0_call4_call0_c_11 : Ref sig .tc := ⟨.hbm, 1046, rfl⟩
abbrev main_call0_call4_call0_v48 : Ref sig .tc := ⟨.hbm, 1047, rfl⟩
abbrev main_call0_call4_call0_v49 : Ref sig .tc := ⟨.hbm, 1048, rfl⟩
abbrev main_call0_call4_call0_c_12 : Ref sig .tc := ⟨.hbm, 1049, rfl⟩
abbrev main_call0_call4_call0_v50 : Ref sig .tc := ⟨.hbm, 1050, rfl⟩
abbrev main_call0_call4_call0_v51 : Ref sig .tc := ⟨.hbm, 1051, rfl⟩
abbrev main_call0_call4_call0_v52 : Ref sig .tc := ⟨.hbm, 1052, rfl⟩
abbrev main_call0_call4_call0_v53 : Ref sig .tc := ⟨.hbm, 1053, rfl⟩
abbrev main_call0_call4_call0_v54 : Ref sig .tc := ⟨.hbm, 1054, rfl⟩
abbrev main_call0_call4_call0_c_13 : Ref sig .tc := ⟨.hbm, 1055, rfl⟩
abbrev main_call0_call4_call0_v55 : Ref sig .tc := ⟨.hbm, 1056, rfl⟩
abbrev main_call0_call4_call0_v56 : Ref sig .tc := ⟨.hbm, 1057, rfl⟩
abbrev main_call0_call4_call0_c_14 : Ref sig .tc := ⟨.hbm, 1058, rfl⟩
abbrev main_call0_call4_call0_v57 : Ref sig .tc := ⟨.hbm, 1059, rfl⟩
abbrev main_call0_call4_call0_v58 : Ref sig .tc := ⟨.hbm, 1060, rfl⟩
abbrev main_call0_call4_call0_v59 : Ref sig .tc := ⟨.hbm, 1061, rfl⟩
abbrev main_call0_call4_call0_v60 : Ref sig .tc := ⟨.hbm, 1062, rfl⟩
abbrev main_call0_call4_call0_v61 : Ref sig .tc := ⟨.hbm, 1063, rfl⟩
abbrev main_call0_call4_call0_c_15 : Ref sig .tc := ⟨.hbm, 1064, rfl⟩
abbrev main_call0_call4_call0_v62 : Ref sig .tc := ⟨.hbm, 1065, rfl⟩
abbrev main_call0_call4_call0_v63 : Ref sig .tc := ⟨.hbm, 1066, rfl⟩
abbrev main_call0_call4_call0_c_16 : Ref sig .tc := ⟨.hbm, 1067, rfl⟩
abbrev main_call0_call4_call0_v64 : Ref sig .tc := ⟨.hbm, 1068, rfl⟩
abbrev main_call0_call4_call0_v65 : Ref sig .tc := ⟨.hbm, 1069, rfl⟩
abbrev main_call0_call4_call0_v66 : Ref sig .tc := ⟨.hbm, 1070, rfl⟩
abbrev main_call0_call4_call0_v67 : Ref sig .tc := ⟨.hbm, 1071, rfl⟩
abbrev main_call0_call4_call0_v68 : Ref sig .tc := ⟨.hbm, 1072, rfl⟩
abbrev main_call0_call4_call0_v69 : Ref sig .tc := ⟨.hbm, 1073, rfl⟩
abbrev main_call0_call4_call0_v70 : Ref sig .tc := ⟨.hbm, 1074, rfl⟩
abbrev main_call0_call4_call0_v71 : Ref sig .tc := ⟨.hbm, 1075, rfl⟩
abbrev main_call0_call4_call0_c_17 : Ref sig .tc := ⟨.hbm, 1076, rfl⟩
abbrev main_call0_call4_call0_v72 : Ref sig .tc := ⟨.hbm, 1077, rfl⟩
abbrev main_call0_call4_call0_v73 : Ref sig .tc := ⟨.hbm, 1078, rfl⟩
abbrev main_call0_call4_call0_v74 : Ref sig .tc := ⟨.hbm, 1079, rfl⟩
abbrev main_call0_call4_call0_c_18 : Ref sig .tc := ⟨.hbm, 1080, rfl⟩
abbrev main_call0_call4_call0_v75 : Ref sig .tc := ⟨.hbm, 1081, rfl⟩
abbrev main_call0_call4_call0_v76 : Ref sig .tc := ⟨.hbm, 1082, rfl⟩
abbrev main_call0_call4_call0_c_19 : Ref sig .tc := ⟨.hbm, 1083, rfl⟩
abbrev main_call0_call4_call0_v77 : Ref sig .tc := ⟨.hbm, 1084, rfl⟩
abbrev main_call0_call4_call0_v78 : Ref sig .tc := ⟨.hbm, 1085, rfl⟩
abbrev main_call0_call4_call0_v79 : Ref sig .tc := ⟨.hbm, 1086, rfl⟩
abbrev main_call0_call4_call0_v80 : Ref sig .tc := ⟨.hbm, 1087, rfl⟩
abbrev main_call0_call4_call0_v81 : Ref sig .tc := ⟨.hbm, 1088, rfl⟩
abbrev main_call0_call4_call0_c_20 : Ref sig .tc := ⟨.hbm, 1089, rfl⟩
abbrev main_call0_call4_call0_v82 : Ref sig .tc := ⟨.hbm, 1090, rfl⟩
abbrev main_call0_call4_call0_v83 : Ref sig .tc := ⟨.hbm, 1091, rfl⟩
abbrev main_call0_call4_call0_c_21 : Ref sig .tc := ⟨.hbm, 1092, rfl⟩
abbrev main_call0_call4_call0_v84 : Ref sig .tc := ⟨.hbm, 1093, rfl⟩
abbrev main_call0_call4_call0_v85 : Ref sig .tc := ⟨.hbm, 1094, rfl⟩
abbrev main_call0_call4_call0_v86 : Ref sig .tc := ⟨.hbm, 1095, rfl⟩
abbrev main_call0_call4_call0_v87 : Ref sig .tc := ⟨.hbm, 1096, rfl⟩
abbrev main_call0_call4_call0_v88 : Ref sig .tc := ⟨.hbm, 1097, rfl⟩
abbrev main_call0_call4_call0_c_22 : Ref sig .tc := ⟨.hbm, 1098, rfl⟩
abbrev main_call0_call4_call0_v89 : Ref sig .tc := ⟨.hbm, 1099, rfl⟩
abbrev main_call0_call4_call0_v90 : Ref sig .tc := ⟨.hbm, 1100, rfl⟩
abbrev main_call0_call4_call0_c_23 : Ref sig .tc := ⟨.hbm, 1101, rfl⟩
abbrev main_call0_call4_call0_v91 : Ref sig .tc := ⟨.hbm, 1102, rfl⟩
abbrev main_call0_call4_call0_v92 : Ref sig .tc := ⟨.hbm, 1103, rfl⟩
abbrev main_call0_call4_call0_v93 : Ref sig .tc := ⟨.hbm, 1104, rfl⟩
abbrev main_call0_call4_call0_v94 : Ref sig .tc := ⟨.hbm, 1105, rfl⟩
abbrev main_call0_call4_call0_v95 : Ref sig .tc := ⟨.hbm, 1106, rfl⟩
abbrev main_call0_call4_call0_c_24 : Ref sig .tc := ⟨.hbm, 1107, rfl⟩
abbrev main_call0_call4_call0_v96 : Ref sig .tc := ⟨.hbm, 1108, rfl⟩
abbrev main_call0_call4_call0_v97 : Ref sig .tc := ⟨.hbm, 1109, rfl⟩
abbrev main_call0_call4_call0_c_25 : Ref sig .tc := ⟨.hbm, 1110, rfl⟩
abbrev main_call0_call4_call0_v98 : Ref sig .tc := ⟨.hbm, 1111, rfl⟩
abbrev main_call0_call4_call0_v99 : Ref sig .tc := ⟨.hbm, 1112, rfl⟩
abbrev main_call0_call4_call0_v100 : Ref sig .tc := ⟨.hbm, 1113, rfl⟩
abbrev main_call0_call4_call0_v101 : Ref sig .tc := ⟨.hbm, 1114, rfl⟩
abbrev main_call0_call4_call0_v102 : Ref sig .tc := ⟨.hbm, 1115, rfl⟩
abbrev main_call0_call4_call0_v103 : Ref sig .tc := ⟨.hbm, 1116, rfl⟩
abbrev main_call0_call4_call0_v104 : Ref sig .tc := ⟨.hbm, 1117, rfl⟩
abbrev main_call0_call4_call0_v105 : Ref sig .tc := ⟨.hbm, 1118, rfl⟩
abbrev main_call0_call4_call0_c_26 : Ref sig .tc := ⟨.hbm, 1119, rfl⟩
abbrev main_call0_call4_call0_v106 : Ref sig .tc := ⟨.hbm, 1120, rfl⟩
abbrev main_call0_call4_call0_v107 : Ref sig .tc := ⟨.hbm, 1121, rfl⟩
abbrev main_call0_call4_call0_v108 : Ref sig .tc := ⟨.hbm, 1122, rfl⟩
abbrev main_call0_call4_call0_c_27 : Ref sig .tc := ⟨.hbm, 1123, rfl⟩
abbrev main_call0_call4_call0_v109 : Ref sig .tc := ⟨.hbm, 1124, rfl⟩
abbrev main_call0_call4_call0_v110 : Ref sig .tc := ⟨.hbm, 1125, rfl⟩
abbrev main_call0_call4_call0_c_28 : Ref sig .tc := ⟨.hbm, 1126, rfl⟩
abbrev main_call0_call4_call0_v111 : Ref sig .tc := ⟨.hbm, 1127, rfl⟩
abbrev main_call0_call4_call0_v112 : Ref sig .tc := ⟨.hbm, 1128, rfl⟩
abbrev main_call0_call4_call0_v113 : Ref sig .tc := ⟨.hbm, 1129, rfl⟩
abbrev main_call0_call4_call0_v114 : Ref sig .tc := ⟨.hbm, 1130, rfl⟩
abbrev main_call0_call4_call0_v115 : Ref sig .tc := ⟨.hbm, 1131, rfl⟩
abbrev main_call0_call4_call0_c_29 : Ref sig .tc := ⟨.hbm, 1132, rfl⟩
abbrev main_call0_call4_call0_v116 : Ref sig .tc := ⟨.hbm, 1133, rfl⟩
abbrev main_call0_call4_call0_v117 : Ref sig .tc := ⟨.hbm, 1134, rfl⟩
abbrev main_call0_call4_call0_c_30 : Ref sig .tc := ⟨.hbm, 1135, rfl⟩
abbrev main_call0_call4_call0_v118 : Ref sig .tc := ⟨.hbm, 1136, rfl⟩
abbrev main_call0_call4_call0_v119 : Ref sig .tc := ⟨.hbm, 1137, rfl⟩
abbrev main_call0_call4_call0_v120 : Ref sig .tc := ⟨.hbm, 1138, rfl⟩
abbrev main_call0_call4_call0_v121 : Ref sig .tc := ⟨.hbm, 1139, rfl⟩
abbrev main_call0_call4_call0_v122 : Ref sig .tc := ⟨.hbm, 1140, rfl⟩
abbrev main_call0_call4_call0_c_31 : Ref sig .tc := ⟨.hbm, 1141, rfl⟩
abbrev main_call0_call4_call0_v123 : Ref sig .tc := ⟨.hbm, 1142, rfl⟩
abbrev main_call0_call4_call0_v124 : Ref sig .tc := ⟨.hbm, 1143, rfl⟩
abbrev main_call0_call4_call0_c_32 : Ref sig .tc := ⟨.hbm, 1144, rfl⟩
abbrev main_call0_call4_call0_v125 : Ref sig .tc := ⟨.hbm, 1145, rfl⟩
abbrev main_call0_call4_call0_v126 : Ref sig .tc := ⟨.hbm, 1146, rfl⟩
abbrev main_call0_call4_call0_v127 : Ref sig .tc := ⟨.hbm, 1147, rfl⟩
abbrev main_call0_call4_call0_v128 : Ref sig .tc := ⟨.hbm, 1148, rfl⟩
abbrev main_call0_call4_call0_v129 : Ref sig .tc := ⟨.hbm, 1149, rfl⟩
abbrev main_call0_call4_call0_c_33 : Ref sig .tc := ⟨.hbm, 1150, rfl⟩
abbrev main_call0_call4_call0_v130 : Ref sig .tc := ⟨.hbm, 1151, rfl⟩
abbrev main_call0_call4_call0_v131 : Ref sig .tc := ⟨.hbm, 1152, rfl⟩
abbrev main_call0_call4_call0_c_34 : Ref sig .tc := ⟨.hbm, 1153, rfl⟩
abbrev main_call0_call4_call0_v132 : Ref sig .tc := ⟨.hbm, 1154, rfl⟩
abbrev main_call0_call4_call0_v133 : Ref sig .tc := ⟨.hbm, 1155, rfl⟩
abbrev main_call0_call4_call0_v134 : Ref sig .tc := ⟨.hbm, 1156, rfl⟩
abbrev main_call0_call4_call0_v135 : Ref sig .tc := ⟨.hbm, 1157, rfl⟩
abbrev main_call0_call4_call0_v136 : Ref sig .tc := ⟨.hbm, 1158, rfl⟩
abbrev main_call0_call4_call0_v137 : Ref sig .tc := ⟨.hbm, 1159, rfl⟩
abbrev main_call0_call4_call0_v138 : Ref sig .tc := ⟨.hbm, 1160, rfl⟩
abbrev main_call0_call4_call0_v139 : Ref sig .tc := ⟨.hbm, 1161, rfl⟩
abbrev main_call0_call4_call0_c_35 : Ref sig .tc := ⟨.hbm, 1162, rfl⟩
abbrev main_call0_call4_call0_v140 : Ref sig .tc := ⟨.hbm, 1163, rfl⟩
abbrev main_call0_call4_call0_v141 : Ref sig .tc := ⟨.hbm, 1164, rfl⟩
abbrev main_call0_call4_call0_v142 : Ref sig .tc := ⟨.hbm, 1165, rfl⟩
abbrev main_call0_call4_call0_c_36 : Ref sig .tc := ⟨.hbm, 1166, rfl⟩
abbrev main_call0_call4_call0_v143 : Ref sig .tc := ⟨.hbm, 1167, rfl⟩
abbrev main_call0_call4_call0_v144 : Ref sig .tc := ⟨.hbm, 1168, rfl⟩
abbrev main_call0_call4_call0_c_37 : Ref sig .tc := ⟨.hbm, 1169, rfl⟩
abbrev main_call0_call4_call0_v145 : Ref sig .tc := ⟨.hbm, 1170, rfl⟩
abbrev main_call0_call4_call0_v146 : Ref sig .tc := ⟨.hbm, 1171, rfl⟩
abbrev main_call0_call4_call0_v147 : Ref sig .tc := ⟨.hbm, 1172, rfl⟩
abbrev main_call0_call4_call0_v148 : Ref sig .tc := ⟨.hbm, 1173, rfl⟩
abbrev main_call0_call4_call0_v149 : Ref sig .tc := ⟨.hbm, 1174, rfl⟩
abbrev main_call0_call4_call0_c_38 : Ref sig .tc := ⟨.hbm, 1175, rfl⟩
abbrev main_call0_call4_call0_v150 : Ref sig .tc := ⟨.hbm, 1176, rfl⟩
abbrev main_call0_call4_call0_v151 : Ref sig .tc := ⟨.hbm, 1177, rfl⟩
abbrev main_call0_call4_call0_c_39 : Ref sig .tc := ⟨.hbm, 1178, rfl⟩
abbrev main_call0_call4_call0_v152 : Ref sig .tc := ⟨.hbm, 1179, rfl⟩
abbrev main_call0_call4_call0_v153 : Ref sig .tc := ⟨.hbm, 1180, rfl⟩
abbrev main_call0_call4_call0_v154 : Ref sig .tc := ⟨.hbm, 1181, rfl⟩
abbrev main_call0_call4_call0_v155 : Ref sig .tc := ⟨.hbm, 1182, rfl⟩
abbrev main_call0_call4_call0_v156 : Ref sig .tc := ⟨.hbm, 1183, rfl⟩
abbrev main_call0_call4_call0_c_40 : Ref sig .tc := ⟨.hbm, 1184, rfl⟩
abbrev main_call0_call4_call0_v157 : Ref sig .tc := ⟨.hbm, 1185, rfl⟩
abbrev main_call0_call4_call0_v158 : Ref sig .tc := ⟨.hbm, 1186, rfl⟩
abbrev main_call0_call4_call0_c_41 : Ref sig .tc := ⟨.hbm, 1187, rfl⟩
abbrev main_call0_call4_call0_v159 : Ref sig .tc := ⟨.hbm, 1188, rfl⟩
abbrev main_call0_call4_call0_v160 : Ref sig .tc := ⟨.hbm, 1189, rfl⟩
abbrev main_call0_call4_call0_v161 : Ref sig .tc := ⟨.hbm, 1190, rfl⟩
abbrev main_call0_call4_call0_v162 : Ref sig .tc := ⟨.hbm, 1191, rfl⟩
abbrev main_call0_call4_call0_v163 : Ref sig .tc := ⟨.hbm, 1192, rfl⟩
abbrev main_call0_call4_call0_c_42 : Ref sig .tc := ⟨.hbm, 1193, rfl⟩
abbrev main_call0_call4_call0_v164 : Ref sig .tc := ⟨.hbm, 1194, rfl⟩
abbrev main_call0_call4_call0_v165 : Ref sig .tc := ⟨.hbm, 1195, rfl⟩
abbrev main_call0_call4_call0_c_43 : Ref sig .tc := ⟨.hbm, 1196, rfl⟩
abbrev main_call0_call4_call0_v166 : Ref sig .tc := ⟨.hbm, 1197, rfl⟩
abbrev main_call0_call4_call0_v167 : Ref sig .tc := ⟨.hbm, 1198, rfl⟩
abbrev main_call0_call4_call0_v168 : Ref sig .tc := ⟨.hbm, 1199, rfl⟩
abbrev main_call0_call4_call0_v169 : Ref sig .tc := ⟨.hbm, 1200, rfl⟩
abbrev main_call0_call4_call0_v170 : Ref sig .tc := ⟨.hbm, 1201, rfl⟩
abbrev main_call0_call4_v11_0 : Ref sig .tc := ⟨.hbm, 1202, rfl⟩
abbrev main_call0_call4_call0_v172 : Ref sig .tc := ⟨.hbm, 1203, rfl⟩
abbrev main_call0_call4_call0_v173 : Ref sig .tc := ⟨.hbm, 1204, rfl⟩
abbrev main_call0_call4_call0_c_44 : Ref sig .tc := ⟨.hbm, 1205, rfl⟩
abbrev main_call0_call4_call0_v174 : Ref sig .tc := ⟨.hbm, 1206, rfl⟩
abbrev main_call0_call4_v11_1 : Ref sig .tc := ⟨.hbm, 1207, rfl⟩
abbrev main_call0_call4_v12 : Ref sig .tc := ⟨.hbm, 1208, rfl⟩
abbrev main_call0_call4_v13 : Ref sig .tc := ⟨.hbm, 1209, rfl⟩
abbrev main_call0_v38 : Ref sig .tc := ⟨.hbm, 1210, rfl⟩
abbrev main_call0_v39 : Ref sig .tc := ⟨.hbm, 1211, rfl⟩
abbrev main_call0_v40 : Ref sig .tc := ⟨.hbm, 1212, rfl⟩
abbrev main_call0_v41 : Ref sig .tc := ⟨.hbm, 1213, rfl⟩
abbrev main_call0_v42 : Ref sig .tc := ⟨.hbm, 1214, rfl⟩
abbrev main_call0_v43 : Ref sig .tc := ⟨.hbm, 1215, rfl⟩
abbrev main_call0_v44 : Ref sig .tc := ⟨.hbm, 1216, rfl⟩
abbrev main_call0_v45 : Ref sig .tc := ⟨.hbm, 1217, rfl⟩
abbrev main_call0_v46 : Ref sig .tc := ⟨.hbm, 1218, rfl⟩
abbrev main_call0_v47 : Ref sig .tc := ⟨.hbm, 1219, rfl⟩
abbrev main_call0_c_3 : Ref sig .tc := ⟨.hbm, 1220, rfl⟩
abbrev main_call0_v48 : Ref sig .tc := ⟨.hbm, 1221, rfl⟩
abbrev main_call0_v49 : Ref sig .tc := ⟨.hbm, 1222, rfl⟩
abbrev main_call0_c_4 : Ref sig .tc := ⟨.hbm, 1223, rfl⟩
abbrev main_call0_v50 : Ref sig .tc := ⟨.hbm, 1224, rfl⟩
abbrev main_call0_v51 : Ref sig .tc := ⟨.hbm, 1225, rfl⟩
abbrev main_call0_v52 : Ref sig .tc := ⟨.hbm, 1226, rfl⟩
abbrev main_call0_v53 : Ref sig .tc := ⟨.hbm, 1227, rfl⟩
abbrev main_call0_call5_v0 : Ref sig .tc := ⟨.hbm, 1228, rfl⟩
abbrev main_call0_call5_c : Ref sig .tc := ⟨.hbm, 1229, rfl⟩
abbrev main_call0_call5_v1 : Ref sig .tc := ⟨.hbm, 1230, rfl⟩
abbrev main_call0_call5_v2 : Ref sig .tc := ⟨.hbm, 1231, rfl⟩
abbrev main_call0_call5_v3 : Ref sig .tc := ⟨.hbm, 1232, rfl⟩
abbrev main_call0_call5_v4 : Ref sig .tc := ⟨.hbm, 1233, rfl⟩
abbrev main_call0_call5_v5 : Ref sig .tc := ⟨.hbm, 1234, rfl⟩
abbrev main_call0_call5_v6 : Ref sig .tc := ⟨.hbm, 1235, rfl⟩
abbrev main_call0_call5_c_0 : Ref sig .tc := ⟨.hbm, 1236, rfl⟩
abbrev main_call0_call5_v7 : Ref sig .tc := ⟨.hbm, 1237, rfl⟩
abbrev main_call0_call5_v8 : Ref sig .tc := ⟨.hbm, 1238, rfl⟩
abbrev main_call0_call5_c_1 : Ref sig .tc := ⟨.hbm, 1239, rfl⟩
abbrev main_call0_call5_v9 : Ref sig .tc := ⟨.hbm, 1240, rfl⟩
abbrev main_call0_call5_v10 : Ref sig .tc := ⟨.hbm, 1241, rfl⟩
abbrev main_call0_call5_v11 : Ref sig .tc := ⟨.hbm, 1242, rfl⟩
abbrev main_call0_call5_v12 : Ref sig .tc := ⟨.hbm, 1243, rfl⟩
abbrev main_call0_call5_v13 : Ref sig .tc := ⟨.hbm, 1244, rfl⟩
abbrev main_call0_call5_c_2 : Ref sig .tc := ⟨.hbm, 1245, rfl⟩
abbrev main_call0_call5_v14 : Ref sig .tc := ⟨.hbm, 1246, rfl⟩
abbrev main_call0_call5_v15 : Ref sig .tc := ⟨.hbm, 1247, rfl⟩
abbrev main_call0_call5_c_3 : Ref sig .tc := ⟨.hbm, 1248, rfl⟩
abbrev main_call0_call5_v16 : Ref sig .tc := ⟨.hbm, 1249, rfl⟩
abbrev main_call0_call5_v17 : Ref sig .tc := ⟨.hbm, 1250, rfl⟩
abbrev main_call0_call5_v18 : Ref sig .tc := ⟨.hbm, 1251, rfl⟩
abbrev main_call0_call5_v19 : Ref sig .tc := ⟨.hbm, 1252, rfl⟩
abbrev main_call0_call5_v20 : Ref sig .tc := ⟨.hbm, 1253, rfl⟩
abbrev main_call0_call5_c_4 : Ref sig .tc := ⟨.hbm, 1254, rfl⟩
abbrev main_call0_call5_v21 : Ref sig .tc := ⟨.hbm, 1255, rfl⟩
abbrev main_call0_call5_v22 : Ref sig .tc := ⟨.hbm, 1256, rfl⟩
abbrev main_call0_call5_c_5 : Ref sig .tc := ⟨.hbm, 1257, rfl⟩
abbrev main_call0_call5_v23 : Ref sig .tc := ⟨.hbm, 1258, rfl⟩
abbrev main_call0_call5_v24 : Ref sig .tc := ⟨.hbm, 1259, rfl⟩
abbrev main_call0_call5_v25 : Ref sig .tc := ⟨.hbm, 1260, rfl⟩
abbrev main_call0_call5_v26 : Ref sig .tc := ⟨.hbm, 1261, rfl⟩
abbrev main_call0_call5_v27 : Ref sig .tc := ⟨.hbm, 1262, rfl⟩
abbrev main_call0_call5_c_6 : Ref sig .tc := ⟨.hbm, 1263, rfl⟩
abbrev main_call0_call5_v28 : Ref sig .tc := ⟨.hbm, 1264, rfl⟩
abbrev main_call0_call5_v29 : Ref sig .tc := ⟨.hbm, 1265, rfl⟩
abbrev main_call0_call5_c_7 : Ref sig .tc := ⟨.hbm, 1266, rfl⟩
abbrev main_call0_call5_v30 : Ref sig .tc := ⟨.hbm, 1267, rfl⟩
abbrev main_call0_call5_v31 : Ref sig .tc := ⟨.hbm, 1268, rfl⟩
abbrev main_call0_call5_v32 : Ref sig .tc := ⟨.hbm, 1269, rfl⟩
abbrev main_call0_call5_v33 : Ref sig .tc := ⟨.hbm, 1270, rfl⟩
abbrev main_call0_call5_v34 : Ref sig .tc := ⟨.hbm, 1271, rfl⟩
abbrev main_call0_call5_v35 : Ref sig .tc := ⟨.hbm, 1272, rfl⟩
abbrev main_call0_call5_v36 : Ref sig .tc := ⟨.hbm, 1273, rfl⟩
abbrev main_call0_call5_v37 : Ref sig .tc := ⟨.hbm, 1274, rfl⟩
abbrev main_call0_call5_c_8 : Ref sig .tc := ⟨.hbm, 1275, rfl⟩
abbrev main_call0_call5_v38 : Ref sig .tc := ⟨.hbm, 1276, rfl⟩
abbrev main_call0_call5_v39 : Ref sig .tc := ⟨.hbm, 1277, rfl⟩
abbrev main_call0_call5_v40 : Ref sig .tc := ⟨.hbm, 1278, rfl⟩
abbrev main_call0_call5_c_9 : Ref sig .tc := ⟨.hbm, 1279, rfl⟩
abbrev main_call0_call5_v41 : Ref sig .tc := ⟨.hbm, 1280, rfl⟩
abbrev main_call0_call5_v42 : Ref sig .tc := ⟨.hbm, 1281, rfl⟩
abbrev main_call0_call5_c_10 : Ref sig .tc := ⟨.hbm, 1282, rfl⟩
abbrev main_call0_call5_v43 : Ref sig .tc := ⟨.hbm, 1283, rfl⟩
abbrev main_call0_call5_v44 : Ref sig .tc := ⟨.hbm, 1284, rfl⟩
abbrev main_call0_call5_v45 : Ref sig .tc := ⟨.hbm, 1285, rfl⟩
abbrev main_call0_call5_v46 : Ref sig .tc := ⟨.hbm, 1286, rfl⟩
abbrev main_call0_call5_v47 : Ref sig .tc := ⟨.hbm, 1287, rfl⟩
abbrev main_call0_call5_c_11 : Ref sig .tc := ⟨.hbm, 1288, rfl⟩
abbrev main_call0_call5_v48 : Ref sig .tc := ⟨.hbm, 1289, rfl⟩
abbrev main_call0_call5_v49 : Ref sig .tc := ⟨.hbm, 1290, rfl⟩
abbrev main_call0_call5_c_12 : Ref sig .tc := ⟨.hbm, 1291, rfl⟩
abbrev main_call0_call5_v50 : Ref sig .tc := ⟨.hbm, 1292, rfl⟩
abbrev main_call0_call5_v51 : Ref sig .tc := ⟨.hbm, 1293, rfl⟩
abbrev main_call0_call5_v52 : Ref sig .tc := ⟨.hbm, 1294, rfl⟩
abbrev main_call0_call5_v53 : Ref sig .tc := ⟨.hbm, 1295, rfl⟩
abbrev main_call0_call5_v54 : Ref sig .tc := ⟨.hbm, 1296, rfl⟩
abbrev main_call0_call5_c_13 : Ref sig .tc := ⟨.hbm, 1297, rfl⟩
abbrev main_call0_call5_v55 : Ref sig .tc := ⟨.hbm, 1298, rfl⟩
abbrev main_call0_call5_v56 : Ref sig .tc := ⟨.hbm, 1299, rfl⟩
abbrev main_call0_call5_c_14 : Ref sig .tc := ⟨.hbm, 1300, rfl⟩
abbrev main_call0_call5_v57 : Ref sig .tc := ⟨.hbm, 1301, rfl⟩
abbrev main_call0_call5_v58 : Ref sig .tc := ⟨.hbm, 1302, rfl⟩
abbrev main_call0_call5_v59 : Ref sig .tc := ⟨.hbm, 1303, rfl⟩
abbrev main_call0_call5_v60 : Ref sig .tc := ⟨.hbm, 1304, rfl⟩
abbrev main_call0_call5_v61 : Ref sig .tc := ⟨.hbm, 1305, rfl⟩
abbrev main_call0_call5_c_15 : Ref sig .tc := ⟨.hbm, 1306, rfl⟩
abbrev main_call0_call5_v62 : Ref sig .tc := ⟨.hbm, 1307, rfl⟩
abbrev main_call0_call5_v63 : Ref sig .tc := ⟨.hbm, 1308, rfl⟩
abbrev main_call0_call5_c_16 : Ref sig .tc := ⟨.hbm, 1309, rfl⟩
abbrev main_call0_call5_v64 : Ref sig .tc := ⟨.hbm, 1310, rfl⟩
abbrev main_call0_call5_v65 : Ref sig .tc := ⟨.hbm, 1311, rfl⟩
abbrev main_call0_call5_v66 : Ref sig .tc := ⟨.hbm, 1312, rfl⟩
abbrev main_call0_call5_v67 : Ref sig .tc := ⟨.hbm, 1313, rfl⟩
abbrev main_call0_call5_v68 : Ref sig .tc := ⟨.hbm, 1314, rfl⟩
abbrev main_call0_call5_v69 : Ref sig .tc := ⟨.hbm, 1315, rfl⟩
abbrev main_call0_call5_v70 : Ref sig .tc := ⟨.hbm, 1316, rfl⟩
abbrev main_call0_call5_v71 : Ref sig .tc := ⟨.hbm, 1317, rfl⟩
abbrev main_call0_call5_c_17 : Ref sig .tc := ⟨.hbm, 1318, rfl⟩
abbrev main_call0_call5_v72 : Ref sig .tc := ⟨.hbm, 1319, rfl⟩
abbrev main_call0_call5_v73 : Ref sig .tc := ⟨.hbm, 1320, rfl⟩
abbrev main_call0_call5_v74 : Ref sig .tc := ⟨.hbm, 1321, rfl⟩
abbrev main_call0_call5_c_18 : Ref sig .tc := ⟨.hbm, 1322, rfl⟩
abbrev main_call0_call5_v75 : Ref sig .tc := ⟨.hbm, 1323, rfl⟩
abbrev main_call0_call5_v76 : Ref sig .tc := ⟨.hbm, 1324, rfl⟩
abbrev main_call0_call5_c_19 : Ref sig .tc := ⟨.hbm, 1325, rfl⟩
abbrev main_call0_call5_v77 : Ref sig .tc := ⟨.hbm, 1326, rfl⟩
abbrev main_call0_call5_v78 : Ref sig .tc := ⟨.hbm, 1327, rfl⟩
abbrev main_call0_call5_v79 : Ref sig .tc := ⟨.hbm, 1328, rfl⟩
abbrev main_call0_call5_v80 : Ref sig .tc := ⟨.hbm, 1329, rfl⟩
abbrev main_call0_call5_v81 : Ref sig .tc := ⟨.hbm, 1330, rfl⟩
abbrev main_call0_call5_c_20 : Ref sig .tc := ⟨.hbm, 1331, rfl⟩
abbrev main_call0_call5_v82 : Ref sig .tc := ⟨.hbm, 1332, rfl⟩
abbrev main_call0_call5_v83 : Ref sig .tc := ⟨.hbm, 1333, rfl⟩
abbrev main_call0_call5_c_21 : Ref sig .tc := ⟨.hbm, 1334, rfl⟩
abbrev main_call0_call5_v84 : Ref sig .tc := ⟨.hbm, 1335, rfl⟩
abbrev main_call0_call5_v85 : Ref sig .tc := ⟨.hbm, 1336, rfl⟩
abbrev main_call0_call5_v86 : Ref sig .tc := ⟨.hbm, 1337, rfl⟩
abbrev main_call0_call5_v87 : Ref sig .tc := ⟨.hbm, 1338, rfl⟩
abbrev main_call0_call5_v88 : Ref sig .tc := ⟨.hbm, 1339, rfl⟩
abbrev main_call0_call5_c_22 : Ref sig .tc := ⟨.hbm, 1340, rfl⟩
abbrev main_call0_call5_v89 : Ref sig .tc := ⟨.hbm, 1341, rfl⟩
abbrev main_call0_call5_v90 : Ref sig .tc := ⟨.hbm, 1342, rfl⟩
abbrev main_call0_call5_c_23 : Ref sig .tc := ⟨.hbm, 1343, rfl⟩
abbrev main_call0_call5_v91 : Ref sig .tc := ⟨.hbm, 1344, rfl⟩
abbrev main_call0_call5_v92 : Ref sig .tc := ⟨.hbm, 1345, rfl⟩
abbrev main_call0_call5_v93 : Ref sig .tc := ⟨.hbm, 1346, rfl⟩
abbrev main_call0_call5_v94 : Ref sig .tc := ⟨.hbm, 1347, rfl⟩
abbrev main_call0_call5_v95 : Ref sig .tc := ⟨.hbm, 1348, rfl⟩
abbrev main_call0_call5_c_24 : Ref sig .tc := ⟨.hbm, 1349, rfl⟩
abbrev main_call0_call5_v96 : Ref sig .tc := ⟨.hbm, 1350, rfl⟩
abbrev main_call0_call5_v97 : Ref sig .tc := ⟨.hbm, 1351, rfl⟩
abbrev main_call0_call5_c_25 : Ref sig .tc := ⟨.hbm, 1352, rfl⟩
abbrev main_call0_call5_v98 : Ref sig .tc := ⟨.hbm, 1353, rfl⟩
abbrev main_call0_call5_v99 : Ref sig .tc := ⟨.hbm, 1354, rfl⟩
abbrev main_call0_call5_v100 : Ref sig .tc := ⟨.hbm, 1355, rfl⟩
abbrev main_call0_call5_v101 : Ref sig .tc := ⟨.hbm, 1356, rfl⟩
abbrev main_call0_call5_v102 : Ref sig .tc := ⟨.hbm, 1357, rfl⟩
abbrev main_call0_call5_v103 : Ref sig .tc := ⟨.hbm, 1358, rfl⟩
abbrev main_call0_call5_v104 : Ref sig .tc := ⟨.hbm, 1359, rfl⟩
abbrev main_call0_call5_v105 : Ref sig .tc := ⟨.hbm, 1360, rfl⟩
abbrev main_call0_call5_c_26 : Ref sig .tc := ⟨.hbm, 1361, rfl⟩
abbrev main_call0_call5_v106 : Ref sig .tc := ⟨.hbm, 1362, rfl⟩
abbrev main_call0_call5_v107 : Ref sig .tc := ⟨.hbm, 1363, rfl⟩
abbrev main_call0_call5_v108 : Ref sig .tc := ⟨.hbm, 1364, rfl⟩
abbrev main_call0_call5_c_27 : Ref sig .tc := ⟨.hbm, 1365, rfl⟩
abbrev main_call0_call5_v109 : Ref sig .tc := ⟨.hbm, 1366, rfl⟩
abbrev main_call0_call5_v110 : Ref sig .tc := ⟨.hbm, 1367, rfl⟩
abbrev main_call0_call5_c_28 : Ref sig .tc := ⟨.hbm, 1368, rfl⟩
abbrev main_call0_call5_v111 : Ref sig .tc := ⟨.hbm, 1369, rfl⟩
abbrev main_call0_call5_v112 : Ref sig .tc := ⟨.hbm, 1370, rfl⟩
abbrev main_call0_call5_v113 : Ref sig .tc := ⟨.hbm, 1371, rfl⟩
abbrev main_call0_call5_v114 : Ref sig .tc := ⟨.hbm, 1372, rfl⟩
abbrev main_call0_call5_v115 : Ref sig .tc := ⟨.hbm, 1373, rfl⟩
abbrev main_call0_call5_c_29 : Ref sig .tc := ⟨.hbm, 1374, rfl⟩
abbrev main_call0_call5_v116 : Ref sig .tc := ⟨.hbm, 1375, rfl⟩
abbrev main_call0_call5_v117 : Ref sig .tc := ⟨.hbm, 1376, rfl⟩
abbrev main_call0_call5_c_30 : Ref sig .tc := ⟨.hbm, 1377, rfl⟩
abbrev main_call0_call5_v118 : Ref sig .tc := ⟨.hbm, 1378, rfl⟩
abbrev main_call0_call5_v119 : Ref sig .tc := ⟨.hbm, 1379, rfl⟩
abbrev main_call0_call5_v120 : Ref sig .tc := ⟨.hbm, 1380, rfl⟩
abbrev main_call0_call5_v121 : Ref sig .tc := ⟨.hbm, 1381, rfl⟩
abbrev main_call0_call5_v122 : Ref sig .tc := ⟨.hbm, 1382, rfl⟩
abbrev main_call0_call5_c_31 : Ref sig .tc := ⟨.hbm, 1383, rfl⟩
abbrev main_call0_call5_v123 : Ref sig .tc := ⟨.hbm, 1384, rfl⟩
abbrev main_call0_call5_v124 : Ref sig .tc := ⟨.hbm, 1385, rfl⟩
abbrev main_call0_call5_c_32 : Ref sig .tc := ⟨.hbm, 1386, rfl⟩
abbrev main_call0_call5_v125 : Ref sig .tc := ⟨.hbm, 1387, rfl⟩
abbrev main_call0_call5_v126 : Ref sig .tc := ⟨.hbm, 1388, rfl⟩
abbrev main_call0_call5_v127 : Ref sig .tc := ⟨.hbm, 1389, rfl⟩
abbrev main_call0_call5_v128 : Ref sig .tc := ⟨.hbm, 1390, rfl⟩
abbrev main_call0_call5_v129 : Ref sig .tc := ⟨.hbm, 1391, rfl⟩
abbrev main_call0_call5_c_33 : Ref sig .tc := ⟨.hbm, 1392, rfl⟩
abbrev main_call0_call5_v130 : Ref sig .tc := ⟨.hbm, 1393, rfl⟩
abbrev main_call0_call5_v131 : Ref sig .tc := ⟨.hbm, 1394, rfl⟩
abbrev main_call0_call5_c_34 : Ref sig .tc := ⟨.hbm, 1395, rfl⟩
abbrev main_call0_call5_v132 : Ref sig .tc := ⟨.hbm, 1396, rfl⟩
abbrev main_call0_call5_v133 : Ref sig .tc := ⟨.hbm, 1397, rfl⟩
abbrev main_call0_call5_v134 : Ref sig .tc := ⟨.hbm, 1398, rfl⟩
abbrev main_call0_call5_v135 : Ref sig .tc := ⟨.hbm, 1399, rfl⟩
abbrev main_call0_call5_v136 : Ref sig .tc := ⟨.hbm, 1400, rfl⟩
abbrev main_call0_call5_v137 : Ref sig .tc := ⟨.hbm, 1401, rfl⟩
abbrev main_call0_call5_v138 : Ref sig .tc := ⟨.hbm, 1402, rfl⟩
abbrev main_call0_call5_v139 : Ref sig .tc := ⟨.hbm, 1403, rfl⟩
abbrev main_call0_call5_c_35 : Ref sig .tc := ⟨.hbm, 1404, rfl⟩
abbrev main_call0_call5_v140 : Ref sig .tc := ⟨.hbm, 1405, rfl⟩
abbrev main_call0_call5_v141 : Ref sig .tc := ⟨.hbm, 1406, rfl⟩
abbrev main_call0_call5_v142 : Ref sig .tc := ⟨.hbm, 1407, rfl⟩
abbrev main_call0_call5_c_36 : Ref sig .tc := ⟨.hbm, 1408, rfl⟩
abbrev main_call0_call5_v143 : Ref sig .tc := ⟨.hbm, 1409, rfl⟩
abbrev main_call0_call5_v144 : Ref sig .tc := ⟨.hbm, 1410, rfl⟩
abbrev main_call0_call5_c_37 : Ref sig .tc := ⟨.hbm, 1411, rfl⟩
abbrev main_call0_call5_v145 : Ref sig .tc := ⟨.hbm, 1412, rfl⟩
abbrev main_call0_call5_v146 : Ref sig .tc := ⟨.hbm, 1413, rfl⟩
abbrev main_call0_call5_v147 : Ref sig .tc := ⟨.hbm, 1414, rfl⟩
abbrev main_call0_call5_v148 : Ref sig .tc := ⟨.hbm, 1415, rfl⟩
abbrev main_call0_call5_v149 : Ref sig .tc := ⟨.hbm, 1416, rfl⟩
abbrev main_call0_call5_c_38 : Ref sig .tc := ⟨.hbm, 1417, rfl⟩
abbrev main_call0_call5_v150 : Ref sig .tc := ⟨.hbm, 1418, rfl⟩
abbrev main_call0_call5_v151 : Ref sig .tc := ⟨.hbm, 1419, rfl⟩
abbrev main_call0_call5_c_39 : Ref sig .tc := ⟨.hbm, 1420, rfl⟩
abbrev main_call0_call5_v152 : Ref sig .tc := ⟨.hbm, 1421, rfl⟩
abbrev main_call0_call5_v153 : Ref sig .tc := ⟨.hbm, 1422, rfl⟩
abbrev main_call0_call5_v154 : Ref sig .tc := ⟨.hbm, 1423, rfl⟩
abbrev main_call0_call5_v155 : Ref sig .tc := ⟨.hbm, 1424, rfl⟩
abbrev main_call0_call5_v156 : Ref sig .tc := ⟨.hbm, 1425, rfl⟩
abbrev main_call0_call5_c_40 : Ref sig .tc := ⟨.hbm, 1426, rfl⟩
abbrev main_call0_call5_v157 : Ref sig .tc := ⟨.hbm, 1427, rfl⟩
abbrev main_call0_call5_v158 : Ref sig .tc := ⟨.hbm, 1428, rfl⟩
abbrev main_call0_call5_c_41 : Ref sig .tc := ⟨.hbm, 1429, rfl⟩
abbrev main_call0_call5_v159 : Ref sig .tc := ⟨.hbm, 1430, rfl⟩
abbrev main_call0_call5_v160 : Ref sig .tc := ⟨.hbm, 1431, rfl⟩
abbrev main_call0_call5_v161 : Ref sig .tc := ⟨.hbm, 1432, rfl⟩
abbrev main_call0_call5_v162 : Ref sig .tc := ⟨.hbm, 1433, rfl⟩
abbrev main_call0_call5_v163 : Ref sig .tc := ⟨.hbm, 1434, rfl⟩
abbrev main_call0_call5_c_42 : Ref sig .tc := ⟨.hbm, 1435, rfl⟩
abbrev main_call0_call5_v164 : Ref sig .tc := ⟨.hbm, 1436, rfl⟩
abbrev main_call0_call5_v165 : Ref sig .tc := ⟨.hbm, 1437, rfl⟩
abbrev main_call0_call5_c_43 : Ref sig .tc := ⟨.hbm, 1438, rfl⟩
abbrev main_call0_call5_v166 : Ref sig .tc := ⟨.hbm, 1439, rfl⟩
abbrev main_call0_call5_v167 : Ref sig .tc := ⟨.hbm, 1440, rfl⟩
abbrev main_call0_call5_v168 : Ref sig .tc := ⟨.hbm, 1441, rfl⟩
abbrev main_call0_call5_v169 : Ref sig .tc := ⟨.hbm, 1442, rfl⟩
abbrev main_call0_call5_v170 : Ref sig .tc := ⟨.hbm, 1443, rfl⟩
abbrev main_call0_v54_0 : Ref sig .tc := ⟨.hbm, 1444, rfl⟩
abbrev main_call0_call5_v172 : Ref sig .tc := ⟨.hbm, 1445, rfl⟩
abbrev main_call0_call5_v173 : Ref sig .tc := ⟨.hbm, 1446, rfl⟩
abbrev main_call0_call5_c_44 : Ref sig .tc := ⟨.hbm, 1447, rfl⟩
abbrev main_call0_call5_v174 : Ref sig .tc := ⟨.hbm, 1448, rfl⟩
abbrev main_call0_v54_1 : Ref sig .tc := ⟨.hbm, 1449, rfl⟩
abbrev main_call0_v55 : Ref sig .tc := ⟨.hbm, 1450, rfl⟩
abbrev main_call0_v56_0 : Ref sig .tc := ⟨.hbm, 1451, rfl⟩
abbrev main_v8 : Ref sig .tc := ⟨.hbm, 1452, rfl⟩
abbrev main_v9 : Ref sig .tc := ⟨.hbm, 1453, rfl⟩
abbrev main_c_2 : Ref sig .tc := ⟨.hbm, 1454, rfl⟩
abbrev main_v10 : Ref sig .tc := ⟨.hbm, 1455, rfl⟩
abbrev main_c_3 : Ref sig .tc := ⟨.hbm, 1456, rfl⟩
abbrev main_v11 : Ref sig .tc := ⟨.hbm, 1457, rfl⟩
abbrev main_v12 : Ref sig .tc := ⟨.hbm, 1458, rfl⟩
abbrev main_c_4 : Ref sig .tc := ⟨.hbm, 1459, rfl⟩
abbrev main_v13 : Ref sig .tc := ⟨.hbm, 1460, rfl⟩
abbrev main_v14 : Ref sig .tc := ⟨.hbm, 1461, rfl⟩
abbrev main_v15 : Ref sig .tc := ⟨.hbm, 1462, rfl⟩
abbrev main_v16 : Ref sig .tc := ⟨.hbm, 1463, rfl⟩
abbrev main_c_5 : Ref sig .tc := ⟨.hbm, 1464, rfl⟩
abbrev main_v17 : Ref sig .tc := ⟨.hbm, 1465, rfl⟩
abbrev main_v18 : Ref sig .tc := ⟨.hbm, 1466, rfl⟩
abbrev main_v19 : Ref sig .tc := ⟨.hbm, 1467, rfl⟩
abbrev main_v20 : Ref sig .tc := ⟨.hbm, 1468, rfl⟩
abbrev main_v21 : Ref sig .tc := ⟨.hbm, 1469, rfl⟩
abbrev main_v22 : Ref sig .tc := ⟨.hbm, 1470, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_5 : BitVec 32 := 0#32
  let v16 : BitVec 1 := Scalar.cmpi .ne v15 c0_i32_5
  v16

def k0_cond2 (i : grid0.Coords) : BitVec 1 :=
  let arg0 : BitVec 32 := BitVec.ofNat 32 (i 0).val
  let c0_i32_6 : BitVec 32 := 0#32
  let v17 : BitVec 1 := Scalar.cmpi .ne arg0 c0_i32_6
  let v18 : BitVec 32 := Scalar.extui v17
  let c0_i32_7 : BitVec 32 := 0#32
  let v19 : BitVec 1 := Scalar.cmpi .ne v18 c0_i32_7
  v19

def k0_cond3 (i : grid0.Coords) : BitVec 1 :=
  let arg0 : BitVec 32 := BitVec.ofNat 32 (i 0).val
  let c23_i32 : BitVec 32 := 23#32
  let v20 : BitVec 1 := Scalar.cmpi .eq arg0 c23_i32
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "inv_n" => some ((12582912⁻¹ : ℝ) : EReal)
  | _ => none
-- ==== ReferenceIdeal.lean ====
abbrev S16x3x512x512 : Shape := ⟨4, ![16, 3, 512, 512]⟩
abbrev S_ : Shape := ⟨0, ![]⟩
abbrev S1 : Shape := ⟨1, ![1]⟩
abbrev S2 : Shape := ⟨1, ![2]⟩
abbrev S12582912 : Shape := ⟨1, ![12582912]⟩
abbrev S2x1 : Shape := ⟨2, ![2, 1]⟩
abbrev S2x2 : Shape := ⟨2, ![2, 2]⟩
abbrev S1x2 : Shape := ⟨2, ![1, 2]⟩
abbrev S6291456 : Shape := ⟨1, ![6291456]⟩
abbrev S6291456x1 : Shape := ⟨2, ![6291456, 1]⟩
abbrev S1x1 : Shape := ⟨2, ![1, 1]⟩

abbrev nBuf : Space → Nat
  | .hbm => 1484
  | .vmem => 0
  | .smem => 0
  | _ => 0

abbrev hbmTy0_0 (i : Nat) : BufTy := match i % 128 with
  | 0 => ⟨S16x3x512x512, .f32⟩
  | 1 => ⟨S16x3x512x512, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S12582912, .i32⟩
  | 13 => ⟨S1, .i32⟩
  | 14 => ⟨S_, .i32⟩
  | 15 => ⟨S1, .i32⟩
  | 16 => ⟨S_, .i32⟩
  | 17 => ⟨S2, .i64⟩
  | 18 => ⟨S_, .i64⟩
  | 19 => ⟨S2, .i64⟩
  | 20 => ⟨S2, .i64⟩
  | 21 => ⟨S_, .i64⟩
  | 22 => ⟨S2, .i64⟩
  | 23 => ⟨S2, .i64⟩
  | 24 => ⟨S2, .i32⟩
  | 25 => ⟨S2, .i32⟩
  | 26 => ⟨S_, .i32⟩
  | 27 => ⟨S_, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S16x3x512x512, .f32⟩

abbrev hbmTy0_1 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2x1, .i32⟩
  | 121 => ⟨S2x1, .i32⟩
  | 122 => ⟨S2x2, .i32⟩
  | 123 => ⟨S1x2, .i32⟩
  | 124 => ⟨S2, .i32⟩
  | 125 => ⟨S1x2, .i32⟩
  | 126 => ⟨S2, .i32⟩
  | 127 => ⟨S1, .i32⟩
  | _ => ⟨S16x3x512x512, .f32⟩

abbrev hbmTy0_2 (i : Nat) : BufTy := match i % 128 with
  | 0 => ⟨S_, .i32⟩
  | 1 => ⟨S1, .i32⟩
  | 2 => ⟨S_, .i32⟩
  | 3 => ⟨S12582912, .i64⟩
  | 4 => ⟨S_, .i64⟩
  | 5 => ⟨S12582912, .i64⟩
  | 6 => ⟨S12582912, .i64⟩
  | 7 => ⟨S_, .i64⟩
  | 8 => ⟨S12582912, .i64⟩
  | 9 => ⟨S12582912, .i64⟩
  | 10 => ⟨S12582912, .i32⟩
  | 11 => ⟨S12582912, .i32⟩
  | 12 => ⟨S_, .i32⟩
  | 13 => ⟨S_, .i32⟩
  | 14 => ⟨S_, .i32⟩
  | 15 => ⟨S12582912, .i32⟩
  | 16 => ⟨S12582912, .i32⟩
  | 17 => ⟨S12582912, .i32⟩
  | 18 => ⟨S12582912, .i32⟩
  | 19 => ⟨S12582912, .i32⟩
  | 20 => ⟨S_, .i32⟩
  | 21 => ⟨S12582912, .i32⟩
  | 22 => ⟨S12582912, .i32⟩
  | 23 => ⟨S_, .i32⟩
  | 24 => ⟨S12582912, .i32⟩
  | 25 => ⟨S12582912, .i32⟩
  | 26 => ⟨S12582912, .i32⟩
  | 27 => ⟨S12582912, .i32⟩
  | 28 => ⟨S12582912, .i32⟩
  | 29 => ⟨S_, .i32⟩
  | 30 => ⟨S12582912, .i32⟩
  | 31 => ⟨S12582912, .i32⟩
  | 32 => ⟨S_, .i32⟩
  | 33 => ⟨S12582912, .i32⟩
  | 34 => ⟨S12582912, .i32⟩
  | 35 => ⟨S12582912, .i32⟩
  | 36 => ⟨S12582912, .i32⟩
  | 37 => ⟨S12582912, .i32⟩
  | 38 => ⟨S_, .i32⟩
  | 39 => ⟨S12582912, .i32⟩
  | 40 => ⟨S12582912, .i32⟩
  | 41 => ⟨S_, .i32⟩
  | 42 => ⟨S12582912, .i32⟩
  | 43 => ⟨S12582912, .i32⟩
  | 44 => ⟨S12582912, .i32⟩
  | 45 => ⟨S12582912, .i32⟩
  | 46 => ⟨S12582912, .i32⟩
  | 47 => ⟨S_, .i32⟩
  | 48 => ⟨S12582912, .i32⟩
  | 49 => ⟨S12582912, .i32⟩
  | 50 => ⟨S_, .i32⟩
  | 51 => ⟨S12582912, .i32⟩
  | 52 => ⟨S12582912, .i32⟩
  | 53 => ⟨S12582912, .i32⟩
  | 54 => ⟨S12582912, .i32⟩
  | 55 => ⟨S12582912, .i32⟩
  | 56 => ⟨S12582912, .i32⟩
  | 57 => ⟨S12582912, .i32⟩
  | 58 => ⟨S12582912, .i32⟩
  | 59 => ⟨S_, .i32⟩
  | 60 => ⟨S12582912, .i32⟩
  | 61 => ⟨S12582912, .i32⟩
  | 62 => ⟨S12582912, .i32⟩
  | 63 => ⟨S_, .i32⟩
  | 64 => ⟨S12582912, .i32⟩
  | 65 => ⟨S12582912, .i32⟩
  | 66 => ⟨S_, .i32⟩
  | 67 => ⟨S12582912, .i32⟩
  | 68 => ⟨S12582912, .i32⟩
  | 69 => ⟨S12582912, .i32⟩
  | 70 => ⟨S12582912, .i32⟩
  | 71 => ⟨S12582912, .i32⟩
  | 72 => ⟨S_, .i32⟩
  | 73 => ⟨S12582912, .i32⟩
  | 74 => ⟨S12582912, .i32⟩
  | 75 => ⟨S_, .i32⟩
  | 76 => ⟨S12582912, .i32⟩
  | 77 => ⟨S12582912, .i32⟩
  | 78 => ⟨S12582912, .i32⟩
  | 79 => ⟨S12582912, .i32⟩
  | 80 => ⟨S12582912, .i32⟩
  | 81 => ⟨S_, .i32⟩
  | 82 => ⟨S12582912, .i32⟩
  | 83 => ⟨S12582912, .i32⟩
  | 84 => ⟨S_, .i32⟩
  | 85 => ⟨S12582912, .i32⟩
  | 86 => ⟨S12582912, .i32⟩
  | 87 => ⟨S12582912, .i32⟩
  | 88 => ⟨S12582912, .i32⟩
  | 89 => ⟨S12582912, .i32⟩
  | 90 => ⟨S_, .i32⟩
  | 91 => ⟨S12582912, .i32⟩
  | 92 => ⟨S12582912, .i32⟩
  | 93 => ⟨S_, .i32⟩
  | 94 => ⟨S12582912, .i32⟩
  | 95 => ⟨S12582912, .i32⟩
  | 96 => ⟨S12582912, .i32⟩
  | 97 => ⟨S12582912, .i32⟩
  | 98 => ⟨S12582912, .i32⟩
  | 99 => ⟨S12582912, .i32⟩
  | 100 => ⟨S12582912, .i32⟩
  | 101 => ⟨S12582912, .i32⟩
  | 102 => ⟨S_, .i32⟩
  | 103 => ⟨S12582912, .i32⟩
  | 104 => ⟨S12582912, .i32⟩
  | 105 => ⟨S12582912, .i32⟩
  | 106 => ⟨S_, .i32⟩
  | 107 => ⟨S12582912, .i32⟩
  | 108 => ⟨S12582912, .i32⟩
  | 109 => ⟨S_, .i32⟩
  | 110 => ⟨S12582912, .i32⟩
  | 111 => ⟨S12582912, .i32⟩
  | 112 => ⟨S12582912, .i32⟩
  | 113 => ⟨S12582912, .i32⟩
  | 114 => ⟨S12582912, .i32⟩
  | 115 => ⟨S_, .i32⟩
  | 116 => ⟨S12582912, .i32⟩
  | 117 => ⟨S12582912, .i32⟩
  | 118 => ⟨S_, .i32⟩
  | 119 => ⟨S12582912, .i32⟩
  | 120 => ⟨S12582912, .i32⟩
  | 121 => ⟨S12582912, .i32⟩
  | 122 => ⟨S12582912, .i32⟩
  | 123 => ⟨S12582912, .i32⟩
  | 124 => ⟨S_, .i32⟩
  | 125 => ⟨S12582912, .i32⟩
  | 126 => ⟨S12582912, .i32⟩
  | 127 => ⟨S_, .i32⟩
  | _ => ⟨S16x3x512x512, .f32⟩

abbrev hbmTy0_3 (i : Nat) : BufTy := match i % 128 with
  | 0 => ⟨S12582912, .i32⟩
  | 1 => ⟨S12582912, .i32⟩
  | 2 => ⟨S12582912, .i32⟩
  | 3 => ⟨S12582912, .i32⟩
  | 4 => ⟨S12582912, .i32⟩
  | 5 => ⟨S_, .i32⟩
  | 6 => ⟨S12582912, .i32⟩
  | 7 => ⟨S12582912, .i32⟩
  | 8 => ⟨S_, .i32⟩
  | 9 => ⟨S12582912, .i32⟩
  | 10 => ⟨S12582912, .i32⟩
  | 11 => ⟨S12582912, .i32⟩
  | 12 => ⟨S12582912, .i32⟩
  | 13 => ⟨S12582912, .i32⟩
  | 14 => ⟨S12582912, .i32⟩
  | 15 => ⟨S12582912, .i32⟩
  | 16 => ⟨S12582912, .i32⟩
  | 17 => ⟨S_, .i32⟩
  | 18 => ⟨S12582912, .i32⟩
  | 19 => ⟨S12582912, .i32⟩
  | 20 => ⟨S12582912, .i32⟩
  | 21 => ⟨S_, .i32⟩
  | 22 => ⟨S12582912, .i32⟩
  | 23 => ⟨S12582912, .i32⟩
  | 24 => ⟨S_, .i32⟩
  | 25 => ⟨S12582912, .i32⟩
  | 26 => ⟨S12582912, .i32⟩
  | 27 => ⟨S12582912, .i32⟩
  | 28 => ⟨S12582912, .i32⟩
  | 29 => ⟨S12582912, .i32⟩
  | 30 => ⟨S_, .i32⟩
  | 31 => ⟨S12582912, .i32⟩
  | 32 => ⟨S12582912, .i32⟩
  | 33 => ⟨S_, .i32⟩
  | 34 => ⟨S12582912, .i32⟩
  | 35 => ⟨S12582912, .i32⟩
  | 36 => ⟨S12582912, .i32⟩
  | 37 => ⟨S12582912, .i32⟩
  | 38 => ⟨S12582912, .i32⟩
  | 39 => ⟨S_, .i32⟩
  | 40 => ⟨S12582912, .i32⟩
  | 41 => ⟨S12582912, .i32⟩
  | 42 => ⟨S_, .i32⟩
  | 43 => ⟨S12582912, .i32⟩
  | 44 => ⟨S12582912, .i32⟩
  | 45 => ⟨S12582912, .i32⟩
  | 46 => ⟨S12582912, .i32⟩
  | 47 => ⟨S12582912, .i32⟩
  | 48 => ⟨S_, .i32⟩
  | 49 => ⟨S12582912, .i32⟩
  | 50 => ⟨S12582912, .i32⟩
  | 51 => ⟨S_, .i32⟩
  | 52 => ⟨S12582912, .i32⟩
  | 53 => ⟨S12582912, .i32⟩
  | 54 => ⟨S12582912, .i32⟩
  | 55 => ⟨S12582912, .i32⟩
  | 56 => ⟨S12582912, .i32⟩
  | 57 => ⟨S12582912, .i32⟩
  | 58 => ⟨S12582912, .i32⟩
  | 59 => ⟨S12582912, .i32⟩
  | 60 => ⟨S_, .i32⟩
  | 61 => ⟨S12582912, .i32⟩
  | 62 => ⟨S12582912, .i32⟩
  | 63 => ⟨S12582912, .i32⟩
  | 64 => ⟨S_, .i32⟩
  | 65 => ⟨S12582912, .i32⟩
  | 66 => ⟨S12582912, .i32⟩
  | 67 => ⟨S_, .i32⟩
  | 68 => ⟨S12582912, .i32⟩
  | 69 => ⟨S12582912, .i32⟩
  | 70 => ⟨S12582912, .i32⟩
  | 71 => ⟨S12582912, .i32⟩
  | 72 => ⟨S12582912, .i32⟩
  | 73 => ⟨S_, .i32⟩
  | 74 => ⟨S12582912, .i32⟩
  | 75 => ⟨S12582912, .i32⟩
  | 76 => ⟨S_, .i32⟩
  | 77 => ⟨S12582912, .i32⟩
  | 78 => ⟨S12582912, .i32⟩
  | 79 => ⟨S12582912, .i32⟩
  | 80 => ⟨S12582912, .i32⟩
  | 81 => ⟨S12582912, .i32⟩
  | 82 => ⟨S_, .i32⟩
  | 83 => ⟨S12582912, .i32⟩
  | 84 => ⟨S12582912, .i32⟩
  | 85 => ⟨S_, .i32⟩
  | 86 => ⟨S12582912, .i32⟩
  | 87 => ⟨S12582912, .i32⟩
  | 88 => ⟨S12582912, .i32⟩
  | 89 => ⟨S12582912, .i32⟩
  | 90 => ⟨S12582912, .i32⟩
  | 91 => ⟨S_, .i32⟩
  | 92 => ⟨S12582912, .i32⟩
  | 93 => ⟨S12582912, .i32⟩
  | 94 => ⟨S_, .i32⟩
  | 95 => ⟨S12582912, .i32⟩
  | 96 => ⟨S12582912, .i32⟩
  | 97 => ⟨S12582912, .i32⟩
  | 98 => ⟨S12582912, .i32⟩
  | 99 => ⟨S12582912, .i32⟩
  | 100 => ⟨S12582912, .i32⟩
  | 101 => ⟨S12582912, .i32⟩
  | 102 => ⟨S12582912, .i32⟩
  | 103 => ⟨S_, .i32⟩
  | 104 => ⟨S12582912, .i32⟩
  | 105 => ⟨S12582912, .i32⟩
  | 106 => ⟨S12582912, .i32⟩
  | 107 => ⟨S12582912, .i32⟩
  | 108 => ⟨S12582912, .i32⟩
  | 109 => ⟨S1, .i32⟩
  | 110 => ⟨S_, .i32⟩
  | 111 => ⟨S1, .i32⟩
  | 112 => ⟨S_, .i32⟩
  | 113 => ⟨S2, .i64⟩
  | 114 => ⟨S_, .i64⟩
  | 115 => ⟨S2, .i64⟩
  | 116 => ⟨S2, .i64⟩
  | 117 => ⟨S_, .i64⟩
  | 118 => ⟨S2, .i64⟩
  | 119 => ⟨S2, .i64⟩
  | 120 => ⟨S2, .i32⟩
  | 121 => ⟨S2, .i32⟩
  | 122 => ⟨S_, .i32⟩
  | 123 => ⟨S_, .i32⟩
  | 124 => ⟨S_, .i32⟩
  | 125 => ⟨S2, .i32⟩
  | 126 => ⟨S2, .i32⟩
  | 127 => ⟨S2, .i32⟩
  | _ => ⟨S16x3x512x512, .f32⟩

abbrev hbmTy0_4 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S16x3x512x512, .f32⟩

abbrev hbmTy0_5 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S2x1, .i32⟩
  | 89 => ⟨S2x1, .i32⟩
  | 90 => ⟨S2x2, .i32⟩
  | 91 => ⟨S1x2, .i32⟩
  | 92 => ⟨S2, .i32⟩
  | 93 => ⟨S1x2, .i32⟩
  | 94 => ⟨S2, .i32⟩
  | 95 => ⟨S1, .i32⟩
  | 96 => ⟨S_, .i32⟩
  | 97 => ⟨S1, .i32⟩
  | 98 => ⟨S_, .i32⟩
  | 99 => ⟨S12582912, .i64⟩
  | 100 => ⟨S_, .i64⟩
  | 101 => ⟨S12582912, .i64⟩
  | 102 => ⟨S12582912, .i64⟩
  | 103 => ⟨S_, .i64⟩
  | 104 => ⟨S12582912, .i64⟩
  | 105 => ⟨S12582912, .i64⟩
  | 106 => ⟨S12582912, .i32⟩
  | 107 => ⟨S12582912, .i32⟩
  | 108 => ⟨S_, .i32⟩
  | 109 => ⟨S_, .i32⟩
  | 110 => ⟨S_, .i32⟩
  | 111 => ⟨S12582912, .i32⟩
  | 112 => ⟨S12582912, .i32⟩
  | 113 => ⟨S12582912, .i32⟩
  | 114 => ⟨S12582912, .i32⟩
  | 115 => ⟨S12582912, .i32⟩
  | 116 => ⟨S_, .i32⟩
  | 117 => ⟨S12582912, .i32⟩
  | 118 => ⟨S12582912, .i32⟩
  | 119 => ⟨S_, .i32⟩
  | 120 => ⟨S12582912, .i32⟩
  | 121 => ⟨S12582912, .i32⟩
  | 122 => ⟨S12582912, .i32⟩
  | 123 => ⟨S12582912, .i32⟩
  | 124 => ⟨S12582912, .i32⟩
  | 125 => ⟨S_, .i32⟩
  | 126 => ⟨S12582912, .i32⟩
  | 127 => ⟨S12582912, .i32⟩
  | _ => ⟨S16x3x512x512, .f32⟩

abbrev hbmTy0_6 (i : Nat) : BufTy := match i % 128 with
  | 0 => ⟨S_, .i32⟩
  | 1 => ⟨S12582912, .i32⟩
  | 2 => ⟨S12582912, .i32⟩
  | 3 => ⟨S12582912, .i32⟩
  | 4 => ⟨S12582912, .i32⟩
  | 5 => ⟨S12582912, .i32⟩
  | 6 => ⟨S_, .i32⟩
  | 7 => ⟨S12582912, .i32⟩
  | 8 => ⟨S12582912, .i32⟩
  | 9 => ⟨S_, .i32⟩
  | 10 => ⟨S12582912, .i32⟩
  | 11 => ⟨S12582912, .i32⟩
  | 12 => ⟨S12582912, .i32⟩
  | 13 => ⟨S12582912, .i32⟩
  | 14 => ⟨S12582912, .i32⟩
  | 15 => ⟨S_, .i32⟩
  | 16 => ⟨S12582912, .i32⟩
  | 17 => ⟨S12582912, .i32⟩
  | 18 => ⟨S_, .i32⟩
  | 19 => ⟨S12582912, .i32⟩
  | 20 => ⟨S12582912, .i32⟩
  | 21 => ⟨S12582912, .i32⟩
  | 22 => ⟨S12582912, .i32⟩
  | 23 => ⟨S12582912, .i32⟩
  | 24 => ⟨S12582912, .i32⟩
  | 25 => ⟨S12582912, .i32⟩
  | 26 => ⟨S12582912, .i32⟩
  | 27 => ⟨S_, .i32⟩
  | 28 => ⟨S12582912, .i32⟩
  | 29 => ⟨S12582912, .i32⟩
  | 30 => ⟨S12582912, .i32⟩
  | 31 => ⟨S_, .i32⟩
  | 32 => ⟨S12582912, .i32⟩
  | 33 => ⟨S12582912, .i32⟩
  | 34 => ⟨S_, .i32⟩
  | 35 => ⟨S12582912, .i32⟩
  | 36 => ⟨S12582912, .i32⟩
  | 37 => ⟨S12582912, .i32⟩
  | 38 => ⟨S12582912, .i32⟩
  | 39 => ⟨S12582912, .i32⟩
  | 40 => ⟨S_, .i32⟩
  | 41 => ⟨S12582912, .i32⟩
  | 42 => ⟨S12582912, .i32⟩
  | 43 => ⟨S_, .i32⟩
  | 44 => ⟨S12582912, .i32⟩
  | 45 => ⟨S12582912, .i32⟩
  | 46 => ⟨S12582912, .i32⟩
  | 47 => ⟨S12582912, .i32⟩
  | 48 => ⟨S12582912, .i32⟩
  | 49 => ⟨S_, .i32⟩
  | 50 => ⟨S12582912, .i32⟩
  | 51 => ⟨S12582912, .i32⟩
  | 52 => ⟨S_, .i32⟩
  | 53 => ⟨S12582912, .i32⟩
  | 54 => ⟨S12582912, .i32⟩
  | 55 => ⟨S12582912, .i32⟩
  | 56 => ⟨S12582912, .i32⟩
  | 57 => ⟨S12582912, .i32⟩
  | 58 => ⟨S_, .i32⟩
  | 59 => ⟨S12582912, .i32⟩
  | 60 => ⟨S12582912, .i32⟩
  | 61 => ⟨S_, .i32⟩
  | 62 => ⟨S12582912, .i32⟩
  | 63 => ⟨S12582912, .i32⟩
  | 64 => ⟨S12582912, .i32⟩
  | 65 => ⟨S12582912, .i32⟩
  | 66 => ⟨S12582912, .i32⟩
  | 67 => ⟨S12582912, .i32⟩
  | 68 => ⟨S12582912, .i32⟩
  | 69 => ⟨S12582912, .i32⟩
  | 70 => ⟨S_, .i32⟩
  | 71 => ⟨S12582912, .i32⟩
  | 72 => ⟨S12582912, .i32⟩
  | 73 => ⟨S12582912, .i32⟩
  | 74 => ⟨S_, .i32⟩
  | 75 => ⟨S12582912, .i32⟩
  | 76 => ⟨S12582912, .i32⟩
  | 77 => ⟨S_, .i32⟩
  | 78 => ⟨S12582912, .i32⟩
  | 79 => ⟨S12582912, .i32⟩
  | 80 => ⟨S12582912, .i32⟩
  | 81 => ⟨S12582912, .i32⟩
  | 82 => ⟨S12582912, .i32⟩
  | 83 => ⟨S_, .i32⟩
  | 84 => ⟨S12582912, .i32⟩
  | 85 => ⟨S12582912, .i32⟩
  | 86 => ⟨S_, .i32⟩
  | 87 => ⟨S12582912, .i32⟩
  | 88 => ⟨S12582912, .i32⟩
  | 89 => ⟨S12582912, .i32⟩
  | 90 => ⟨S12582912, .i32⟩
  | 91 => ⟨S12582912, .i32⟩
  | 92 => ⟨S_, .i32⟩
  | 93 => ⟨S12582912, .i32⟩
  | 94 => ⟨S12582912, .i32⟩
  | 95 => ⟨S_, .i32⟩
  | 96 => ⟨S12582912, .i32⟩
  | 97 => ⟨S12582912, .i32⟩
  | 98 => ⟨S12582912, .i32⟩
  | 99 => ⟨S12582912, .i32⟩
  | 100 => ⟨S12582912, .i32⟩
  | 101 => ⟨S_, .i32⟩
  | 102 => ⟨S12582912, .i32⟩
  | 103 => ⟨S12582912, .i32⟩
  | 104 => ⟨S_, .i32⟩
  | 105 => ⟨S12582912, .i32⟩
  | 106 => ⟨S12582912, .i32⟩
  | 107 => ⟨S12582912, .i32⟩
  | 108 => ⟨S12582912, .i32⟩
  | 109 => ⟨S12582912, .i32⟩
  | 110 => ⟨S12582912, .i32⟩
  | 111 => ⟨S12582912, .i32⟩
  | 112 => ⟨S12582912, .i32⟩
  | 113 => ⟨S_, .i32⟩
  | 114 => ⟨S12582912, .i32⟩
  | 115 => ⟨S12582912, .i32⟩
  | 116 => ⟨S12582912, .i32⟩
  | 117 => ⟨S_, .i32⟩
  | 118 => ⟨S12582912, .i32⟩
  | 119 => ⟨S12582912, .i32⟩
  | 120 => ⟨S_, .i32⟩
  | 121 => ⟨S12582912, .i32⟩
  | 122 => ⟨S12582912, .i32⟩
  | 123 => ⟨S12582912, .i32⟩
  | 124 => ⟨S12582912, .i32⟩
  | 125 => ⟨S12582912, .i32⟩
  | 126 => ⟨S_, .i32⟩
  | 127 => ⟨S12582912, .i32⟩
  | _ => ⟨S16x3x512x512, .f32⟩

abbrev hbmTy0_7 (i : Nat) : BufTy := match i % 128 with
  | 0 => ⟨S12582912, .i32⟩
  | 1 => ⟨S_, .i32⟩
  | 2 => ⟨S12582912, .i32⟩
  | 3 => ⟨S12582912, .i32⟩
  | 4 => ⟨S12582912, .i32⟩
  | 5 => ⟨S12582912, .i32⟩
  | 6 => ⟨S12582912, .i32⟩
  | 7 => ⟨S_, .i32⟩
  | 8 => ⟨S12582912, .i32⟩
  | 9 => ⟨S12582912, .i32⟩
  | 10 => ⟨S_, .i32⟩
  | 11 => ⟨S12582912, .i32⟩
  | 12 => ⟨S12582912, .i32⟩
  | 13 => ⟨S12582912, .i32⟩
  | 14 => ⟨S12582912, .i32⟩
  | 15 => ⟨S12582912, .i32⟩
  | 16 => ⟨S_, .i32⟩
  | 17 => ⟨S12582912, .i32⟩
  | 18 => ⟨S12582912, .i32⟩
  | 19 => ⟨S_, .i32⟩
  | 20 => ⟨S12582912, .i32⟩
  | 21 => ⟨S12582912, .i32⟩
  | 22 => ⟨S12582912, .i32⟩
  | 23 => ⟨S12582912, .i32⟩
  | 24 => ⟨S12582912, .i32⟩
  | 25 => ⟨S12582912, .i32⟩
  | 26 => ⟨S12582912, .i32⟩
  | 27 => ⟨S12582912, .i32⟩
  | 28 => ⟨S_, .i32⟩
  | 29 => ⟨S12582912, .i32⟩
  | 30 => ⟨S12582912, .i32⟩
  | 31 => ⟨S12582912, .i32⟩
  | 32 => ⟨S_, .i32⟩
  | 33 => ⟨S12582912, .i32⟩
  | 34 => ⟨S12582912, .i32⟩
  | 35 => ⟨S_, .i32⟩
  | 36 => ⟨S12582912, .i32⟩
  | 37 => ⟨S12582912, .i32⟩
  | 38 => ⟨S12582912, .i32⟩
  | 39 => ⟨S12582912, .i32⟩
  | 40 => ⟨S12582912, .i32⟩
  | 41 => ⟨S_, .i32⟩
  | 42 => ⟨S12582912, .i32⟩
  | 43 => ⟨S12582912, .i32⟩
  | 44 => ⟨S_, .i32⟩
  | 45 => ⟨S12582912, .i32⟩
  | 46 => ⟨S12582912, .i32⟩
  | 47 => ⟨S12582912, .i32⟩
  | 48 => ⟨S12582912, .i32⟩
  | 49 => ⟨S12582912, .i32⟩
  | 50 => ⟨S_, .i32⟩
  | 51 => ⟨S12582912, .i32⟩
  | 52 => ⟨S12582912, .i32⟩
  | 53 => ⟨S_, .i32⟩
  | 54 => ⟨S12582912, .i32⟩
  | 55 => ⟨S12582912, .i32⟩
  | 56 => ⟨S12582912, .i32⟩
  | 57 => ⟨S12582912, .i32⟩
  | 58 => ⟨S12582912, .i32⟩
  | 59 => ⟨S_, .i32⟩
  | 60 => ⟨S12582912, .i32⟩
  | 61 => ⟨S12582912, .i32⟩
  | 62 => ⟨S_, .i32⟩
  | 63 => ⟨S12582912, .i32⟩
  | 64 => ⟨S12582912, .i32⟩
  | 65 => ⟨S12582912, .i32⟩
  | 66 => ⟨S12582912, .i32⟩
  | 67 => ⟨S12582912, .i32⟩
  | 68 => ⟨S12582912, .i32⟩
  | 69 => ⟨S12582912, .i32⟩
  | 70 => ⟨S12582912, .i32⟩
  | 71 => ⟨S_, .i32⟩
  | 72 => ⟨S12582912, .i32⟩
  | 73 => ⟨S12582912, .i32⟩
  | 74 => ⟨S12582912, .i32⟩
  | 75 => ⟨S12582912, .i32⟩
  | 76 => ⟨S12582912, .i32⟩
  | 77 => ⟨S1, .i32⟩
  | 78 => ⟨S_, .i32⟩
  | 79 => ⟨S1, .i32⟩
  | 80 => ⟨S_, .i32⟩
  | 81 => ⟨S2, .i64⟩
  | 82 => ⟨S_, .i64⟩
  | 83 => ⟨S2, .i64⟩
  | 84 => ⟨S2, .i64⟩
  | 85 => ⟨S_, .i64⟩
  | 86 => ⟨S2, .i64⟩
  | 87 => ⟨S2, .i64⟩
  | 88 => ⟨S2, .i32⟩
  | 89 => ⟨S2, .i32⟩
  | 90 => ⟨S_, .i32⟩
  | 91 => ⟨S_, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S16x3x512x512, .f32⟩

abbrev hbmTy0_8 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S16x3x512x512, .f32⟩

abbrev hbmTy0_9 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S2x1, .i32⟩
  | 57 => ⟨S2x1, .i32⟩
  | 58 => ⟨S2x2, .i32⟩
  | 59 => ⟨S1x2, .i32⟩
  | 60 => ⟨S2, .i32⟩
  | 61 => ⟨S1x2, .i32⟩
  | 62 => ⟨S2, .i32⟩
  | 63 => ⟨S1, .i32⟩
  | 64 => ⟨S_, .i32⟩
  | 65 => ⟨S1, .i32⟩
  | 66 => ⟨S_, .i32⟩
  | 67 => ⟨S12582912, .i64⟩
  | 68 => ⟨S_, .i64⟩
  | 69 => ⟨S12582912, .i64⟩
  | 70 => ⟨S12582912, .i64⟩
  | 71 => ⟨S_, .i64⟩
  | 72 => ⟨S12582912, .i64⟩
  | 73 => ⟨S12582912, .i64⟩
  | 74 => ⟨S12582912, .i32⟩
  | 75 => ⟨S12582912, .i32⟩
  | 76 => ⟨S_, .i32⟩
  | 77 => ⟨S_, .i32⟩
  | 78 => ⟨S_, .i32⟩
  | 79 => ⟨S12582912, .i32⟩
  | 80 => ⟨S12582912, .i32⟩
  | 81 => ⟨S12582912, .i32⟩
  | 82 => ⟨S12582912, .i32⟩
  | 83 => ⟨S12582912, .i32⟩
  | 84 => ⟨S_, .i32⟩
  | 85 => ⟨S12582912, .i32⟩
  | 86 => ⟨S12582912, .i32⟩
  | 87 => ⟨S_, .i32⟩
  | 88 => ⟨S12582912, .i32⟩
  | 89 => ⟨S12582912, .i32⟩
  | 90 => ⟨S12582912, .i32⟩
  | 91 => ⟨S12582912, .i32⟩
  | 92 => ⟨S12582912, .i32⟩
  | 93 => ⟨S_, .i32⟩
  | 94 => ⟨S12582912, .i32⟩
  | 95 => ⟨S12582912, .i32⟩
  | 96 => ⟨S_, .i32⟩
  | 97 => ⟨S12582912, .i32⟩
  | 98 => ⟨S12582912, .i32⟩
  | 99 => ⟨S12582912, .i32⟩
  | 100 => ⟨S12582912, .i32⟩
  | 101 => ⟨S12582912, .i32⟩
  | 102 => ⟨S_, .i32⟩
  | 103 => ⟨S12582912, .i32⟩
  | 104 => ⟨S12582912, .i32⟩
  | 105 => ⟨S_, .i32⟩
  | 106 => ⟨S12582912, .i32⟩
  | 107 => ⟨S12582912, .i32⟩
  | 108 => ⟨S12582912, .i32⟩
  | 109 => ⟨S12582912, .i32⟩
  | 110 => ⟨S12582912, .i32⟩
  | 111 => ⟨S_, .i32⟩
  | 112 => ⟨S12582912, .i32⟩
  | 113 => ⟨S12582912, .i32⟩
  | 114 => ⟨S_, .i32⟩
  | 115 => ⟨S12582912, .i32⟩
  | 116 => ⟨S12582912, .i32⟩
  | 117 => ⟨S12582912, .i32⟩
  | 118 => ⟨S12582912, .i32⟩
  | 119 => ⟨S12582912, .i32⟩
  | 120 => ⟨S12582912, .i32⟩
  | 121 => ⟨S12582912, .i32⟩
  | 122 => ⟨S12582912, .i32⟩
  | 123 => ⟨S_, .i32⟩
  | 124 => ⟨S12582912, .i32⟩
  | 125 => ⟨S12582912, .i32⟩
  | 126 => ⟨S12582912, .i32⟩
  | 127 => ⟨S_, .i32⟩
  | _ => ⟨S16x3x512x512, .f32⟩

abbrev hbmTy0_10 (i : Nat) : BufTy := match i % 128 with
  | 0 => ⟨S12582912, .i32⟩
  | 1 => ⟨S12582912, .i32⟩
  | 2 => ⟨S_, .i32⟩
  | 3 => ⟨S12582912, .i32⟩
  | 4 => ⟨S12582912, .i32⟩
  | 5 => ⟨S12582912, .i32⟩
  | 6 => ⟨S12582912, .i32⟩
  | 7 => ⟨S12582912, .i32⟩
  | 8 => ⟨S_, .i32⟩
  | 9 => ⟨S12582912, .i32⟩
  | 10 => ⟨S12582912, .i32⟩
  | 11 => ⟨S_, .i32⟩
  | 12 => ⟨S12582912, .i32⟩
  | 13 => ⟨S12582912, .i32⟩
  | 14 => ⟨S12582912, .i32⟩
  | 15 => ⟨S12582912, .i32⟩
  | 16 => ⟨S12582912, .i32⟩
  | 17 => ⟨S_, .i32⟩
  | 18 => ⟨S12582912, .i32⟩
  | 19 => ⟨S12582912, .i32⟩
  | 20 => ⟨S_, .i32⟩
  | 21 => ⟨S12582912, .i32⟩
  | 22 => ⟨S12582912, .i32⟩
  | 23 => ⟨S12582912, .i32⟩
  | 24 => ⟨S12582912, .i32⟩
  | 25 => ⟨S12582912, .i32⟩
  | 26 => ⟨S_, .i32⟩
  | 27 => ⟨S12582912, .i32⟩
  | 28 => ⟨S12582912, .i32⟩
  | 29 => ⟨S_, .i32⟩
  | 30 => ⟨S12582912, .i32⟩
  | 31 => ⟨S12582912, .i32⟩
  | 32 => ⟨S12582912, .i32⟩
  | 33 => ⟨S12582912, .i32⟩
  | 34 => ⟨S12582912, .i32⟩
  | 35 => ⟨S12582912, .i32⟩
  | 36 => ⟨S12582912, .i32⟩
  | 37 => ⟨S12582912, .i32⟩
  | 38 => ⟨S_, .i32⟩
  | 39 => ⟨S12582912, .i32⟩
  | 40 => ⟨S12582912, .i32⟩
  | 41 => ⟨S12582912, .i32⟩
  | 42 => ⟨S_, .i32⟩
  | 43 => ⟨S12582912, .i32⟩
  | 44 => ⟨S12582912, .i32⟩
  | 45 => ⟨S_, .i32⟩
  | 46 => ⟨S12582912, .i32⟩
  | 47 => ⟨S12582912, .i32⟩
  | 48 => ⟨S12582912, .i32⟩
  | 49 => ⟨S12582912, .i32⟩
  | 50 => ⟨S12582912, .i32⟩
  | 51 => ⟨S_, .i32⟩
  | 52 => ⟨S12582912, .i32⟩
  | 53 => ⟨S12582912, .i32⟩
  | 54 => ⟨S_, .i32⟩
  | 55 => ⟨S12582912, .i32⟩
  | 56 => ⟨S12582912, .i32⟩
  | 57 => ⟨S12582912, .i32⟩
  | 58 => ⟨S12582912, .i32⟩
  | 59 => ⟨S12582912, .i32⟩
  | 60 => ⟨S_, .i32⟩
  | 61 => ⟨S12582912, .i32⟩
  | 62 => ⟨S12582912, .i32⟩
  | 63 => ⟨S_, .i32⟩
  | 64 => ⟨S12582912, .i32⟩
  | 65 => ⟨S12582912, .i32⟩
  | 66 => ⟨S12582912, .i32⟩
  | 67 => ⟨S12582912, .i32⟩
  | 68 => ⟨S12582912, .i32⟩
  | 69 => ⟨S_, .i32⟩
  | 70 => ⟨S12582912, .i32⟩
  | 71 => ⟨S12582912, .i32⟩
  | 72 => ⟨S_, .i32⟩
  | 73 => ⟨S12582912, .i32⟩
  | 74 => ⟨S12582912, .i32⟩
  | 75 => ⟨S12582912, .i32⟩
  | 76 => ⟨S12582912, .i32⟩
  | 77 => ⟨S12582912, .i32⟩
  | 78 => ⟨S12582912, .i32⟩
  | 79 => ⟨S12582912, .i32⟩
  | 80 => ⟨S12582912, .i32⟩
  | 81 => ⟨S_, .i32⟩
  | 82 => ⟨S12582912, .i32⟩
  | 83 => ⟨S12582912, .i32⟩
  | 84 => ⟨S12582912, .i32⟩
  | 85 => ⟨S_, .i32⟩
  | 86 => ⟨S12582912, .i32⟩
  | 87 => ⟨S12582912, .i32⟩
  | 88 => ⟨S_, .i32⟩
  | 89 => ⟨S12582912, .i32⟩
  | 90 => ⟨S12582912, .i32⟩
  | 91 => ⟨S12582912, .i32⟩
  | 92 => ⟨S12582912, .i32⟩
  | 93 => ⟨S12582912, .i32⟩
  | 94 => ⟨S_, .i32⟩
  | 95 => ⟨S12582912, .i32⟩
  | 96 => ⟨S12582912, .i32⟩
  | 97 => ⟨S_, .i32⟩
  | 98 => ⟨S12582912, .i32⟩
  | 99 => ⟨S12582912, .i32⟩
  | 100 => ⟨S12582912, .i32⟩
  | 101 => ⟨S12582912, .i32⟩
  | 102 => ⟨S12582912, .i32⟩
  | 103 => ⟨S_, .i32⟩
  | 104 => ⟨S12582912, .i32⟩
  | 105 => ⟨S12582912, .i32⟩
  | 106 => ⟨S_, .i32⟩
  | 107 => ⟨S12582912, .i32⟩
  | 108 => ⟨S12582912, .i32⟩
  | 109 => ⟨S12582912, .i32⟩
  | 110 => ⟨S12582912, .i32⟩
  | 111 => ⟨S12582912, .i32⟩
  | 112 => ⟨S_, .i32⟩
  | 113 => ⟨S12582912, .i32⟩
  | 114 => ⟨S12582912, .i32⟩
  | 115 => ⟨S_, .i32⟩
  | 116 => ⟨S12582912, .i32⟩
  | 117 => ⟨S12582912, .i32⟩
  | 118 => ⟨S12582912, .i32⟩
  | 119 => ⟨S12582912, .i32⟩
  | 120 => ⟨S12582912, .i32⟩
  | 121 => ⟨S12582912, .i32⟩
  | 122 => ⟨S12582912, .i32⟩
  | 123 => ⟨S12582912, .i32⟩
  | 124 => ⟨S_, .i32⟩
  | 125 => ⟨S12582912, .i32⟩
  | 126 => ⟨S12582912, .i32⟩
  | 127 => ⟨S12582912, .i32⟩
  | _ => ⟨S16x3x512x512, .f32⟩

abbrev hbmTy0_11 (i : Nat) : BufTy := match i % 128 with
  | 0 => ⟨S_, .i32⟩
  | 1 => ⟨S12582912, .i32⟩
  | 2 => ⟨S12582912, .i32⟩
  | 3 => ⟨S_, .i32⟩
  | 4 => ⟨S12582912, .i32⟩
  | 5 => ⟨S12582912, .i32⟩
  | 6 => ⟨S12582912, .i32⟩
  | 7 => ⟨S12582912, .i32⟩
  | 8 => ⟨S12582912, .i32⟩
  | 9 => ⟨S_, .i32⟩
  | 10 => ⟨S12582912, .i32⟩
  | 11 => ⟨S12582912, .i32⟩
  | 12 => ⟨S_, .i32⟩
  | 13 => ⟨S12582912, .i32⟩
  | 14 => ⟨S12582912, .i32⟩
  | 15 => ⟨S12582912, .i32⟩
  | 16 => ⟨S12582912, .i32⟩
  | 17 => ⟨S12582912, .i32⟩
  | 18 => ⟨S_, .i32⟩
  | 19 => ⟨S12582912, .i32⟩
  | 20 => ⟨S12582912, .i32⟩
  | 21 => ⟨S_, .i32⟩
  | 22 => ⟨S12582912, .i32⟩
  | 23 => ⟨S12582912, .i32⟩
  | 24 => ⟨S12582912, .i32⟩
  | 25 => ⟨S12582912, .i32⟩
  | 26 => ⟨S12582912, .i32⟩
  | 27 => ⟨S_, .i32⟩
  | 28 => ⟨S12582912, .i32⟩
  | 29 => ⟨S12582912, .i32⟩
  | 30 => ⟨S_, .i32⟩
  | 31 => ⟨S12582912, .i32⟩
  | 32 => ⟨S12582912, .i32⟩
  | 33 => ⟨S12582912, .i32⟩
  | 34 => ⟨S12582912, .i32⟩
  | 35 => ⟨S12582912, .i32⟩
  | 36 => ⟨S12582912, .i32⟩
  | 37 => ⟨S12582912, .i32⟩
  | 38 => ⟨S12582912, .i32⟩
  | 39 => ⟨S_, .i32⟩
  | 40 => ⟨S12582912, .i32⟩
  | 41 => ⟨S12582912, .i32⟩
  | 42 => ⟨S12582912, .i32⟩
  | 43 => ⟨S12582912, .i32⟩
  | 44 => ⟨S12582912, .i32⟩
  | 45 => ⟨S16x3x512x512, .f32⟩
  | 46 => ⟨S16x3x512x512, .f32⟩
  | 47 => ⟨S12582912, .f32⟩
  | 48 => ⟨S6291456, .i32⟩
  | 49 => ⟨S_, .i32⟩
  | 50 => ⟨S6291456, .i32⟩
  | 51 => ⟨S6291456, .i1⟩
  | 52 => ⟨S_, .i32⟩
  | 53 => ⟨S6291456, .i32⟩
  | 54 => ⟨S6291456, .i32⟩
  | 55 => ⟨S6291456, .i32⟩
  | 56 => ⟨S6291456x1, .i32⟩
  | 57 => ⟨S6291456, .f32⟩
  | 58 => ⟨S_, .f32⟩
  | 59 => ⟨S6291456, .f32⟩
  | 60 => ⟨S6291456, .f32⟩
  | 61 => ⟨S_, .i32⟩
  | 62 => ⟨S6291456, .i32⟩
  | 63 => ⟨S6291456, .i1⟩
  | 64 => ⟨S_, .i32⟩
  | 65 => ⟨S6291456, .i32⟩
  | 66 => ⟨S6291456, .i32⟩
  | 67 => ⟨S6291456, .i32⟩
  | 68 => ⟨S6291456x1, .i32⟩
  | 69 => ⟨S12582912, .f32⟩
  | 70 => ⟨S16x3x512x512, .f32⟩
  | 71 => ⟨S_, .f32⟩
  | 72 => ⟨S_, .f32⟩
  | 73 => ⟨S_, .f32⟩
  | 74 => ⟨S_, .f32⟩
  | 75 => ⟨S1x1, .f32⟩
  | _ => ⟨S16x3x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S16x3x512x512, .f32⟩

abbrev bufTy : (tb : Table) → Fin (tcTables nBuf tb) → BufTy
  | .hbm, ⟨i, _⟩ => hbmTy i
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_c : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_c_0 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_call0_v0 : Ref sig .tc := ⟨.hbm, 26, rfl⟩
abbrev main_call0_call0_call0_c : Ref sig .tc := ⟨.hbm, 27, rfl⟩
abbrev main_call0_call0_call0_v1 : Ref sig .tc := ⟨.hbm, 28, rfl⟩
abbrev main_call0_call0_call0_v2 : Ref sig .tc := ⟨.hbm, 29, rfl⟩
abbrev main_call0_call0_call0_v3 : Ref sig .tc := ⟨.hbm, 30, rfl⟩
abbrev main_call0_call0_call0_v4 : Ref sig .tc := ⟨.hbm, 31, rfl⟩
abbrev main_call0_call0_call0_v5 : Ref sig .tc := ⟨.hbm, 32, rfl⟩
abbrev main_call0_call0_call0_v6 : Ref sig .tc := ⟨.hbm, 33, rfl⟩
abbrev main_call0_call0_call0_c_0 : Ref sig .tc := ⟨.hbm, 34, rfl⟩
abbrev main_call0_call0_call0_v7 : Ref sig .tc := ⟨.hbm, 35, rfl⟩
abbrev main_call0_call0_call0_v8 : Ref sig .tc := ⟨.hbm, 36, rfl⟩
abbrev main_call0_call0_call0_c_1 : Ref sig .tc := ⟨.hbm, 37, rfl⟩
abbrev main_call0_call0_call0_v9 : Ref sig .tc := ⟨.hbm, 38, rfl⟩
abbrev main_call0_call0_call0_v10 : Ref sig .tc := ⟨.hbm, 39, rfl⟩
abbrev main_call0_call0_call0_v11 : Ref sig .tc := ⟨.hbm, 40, rfl⟩
abbrev main_call0_call0_call0_v12 : Ref sig .tc := ⟨.hbm, 41, rfl⟩
abbrev main_call0_call0_call0_v13 : Ref sig .tc := ⟨.hbm, 42, rfl⟩
abbrev main_call0_call0_call0_c_2 : Ref sig .tc := ⟨.hbm, 43, rfl⟩
abbrev main_call0_call0_call0_v14 : Ref sig .tc := ⟨.hbm, 44, rfl⟩
abbrev main_call0_call0_call0_v15 : Ref sig .tc := ⟨.hbm, 45, rfl⟩
abbrev main_call0_call0_call0_c_3 : Ref sig .tc := ⟨.hbm, 46, rfl⟩
abbrev main_call0_call0_call0_v16 : Ref sig .tc := ⟨.hbm, 47, rfl⟩
abbrev main_call0_call0_call0_v17 : Ref sig .tc := ⟨.hbm, 48, rfl⟩
abbrev main_call0_call0_call0_v18 : Ref sig .tc := ⟨.hbm, 49, rfl⟩
abbrev main_call0_call0_call0_v19 : Ref sig .tc := ⟨.hbm, 50, rfl⟩
abbrev main_call0_call0_call0_v20 : Ref sig .tc := ⟨.hbm, 51, rfl⟩
abbrev main_call0_call0_call0_c_4 : Ref sig .tc := ⟨.hbm, 52, rfl⟩
abbrev main_call0_call0_call0_v21 : Ref sig .tc := ⟨.hbm, 53, rfl⟩
abbrev main_call0_call0_call0_v22 : Ref sig .tc := ⟨.hbm, 54, rfl⟩
abbrev main_call0_call0_call0_c_5 : Ref sig .tc := ⟨.hbm, 55, rfl⟩
abbrev main_call0_call0_call0_v23 : Ref sig .tc := ⟨.hbm, 56, rfl⟩
abbrev main_call0_call0_call0_v24 : Ref sig .tc := ⟨.hbm, 57, rfl⟩
abbrev main_call0_call0_call0_v25 : Ref sig .tc := ⟨.hbm, 58, rfl⟩
abbrev main_call0_call0_call0_v26 : Ref sig .tc := ⟨.hbm, 59, rfl⟩
abbrev main_call0_call0_call0_v27 : Ref sig .tc := ⟨.hbm, 60, rfl⟩
abbrev main_call0_call0_call0_c_6 : Ref sig .tc := ⟨.hbm, 61, rfl⟩
abbrev main_call0_call0_call0_v28 : Ref sig .tc := ⟨.hbm, 62, rfl⟩
abbrev main_call0_call0_call0_v29 : Ref sig .tc := ⟨.hbm, 63, rfl⟩
abbrev main_call0_call0_call0_c_7 : Ref sig .tc := ⟨.hbm, 64, rfl⟩
abbrev main_call0_call0_call0_v30 : Ref sig .tc := ⟨.hbm, 65, rfl⟩
abbrev main_call0_call0_call0_v31 : Ref sig .tc := ⟨.hbm, 66, rfl⟩
abbrev main_call0_call0_call0_v32 : Ref sig .tc := ⟨.hbm, 67, rfl⟩
abbrev main_call0_call0_call0_v33 : Ref sig .tc := ⟨.hbm, 68, rfl⟩
abbrev main_call0_call0_call0_v34 : Ref sig .tc := ⟨.hbm, 69, rfl⟩
abbrev main_call0_call0_call0_v35 : Ref sig .tc := ⟨.hbm, 70, rfl⟩
abbrev main_call0_call0_call0_v36 : Ref sig .tc := ⟨.hbm, 71, rfl⟩
abbrev main_call0_call0_call0_v37 : Ref sig .tc := ⟨.hbm, 72, rfl⟩
abbrev main_call0_call0_call0_c_8 : Ref sig .tc := ⟨.hbm, 73, rfl⟩
abbrev main_call0_call0_call0_v38 : Ref sig .tc := ⟨.hbm, 74, rfl⟩
abbrev main_call0_call0_call0_v39 : Ref sig .tc := ⟨.hbm, 75, rfl⟩
abbrev main_call0_call0_call0_v40 : Ref sig .tc := ⟨.hbm, 76, rfl⟩
abbrev main_call0_call0_call0_c_9 : Ref sig .tc := ⟨.hbm, 77, rfl⟩
abbrev main_call0_call0_call0_v41 : Ref sig .tc := ⟨.hbm, 78, rfl⟩
abbrev main_call0_call0_call0_v42 : Ref sig .tc := ⟨.hbm, 79, rfl⟩
abbrev main_call0_call0_call0_c_10 : Ref sig .tc := ⟨.hbm, 80, rfl⟩
abbrev main_call0_call0_call0_v43 : Ref sig .tc := ⟨.hbm, 81, rfl⟩
abbrev main_call0_call0_call0_v44 : Ref sig .tc := ⟨.hbm, 82, rfl⟩
abbrev main_call0_call0_call0_v45 : Ref sig .tc := ⟨.hbm, 83, rfl⟩
abbrev main_call0_call0_call0_v46 : Ref sig .tc := ⟨.hbm, 84, rfl⟩
abbrev main_call0_call0_call0_v47 : Ref sig .tc := ⟨.hbm, 85, rfl⟩
abbrev main_call0_call0_call0_c_11 : Ref sig .tc := ⟨.hbm, 86, rfl⟩
abbrev main_call0_call0_call0_v48 : Ref sig .tc := ⟨.hbm, 87, rfl⟩
abbrev main_call0_call0_call0_v49 : Ref sig .tc := ⟨.hbm, 88, rfl⟩
abbrev main_call0_call0_call0_c_12 : Ref sig .tc := ⟨.hbm, 89, rfl⟩
abbrev main_call0_call0_call0_v50 : Ref sig .tc := ⟨.hbm, 90, rfl⟩
abbrev main_call0_call0_call0_v51 : Ref sig .tc := ⟨.hbm, 91, rfl⟩
abbrev main_call0_call0_call0_v52 : Ref sig .tc := ⟨.hbm, 92, rfl⟩
abbrev main_call0_call0_call0_v53 : Ref sig .tc := ⟨.hbm, 93, rfl⟩
abbrev main_call0_call0_call0_v54 : Ref sig .tc := ⟨.hbm, 94, rfl⟩
abbrev main_call0_call0_call0_c_13 : Ref sig .tc := ⟨.hbm, 95, rfl⟩
abbrev main_call0_call0_call0_v55 : Ref sig .tc := ⟨.hbm, 96, rfl⟩
abbrev main_call0_call0_call0_v56 : Ref sig .tc := ⟨.hbm, 97, rfl⟩
abbrev main_call0_call0_call0_c_14 : Ref sig .tc := ⟨.hbm, 98, rfl⟩
abbrev main_call0_call0_call0_v57 : Ref sig .tc := ⟨.hbm, 99, rfl⟩
abbrev main_call0_call0_call0_v58 : Ref sig .tc := ⟨.hbm, 100, rfl⟩
abbrev main_call0_call0_call0_v59 : Ref sig .tc := ⟨.hbm, 101, rfl⟩
abbrev main_call0_call0_call0_v60 : Ref sig .tc := ⟨.hbm, 102, rfl⟩
abbrev main_call0_call0_call0_v61 : Ref sig .tc := ⟨.hbm, 103, rfl⟩
abbrev main_call0_call0_call0_c_15 : Ref sig .tc := ⟨.hbm, 104, rfl⟩
abbrev main_call0_call0_call0_v62 : Ref sig .tc := ⟨.hbm, 105, rfl⟩
abbrev main_call0_call0_call0_v63 : Ref sig .tc := ⟨.hbm, 106, rfl⟩
abbrev main_call0_call0_call0_c_16 : Ref sig .tc := ⟨.hbm, 107, rfl⟩
abbrev main_call0_call0_call0_v64 : Ref sig .tc := ⟨.hbm, 108, rfl⟩
abbrev main_call0_call0_call0_v65 : Ref sig .tc := ⟨.hbm, 109, rfl⟩
abbrev main_call0_call0_call0_v66 : Ref sig .tc := ⟨.hbm, 110, rfl⟩
abbrev main_call0_call0_call0_v67 : Ref sig .tc := ⟨.hbm, 111, rfl⟩
abbrev main_call0_call0_call0_v68 : Ref sig .tc := ⟨.hbm, 112, rfl⟩
abbrev main_call0_call0_call0_v69 : Ref sig .tc := ⟨.hbm, 113, rfl⟩
abbrev main_call0_call0_call0_v70 : Ref sig .tc := ⟨.hbm, 114, rfl⟩
abbrev main_call0_call0_call0_v71 : Ref sig .tc := ⟨.hbm, 115, rfl⟩
abbrev main_call0_call0_call0_c_17 : Ref sig .tc := ⟨.hbm, 116, rfl⟩
abbrev main_call0_call0_call0_v72 : Ref sig .tc := ⟨.hbm, 117, rfl⟩
abbrev main_call0_call0_call0_v73 : Ref sig .tc := ⟨.hbm, 118, rfl⟩
abbrev main_call0_call0_call0_v74 : Ref sig .tc := ⟨.hbm, 119, rfl⟩
abbrev main_call0_call0_call0_c_18 : Ref sig .tc := ⟨.hbm, 120, rfl⟩
abbrev main_call0_call0_call0_v75 : Ref sig .tc := ⟨.hbm, 121, rfl⟩
abbrev main_call0_call0_call0_v76 : Ref sig .tc := ⟨.hbm, 122, rfl⟩
abbrev main_call0_call0_call0_c_19 : Ref sig .tc := ⟨.hbm, 123, rfl⟩
abbrev main_call0_call0_call0_v77 : Ref sig .tc := ⟨.hbm, 124, rfl⟩
abbrev main_call0_call0_call0_v78 : Ref sig .tc := ⟨.hbm, 125, rfl⟩
abbrev main_call0_call0_call0_v79 : Ref sig .tc := ⟨.hbm, 126, rfl⟩
abbrev main_call0_call0_call0_v80 : Ref sig .tc := ⟨.hbm, 127, rfl⟩
abbrev main_call0_call0_call0_v81 : Ref sig .tc := ⟨.hbm, 128, rfl⟩
abbrev main_call0_call0_call0_c_20 : Ref sig .tc := ⟨.hbm, 129, rfl⟩
abbrev main_call0_call0_call0_v82 : Ref sig .tc := ⟨.hbm, 130, rfl⟩
abbrev main_call0_call0_call0_v83 : Ref sig .tc := ⟨.hbm, 131, rfl⟩
abbrev main_call0_call0_call0_c_21 : Ref sig .tc := ⟨.hbm, 132, rfl⟩
abbrev main_call0_call0_call0_v84 : Ref sig .tc := ⟨.hbm, 133, rfl⟩
abbrev main_call0_call0_call0_v85 : Ref sig .tc := ⟨.hbm, 134, rfl⟩
abbrev main_call0_call0_call0_v86 : Ref sig .tc := ⟨.hbm, 135, rfl⟩
abbrev main_call0_call0_call0_v87 : Ref sig .tc := ⟨.hbm, 136, rfl⟩
abbrev main_call0_call0_call0_v88 : Ref sig .tc := ⟨.hbm, 137, rfl⟩
abbrev main_call0_call0_call0_c_22 : Ref sig .tc := ⟨.hbm, 138, rfl⟩
abbrev main_call0_call0_call0_v89 : Ref sig .tc := ⟨.hbm, 139, rfl⟩
abbrev main_call0_call0_call0_v90 : Ref sig .tc := ⟨.hbm, 140, rfl⟩
abbrev main_call0_call0_call0_c_23 : Ref sig .tc := ⟨.hbm, 141, rfl⟩
abbrev main_call0_call0_call0_v91 : Ref sig .tc := ⟨.hbm, 142, rfl⟩
abbrev main_call0_call0_call0_v92 : Ref sig .tc := ⟨.hbm, 143, rfl⟩
abbrev main_call0_call0_call0_v93 : Ref sig .tc := ⟨.hbm, 144, rfl⟩
abbrev main_call0_call0_call0_v94 : Ref sig .tc := ⟨.hbm, 145, rfl⟩
abbrev main_call0_call0_call0_v95 : Ref sig .tc := ⟨.hbm, 146, rfl⟩
abbrev main_call0_call0_call0_c_24 : Ref sig .tc := ⟨.hbm, 147, rfl⟩
abbrev main_call0_call0_call0_v96 : Ref sig .tc := ⟨.hbm, 148, rfl⟩
abbrev main_call0_call0_call0_v97 : Ref sig .tc := ⟨.hbm, 149, rfl⟩
abbrev main_call0_call0_call0_c_25 : Ref sig .tc := ⟨.hbm, 150, rfl⟩
abbrev main_call0_call0_call0_v98 : Ref sig .tc := ⟨.hbm, 151, rfl⟩
abbrev main_call0_call0_call0_v99 : Ref sig .tc := ⟨.hbm, 152, rfl⟩
abbrev main_call0_call0_call0_v100 : Ref sig .tc := ⟨.hbm, 153, rfl⟩
abbrev main_call0_call0_call0_v101 : Ref sig .tc := ⟨.hbm, 154, rfl⟩
abbrev main_call0_call0_call0_v102 : Ref sig .tc := ⟨.hbm, 155, rfl⟩
abbrev main_call0_call0_call0_v103 : Ref sig .tc := ⟨.hbm, 156, rfl⟩
abbrev main_call0_call0_call0_v104 : Ref sig .tc := ⟨.hbm, 157, rfl⟩
abbrev main_call0_call0_call0_v105 : Ref sig .tc := ⟨.hbm, 158, rfl⟩
abbrev main_call0_call0_call0_c_26 : Ref sig .tc := ⟨.hbm, 159, rfl⟩
abbrev main_call0_call0_call0_v106 : Ref sig .tc := ⟨.hbm, 160, rfl⟩
abbrev main_call0_call0_call0_v107 : Ref sig .tc := ⟨.hbm, 161, rfl⟩
abbrev main_call0_call0_call0_v108 : Ref sig .tc := ⟨.hbm, 162, rfl⟩
abbrev main_call0_call0_call0_c_27 : Ref sig .tc := ⟨.hbm, 163, rfl⟩
abbrev main_call0_call0_call0_v109 : Ref sig .tc := ⟨.hbm, 164, rfl⟩
abbrev main_call0_call0_call0_v110 : Ref sig .tc := ⟨.hbm, 165, rfl⟩
abbrev main_call0_call0_call0_c_28 : Ref sig .tc := ⟨.hbm, 166, rfl⟩
abbrev main_call0_call0_call0_v111 : Ref sig .tc := ⟨.hbm, 167, rfl⟩
abbrev main_call0_call0_call0_v112 : Ref sig .tc := ⟨.hbm, 168, rfl⟩
abbrev main_call0_call0_call0_v113 : Ref sig .tc := ⟨.hbm, 169, rfl⟩
abbrev main_call0_call0_call0_v114 : Ref sig .tc := ⟨.hbm, 170, rfl⟩
abbrev main_call0_call0_call0_v115 : Ref sig .tc := ⟨.hbm, 171, rfl⟩
abbrev main_call0_call0_call0_c_29 : Ref sig .tc := ⟨.hbm, 172, rfl⟩
abbrev main_call0_call0_call0_v116 : Ref sig .tc := ⟨.hbm, 173, rfl⟩
abbrev main_call0_call0_call0_v117 : Ref sig .tc := ⟨.hbm, 174, rfl⟩
abbrev main_call0_call0_call0_c_30 : Ref sig .tc := ⟨.hbm, 175, rfl⟩
abbrev main_call0_call0_call0_v118 : Ref sig .tc := ⟨.hbm, 176, rfl⟩
abbrev main_call0_call0_call0_v119 : Ref sig .tc := ⟨.hbm, 177, rfl⟩
abbrev main_call0_call0_call0_v120 : Ref sig .tc := ⟨.hbm, 178, rfl⟩
abbrev main_call0_call0_call0_v121 : Ref sig .tc := ⟨.hbm, 179, rfl⟩
abbrev main_call0_call0_call0_v122 : Ref sig .tc := ⟨.hbm, 180, rfl⟩
abbrev main_call0_call0_call0_c_31 : Ref sig .tc := ⟨.hbm, 181, rfl⟩
abbrev main_call0_call0_call0_v123 : Ref sig .tc := ⟨.hbm, 182, rfl⟩
abbrev main_call0_call0_call0_v124 : Ref sig .tc := ⟨.hbm, 183, rfl⟩
abbrev main_call0_call0_call0_c_32 : Ref sig .tc := ⟨.hbm, 184, rfl⟩
abbrev main_call0_call0_call0_v125 : Ref sig .tc := ⟨.hbm, 185, rfl⟩
abbrev main_call0_call0_call0_v126 : Ref sig .tc := ⟨.hbm, 186, rfl⟩
abbrev main_call0_call0_call0_v127 : Ref sig .tc := ⟨.hbm, 187, rfl⟩
abbrev main_call0_call0_call0_v128 : Ref sig .tc := ⟨.hbm, 188, rfl⟩
abbrev main_call0_call0_call0_v129 : Ref sig .tc := ⟨.hbm, 189, rfl⟩
abbrev main_call0_call0_call0_c_33 : Ref sig .tc := ⟨.hbm, 190, rfl⟩
abbrev main_call0_call0_call0_v130 : Ref sig .tc := ⟨.hbm, 191, rfl⟩
abbrev main_call0_call0_call0_v131 : Ref sig .tc := ⟨.hbm, 192, rfl⟩
abbrev main_call0_call0_call0_c_34 : Ref sig .tc := ⟨.hbm, 193, rfl⟩
abbrev main_call0_call0_call0_v132 : Ref sig .tc := ⟨.hbm, 194, rfl⟩
abbrev main_call0_call0_call0_v133 : Ref sig .tc := ⟨.hbm, 195, rfl⟩
abbrev main_call0_call0_call0_v134 : Ref sig .tc := ⟨.hbm, 196, rfl⟩
abbrev main_call0_call0_call0_v135 : Ref sig .tc := ⟨.hbm, 197, rfl⟩
abbrev main_call0_call0_call0_v136 : Ref sig .tc := ⟨.hbm, 198, rfl⟩
abbrev main_call0_call0_call0_v137 : Ref sig .tc := ⟨.hbm, 199, rfl⟩
abbrev main_call0_call0_call0_v138 : Ref sig .tc := ⟨.hbm, 200, rfl⟩
abbrev main_call0_call0_call0_v139 : Ref sig .tc := ⟨.hbm, 201, rfl⟩
abbrev main_call0_call0_call0_c_35 : Ref sig .tc := ⟨.hbm, 202, rfl⟩
abbrev main_call0_call0_call0_v140 : Ref sig .tc := ⟨.hbm, 203, rfl⟩
abbrev main_call0_call0_call0_v141 : Ref sig .tc := ⟨.hbm, 204, rfl⟩
abbrev main_call0_call0_call0_v142 : Ref sig .tc := ⟨.hbm, 205, rfl⟩
abbrev main_call0_call0_call0_c_36 : Ref sig .tc := ⟨.hbm, 206, rfl⟩
abbrev main_call0_call0_call0_v143 : Ref sig .tc := ⟨.hbm, 207, rfl⟩
abbrev main_call0_call0_call0_v144 : Ref sig .tc := ⟨.hbm, 208, rfl⟩
abbrev main_call0_call0_call0_c_37 : Ref sig .tc := ⟨.hbm, 209, rfl⟩
abbrev main_call0_call0_call0_v145 : Ref sig .tc := ⟨.hbm, 210, rfl⟩
abbrev main_call0_call0_call0_v146 : Ref sig .tc := ⟨.hbm, 211, rfl⟩
abbrev main_call0_call0_call0_v147 : Ref sig .tc := ⟨.hbm, 212, rfl⟩
abbrev main_call0_call0_call0_v148 : Ref sig .tc := ⟨.hbm, 213, rfl⟩
abbrev main_call0_call0_call0_v149 : Ref sig .tc := ⟨.hbm, 214, rfl⟩
abbrev main_call0_call0_call0_c_38 : Ref sig .tc := ⟨.hbm, 215, rfl⟩
abbrev main_call0_call0_call0_v150 : Ref sig .tc := ⟨.hbm, 216, rfl⟩
abbrev main_call0_call0_call0_v151 : Ref sig .tc := ⟨.hbm, 217, rfl⟩
abbrev main_call0_call0_call0_c_39 : Ref sig .tc := ⟨.hbm, 218, rfl⟩
abbrev main_call0_call0_call0_v152 : Ref sig .tc := ⟨.hbm, 219, rfl⟩
abbrev main_call0_call0_call0_v153 : Ref sig .tc := ⟨.hbm, 220, rfl⟩
abbrev main_call0_call0_call0_v154 : Ref sig .tc := ⟨.hbm, 221, rfl⟩
abbrev main_call0_call0_call0_v155 : Ref sig .tc := ⟨.hbm, 222, rfl⟩
abbrev main_call0_call0_call0_v156 : Ref sig .tc := ⟨.hbm, 223, rfl⟩
abbrev main_call0_call0_call0_c_40 : Ref sig .tc := ⟨.hbm, 224, rfl⟩
abbrev main_call0_call0_call0_v157 : Ref sig .tc := ⟨.hbm, 225, rfl⟩
abbrev main_call0_call0_call0_v158 : Ref sig .tc := ⟨.hbm, 226, rfl⟩
abbrev main_call0_call0_call0_c_41 : Ref sig .tc := ⟨.hbm, 227, rfl⟩
abbrev main_call0_call0_call0_v159 : Ref sig .tc := ⟨.hbm, 228, rfl⟩
abbrev main_call0_call0_call0_v160 : Ref sig .tc := ⟨.hbm, 229, rfl⟩
abbrev main_call0_call0_call0_v161 : Ref sig .tc := ⟨.hbm, 230, rfl⟩
abbrev main_call0_call0_call0_v162 : Ref sig .tc := ⟨.hbm, 231, rfl⟩
abbrev main_call0_call0_call0_v163 : Ref sig .tc := ⟨.hbm, 232, rfl⟩
abbrev main_call0_call0_call0_c_42 : Ref sig .tc := ⟨.hbm, 233, rfl⟩
abbrev main_call0_call0_call0_v164 : Ref sig .tc := ⟨.hbm, 234, rfl⟩
abbrev main_call0_call0_call0_v165 : Ref sig .tc := ⟨.hbm, 235, rfl⟩
abbrev main_call0_call0_call0_c_43 : Ref sig .tc := ⟨.hbm, 236, rfl⟩
abbrev main_call0_call0_call0_v166 : Ref sig .tc := ⟨.hbm, 237, rfl⟩
abbrev main_call0_call0_call0_v167 : Ref sig .tc := ⟨.hbm, 238, rfl⟩
abbrev main_call0_call0_call0_v168 : Ref sig .tc := ⟨.hbm, 239, rfl⟩
abbrev main_call0_call0_call0_v169 : Ref sig .tc := ⟨.hbm, 240, rfl⟩
abbrev main_call0_call0_call0_v170 : Ref sig .tc := ⟨.hbm, 241, rfl⟩
abbrev main_call0_call0_v11_0 : Ref sig .tc := ⟨.hbm, 242, rfl⟩
abbrev main_call0_call0_call0_v172 : Ref sig .tc := ⟨.hbm, 243, rfl⟩
abbrev main_call0_call0_call0_v173 : Ref sig .tc := ⟨.hbm, 244, rfl⟩
abbrev main_call0_call0_call0_c_44 : Ref sig .tc := ⟨.hbm, 245, rfl⟩
abbrev main_call0_call0_call0_v174 : Ref sig .tc := ⟨.hbm, 246, rfl⟩
abbrev main_call0_call0_v11_1 : Ref sig .tc := ⟨.hbm, 247, rfl⟩
abbrev main_call0_call0_v12 : Ref sig .tc := ⟨.hbm, 248, rfl⟩
abbrev main_call0_call0_v13 : Ref sig .tc := ⟨.hbm, 249, rfl⟩
abbrev main_call0_v0 : Ref sig .tc := ⟨.hbm, 250, rfl⟩
abbrev main_call0_v1 : Ref sig .tc := ⟨.hbm, 251, rfl⟩
abbrev main_call0_v2 : Ref sig .tc := ⟨.hbm, 252, rfl⟩
abbrev main_call0_v3 : Ref sig .tc := ⟨.hbm, 253, rfl⟩
abbrev main_call0_v4 : Ref sig .tc := ⟨.hbm, 254, rfl⟩
abbrev main_call0_v5 : Ref sig .tc := ⟨.hbm, 255, rfl⟩
abbrev main_call0_v6 : Ref sig .tc := ⟨.hbm, 256, rfl⟩
abbrev main_call0_v7 : Ref sig .tc := ⟨.hbm, 257, rfl⟩
abbrev main_call0_v8 : Ref sig .tc := ⟨.hbm, 258, rfl⟩
abbrev main_call0_v9 : Ref sig .tc := ⟨.hbm, 259, rfl⟩
abbrev main_call0_c : Ref sig .tc := ⟨.hbm, 260, rfl⟩
abbrev main_call0_v10 : Ref sig .tc := ⟨.hbm, 261, rfl⟩
abbrev main_call0_v11 : Ref sig .tc := ⟨.hbm, 262, rfl⟩
abbrev main_call0_c_0 : Ref sig .tc := ⟨.hbm, 263, rfl⟩
abbrev main_call0_v12 : Ref sig .tc := ⟨.hbm, 264, rfl⟩
abbrev main_call0_v13 : Ref sig .tc := ⟨.hbm, 265, rfl⟩
abbrev main_call0_v14 : Ref sig .tc := ⟨.hbm, 266, rfl⟩
abbrev main_call0_v15 : Ref sig .tc := ⟨.hbm, 267, rfl⟩
abbrev main_call0_call1_v0 : Ref sig .tc := ⟨.hbm, 268, rfl⟩
abbrev main_call0_call1_c : Ref sig .tc := ⟨.hbm, 269, rfl⟩
abbrev main_call0_call1_v1 : Ref sig .tc := ⟨.hbm, 270, rfl⟩
abbrev main_call0_call1_v2 : Ref sig .tc := ⟨.hbm, 271, rfl⟩
abbrev main_call0_call1_v3 : Ref sig .tc := ⟨.hbm, 272, rfl⟩
abbrev main_call0_call1_v4 : Ref sig .tc := ⟨.hbm, 273, rfl⟩
abbrev main_call0_call1_v5 : Ref sig .tc := ⟨.hbm, 274, rfl⟩
abbrev main_call0_call1_v6 : Ref sig .tc := ⟨.hbm, 275, rfl⟩
abbrev main_call0_call1_c_0 : Ref sig .tc := ⟨.hbm, 276, rfl⟩
abbrev main_call0_call1_v7 : Ref sig .tc := ⟨.hbm, 277, rfl⟩
abbrev main_call0_call1_v8 : Ref sig .tc := ⟨.hbm, 278, rfl⟩
abbrev main_call0_call1_c_1 : Ref sig .tc := ⟨.hbm, 279, rfl⟩
abbrev main_call0_call1_v9 : Ref sig .tc := ⟨.hbm, 280, rfl⟩
abbrev main_call0_call1_v10 : Ref sig .tc := ⟨.hbm, 281, rfl⟩
abbrev main_call0_call1_v11 : Ref sig .tc := ⟨.hbm, 282, rfl⟩
abbrev main_call0_call1_v12 : Ref sig .tc := ⟨.hbm, 283, rfl⟩
abbrev main_call0_call1_v13 : Ref sig .tc := ⟨.hbm, 284, rfl⟩
abbrev main_call0_call1_c_2 : Ref sig .tc := ⟨.hbm, 285, rfl⟩
abbrev main_call0_call1_v14 : Ref sig .tc := ⟨.hbm, 286, rfl⟩
abbrev main_call0_call1_v15 : Ref sig .tc := ⟨.hbm, 287, rfl⟩
abbrev main_call0_call1_c_3 : Ref sig .tc := ⟨.hbm, 288, rfl⟩
abbrev main_call0_call1_v16 : Ref sig .tc := ⟨.hbm, 289, rfl⟩
abbrev main_call0_call1_v17 : Ref sig .tc := ⟨.hbm, 290, rfl⟩
abbrev main_call0_call1_v18 : Ref sig .tc := ⟨.hbm, 291, rfl⟩
abbrev main_call0_call1_v19 : Ref sig .tc := ⟨.hbm, 292, rfl⟩
abbrev main_call0_call1_v20 : Ref sig .tc := ⟨.hbm, 293, rfl⟩
abbrev main_call0_call1_c_4 : Ref sig .tc := ⟨.hbm, 294, rfl⟩
abbrev main_call0_call1_v21 : Ref sig .tc := ⟨.hbm, 295, rfl⟩
abbrev main_call0_call1_v22 : Ref sig .tc := ⟨.hbm, 296, rfl⟩
abbrev main_call0_call1_c_5 : Ref sig .tc := ⟨.hbm, 297, rfl⟩
abbrev main_call0_call1_v23 : Ref sig .tc := ⟨.hbm, 298, rfl⟩
abbrev main_call0_call1_v24 : Ref sig .tc := ⟨.hbm, 299, rfl⟩
abbrev main_call0_call1_v25 : Ref sig .tc := ⟨.hbm, 300, rfl⟩
abbrev main_call0_call1_v26 : Ref sig .tc := ⟨.hbm, 301, rfl⟩
abbrev main_call0_call1_v27 : Ref sig .tc := ⟨.hbm, 302, rfl⟩
abbrev main_call0_call1_c_6 : Ref sig .tc := ⟨.hbm, 303, rfl⟩
abbrev main_call0_call1_v28 : Ref sig .tc := ⟨.hbm, 304, rfl⟩
abbrev main_call0_call1_v29 : Ref sig .tc := ⟨.hbm, 305, rfl⟩
abbrev main_call0_call1_c_7 : Ref sig .tc := ⟨.hbm, 306, rfl⟩
abbrev main_call0_call1_v30 : Ref sig .tc := ⟨.hbm, 307, rfl⟩
abbrev main_call0_call1_v31 : Ref sig .tc := ⟨.hbm, 308, rfl⟩
abbrev main_call0_call1_v32 : Ref sig .tc := ⟨.hbm, 309, rfl⟩
abbrev main_call0_call1_v33 : Ref sig .tc := ⟨.hbm, 310, rfl⟩
abbrev main_call0_call1_v34 : Ref sig .tc := ⟨.hbm, 311, rfl⟩
abbrev main_call0_call1_v35 : Ref sig .tc := ⟨.hbm, 312, rfl⟩
abbrev main_call0_call1_v36 : Ref sig .tc := ⟨.hbm, 313, rfl⟩
abbrev main_call0_call1_v37 : Ref sig .tc := ⟨.hbm, 314, rfl⟩
abbrev main_call0_call1_c_8 : Ref sig .tc := ⟨.hbm, 315, rfl⟩
abbrev main_call0_call1_v38 : Ref sig .tc := ⟨.hbm, 316, rfl⟩
abbrev main_call0_call1_v39 : Ref sig .tc := ⟨.hbm, 317, rfl⟩
abbrev main_call0_call1_v40 : Ref sig .tc := ⟨.hbm, 318, rfl⟩
abbrev main_call0_call1_c_9 : Ref sig .tc := ⟨.hbm, 319, rfl⟩
abbrev main_call0_call1_v41 : Ref sig .tc := ⟨.hbm, 320, rfl⟩
abbrev main_call0_call1_v42 : Ref sig .tc := ⟨.hbm, 321, rfl⟩
abbrev main_call0_call1_c_10 : Ref sig .tc := ⟨.hbm, 322, rfl⟩
abbrev main_call0_call1_v43 : Ref sig .tc := ⟨.hbm, 323, rfl⟩
abbrev main_call0_call1_v44 : Ref sig .tc := ⟨.hbm, 324, rfl⟩
abbrev main_call0_call1_v45 : Ref sig .tc := ⟨.hbm, 325, rfl⟩
abbrev main_call0_call1_v46 : Ref sig .tc := ⟨.hbm, 326, rfl⟩
abbrev main_call0_call1_v47 : Ref sig .tc := ⟨.hbm, 327, rfl⟩
abbrev main_call0_call1_c_11 : Ref sig .tc := ⟨.hbm, 328, rfl⟩
abbrev main_call0_call1_v48 : Ref sig .tc := ⟨.hbm, 329, rfl⟩
abbrev main_call0_call1_v49 : Ref sig .tc := ⟨.hbm, 330, rfl⟩
abbrev main_call0_call1_c_12 : Ref sig .tc := ⟨.hbm, 331, rfl⟩
abbrev main_call0_call1_v50 : Ref sig .tc := ⟨.hbm, 332, rfl⟩
abbrev main_call0_call1_v51 : Ref sig .tc := ⟨.hbm, 333, rfl⟩
abbrev main_call0_call1_v52 : Ref sig .tc := ⟨.hbm, 334, rfl⟩
abbrev main_call0_call1_v53 : Ref sig .tc := ⟨.hbm, 335, rfl⟩
abbrev main_call0_call1_v54 : Ref sig .tc := ⟨.hbm, 336, rfl⟩
abbrev main_call0_call1_c_13 : Ref sig .tc := ⟨.hbm, 337, rfl⟩
abbrev main_call0_call1_v55 : Ref sig .tc := ⟨.hbm, 338, rfl⟩
abbrev main_call0_call1_v56 : Ref sig .tc := ⟨.hbm, 339, rfl⟩
abbrev main_call0_call1_c_14 : Ref sig .tc := ⟨.hbm, 340, rfl⟩
abbrev main_call0_call1_v57 : Ref sig .tc := ⟨.hbm, 341, rfl⟩
abbrev main_call0_call1_v58 : Ref sig .tc := ⟨.hbm, 342, rfl⟩
abbrev main_call0_call1_v59 : Ref sig .tc := ⟨.hbm, 343, rfl⟩
abbrev main_call0_call1_v60 : Ref sig .tc := ⟨.hbm, 344, rfl⟩
abbrev main_call0_call1_v61 : Ref sig .tc := ⟨.hbm, 345, rfl⟩
abbrev main_call0_call1_c_15 : Ref sig .tc := ⟨.hbm, 346, rfl⟩
abbrev main_call0_call1_v62 : Ref sig .tc := ⟨.hbm, 347, rfl⟩
abbrev main_call0_call1_v63 : Ref sig .tc := ⟨.hbm, 348, rfl⟩
abbrev main_call0_call1_c_16 : Ref sig .tc := ⟨.hbm, 349, rfl⟩
abbrev main_call0_call1_v64 : Ref sig .tc := ⟨.hbm, 350, rfl⟩
abbrev main_call0_call1_v65 : Ref sig .tc := ⟨.hbm, 351, rfl⟩
abbrev main_call0_call1_v66 : Ref sig .tc := ⟨.hbm, 352, rfl⟩
abbrev main_call0_call1_v67 : Ref sig .tc := ⟨.hbm, 353, rfl⟩
abbrev main_call0_call1_v68 : Ref sig .tc := ⟨.hbm, 354, rfl⟩
abbrev main_call0_call1_v69 : Ref sig .tc := ⟨.hbm, 355, rfl⟩
abbrev main_call0_call1_v70 : Ref sig .tc := ⟨.hbm, 356, rfl⟩
abbrev main_call0_call1_v71 : Ref sig .tc := ⟨.hbm, 357, rfl⟩
abbrev main_call0_call1_c_17 : Ref sig .tc := ⟨.hbm, 358, rfl⟩
abbrev main_call0_call1_v72 : Ref sig .tc := ⟨.hbm, 359, rfl⟩
abbrev main_call0_call1_v73 : Ref sig .tc := ⟨.hbm, 360, rfl⟩
abbrev main_call0_call1_v74 : Ref sig .tc := ⟨.hbm, 361, rfl⟩
abbrev main_call0_call1_c_18 : Ref sig .tc := ⟨.hbm, 362, rfl⟩
abbrev main_call0_call1_v75 : Ref sig .tc := ⟨.hbm, 363, rfl⟩
abbrev main_call0_call1_v76 : Ref sig .tc := ⟨.hbm, 364, rfl⟩
abbrev main_call0_call1_c_19 : Ref sig .tc := ⟨.hbm, 365, rfl⟩
abbrev main_call0_call1_v77 : Ref sig .tc := ⟨.hbm, 366, rfl⟩
abbrev main_call0_call1_v78 : Ref sig .tc := ⟨.hbm, 367, rfl⟩
abbrev main_call0_call1_v79 : Ref sig .tc := ⟨.hbm, 368, rfl⟩
abbrev main_call0_call1_v80 : Ref sig .tc := ⟨.hbm, 369, rfl⟩
abbrev main_call0_call1_v81 : Ref sig .tc := ⟨.hbm, 370, rfl⟩
abbrev main_call0_call1_c_20 : Ref sig .tc := ⟨.hbm, 371, rfl⟩
abbrev main_call0_call1_v82 : Ref sig .tc := ⟨.hbm, 372, rfl⟩
abbrev main_call0_call1_v83 : Ref sig .tc := ⟨.hbm, 373, rfl⟩
abbrev main_call0_call1_c_21 : Ref sig .tc := ⟨.hbm, 374, rfl⟩
abbrev main_call0_call1_v84 : Ref sig .tc := ⟨.hbm, 375, rfl⟩
abbrev main_call0_call1_v85 : Ref sig .tc := ⟨.hbm, 376, rfl⟩
abbrev main_call0_call1_v86 : Ref sig .tc := ⟨.hbm, 377, rfl⟩
abbrev main_call0_call1_v87 : Ref sig .tc := ⟨.hbm, 378, rfl⟩
abbrev main_call0_call1_v88 : Ref sig .tc := ⟨.hbm, 379, rfl⟩
abbrev main_call0_call1_c_22 : Ref sig .tc := ⟨.hbm, 380, rfl⟩
abbrev main_call0_call1_v89 : Ref sig .tc := ⟨.hbm, 381, rfl⟩
abbrev main_call0_call1_v90 : Ref sig .tc := ⟨.hbm, 382, rfl⟩
abbrev main_call0_call1_c_23 : Ref sig .tc := ⟨.hbm, 383, rfl⟩
abbrev main_call0_call1_v91 : Ref sig .tc := ⟨.hbm, 384, rfl⟩
abbrev main_call0_call1_v92 : Ref sig .tc := ⟨.hbm, 385, rfl⟩
abbrev main_call0_call1_v93 : Ref sig .tc := ⟨.hbm, 386, rfl⟩
abbrev main_call0_call1_v94 : Ref sig .tc := ⟨.hbm, 387, rfl⟩
abbrev main_call0_call1_v95 : Ref sig .tc := ⟨.hbm, 388, rfl⟩
abbrev main_call0_call1_c_24 : Ref sig .tc := ⟨.hbm, 389, rfl⟩
abbrev main_call0_call1_v96 : Ref sig .tc := ⟨.hbm, 390, rfl⟩
abbrev main_call0_call1_v97 : Ref sig .tc := ⟨.hbm, 391, rfl⟩
abbrev main_call0_call1_c_25 : Ref sig .tc := ⟨.hbm, 392, rfl⟩
abbrev main_call0_call1_v98 : Ref sig .tc := ⟨.hbm, 393, rfl⟩
abbrev main_call0_call1_v99 : Ref sig .tc := ⟨.hbm, 394, rfl⟩
abbrev main_call0_call1_v100 : Ref sig .tc := ⟨.hbm, 395, rfl⟩
abbrev main_call0_call1_v101 : Ref sig .tc := ⟨.hbm, 396, rfl⟩
abbrev main_call0_call1_v102 : Ref sig .tc := ⟨.hbm, 397, rfl⟩
abbrev main_call0_call1_v103 : Ref sig .tc := ⟨.hbm, 398, rfl⟩
abbrev main_call0_call1_v104 : Ref sig .tc := ⟨.hbm, 399, rfl⟩
abbrev main_call0_call1_v105 : Ref sig .tc := ⟨.hbm, 400, rfl⟩
abbrev main_call0_call1_c_26 : Ref sig .tc := ⟨.hbm, 401, rfl⟩
abbrev main_call0_call1_v106 : Ref sig .tc := ⟨.hbm, 402, rfl⟩
abbrev main_call0_call1_v107 : Ref sig .tc := ⟨.hbm, 403, rfl⟩
abbrev main_call0_call1_v108 : Ref sig .tc := ⟨.hbm, 404, rfl⟩
abbrev main_call0_call1_c_27 : Ref sig .tc := ⟨.hbm, 405, rfl⟩
abbrev main_call0_call1_v109 : Ref sig .tc := ⟨.hbm, 406, rfl⟩
abbrev main_call0_call1_v110 : Ref sig .tc := ⟨.hbm, 407, rfl⟩
abbrev main_call0_call1_c_28 : Ref sig .tc := ⟨.hbm, 408, rfl⟩
abbrev main_call0_call1_v111 : Ref sig .tc := ⟨.hbm, 409, rfl⟩
abbrev main_call0_call1_v112 : Ref sig .tc := ⟨.hbm, 410, rfl⟩
abbrev main_call0_call1_v113 : Ref sig .tc := ⟨.hbm, 411, rfl⟩
abbrev main_call0_call1_v114 : Ref sig .tc := ⟨.hbm, 412, rfl⟩
abbrev main_call0_call1_v115 : Ref sig .tc := ⟨.hbm, 413, rfl⟩
abbrev main_call0_call1_c_29 : Ref sig .tc := ⟨.hbm, 414, rfl⟩
abbrev main_call0_call1_v116 : Ref sig .tc := ⟨.hbm, 415, rfl⟩
abbrev main_call0_call1_v117 : Ref sig .tc := ⟨.hbm, 416, rfl⟩
abbrev main_call0_call1_c_30 : Ref sig .tc := ⟨.hbm, 417, rfl⟩
abbrev main_call0_call1_v118 : Ref sig .tc := ⟨.hbm, 418, rfl⟩
abbrev main_call0_call1_v119 : Ref sig .tc := ⟨.hbm, 419, rfl⟩
abbrev main_call0_call1_v120 : Ref sig .tc := ⟨.hbm, 420, rfl⟩
abbrev main_call0_call1_v121 : Ref sig .tc := ⟨.hbm, 421, rfl⟩
abbrev main_call0_call1_v122 : Ref sig .tc := ⟨.hbm, 422, rfl⟩
abbrev main_call0_call1_c_31 : Ref sig .tc := ⟨.hbm, 423, rfl⟩
abbrev main_call0_call1_v123 : Ref sig .tc := ⟨.hbm, 424, rfl⟩
abbrev main_call0_call1_v124 : Ref sig .tc := ⟨.hbm, 425, rfl⟩
abbrev main_call0_call1_c_32 : Ref sig .tc := ⟨.hbm, 426, rfl⟩
abbrev main_call0_call1_v125 : Ref sig .tc := ⟨.hbm, 427, rfl⟩
abbrev main_call0_call1_v126 : Ref sig .tc := ⟨.hbm, 428, rfl⟩
abbrev main_call0_call1_v127 : Ref sig .tc := ⟨.hbm, 429, rfl⟩
abbrev main_call0_call1_v128 : Ref sig .tc := ⟨.hbm, 430, rfl⟩
abbrev main_call0_call1_v129 : Ref sig .tc := ⟨.hbm, 431, rfl⟩
abbrev main_call0_call1_c_33 : Ref sig .tc := ⟨.hbm, 432, rfl⟩
abbrev main_call0_call1_v130 : Ref sig .tc := ⟨.hbm, 433, rfl⟩
abbrev main_call0_call1_v131 : Ref sig .tc := ⟨.hbm, 434, rfl⟩
abbrev main_call0_call1_c_34 : Ref sig .tc := ⟨.hbm, 435, rfl⟩
abbrev main_call0_call1_v132 : Ref sig .tc := ⟨.hbm, 436, rfl⟩
abbrev main_call0_call1_v133 : Ref sig .tc := ⟨.hbm, 437, rfl⟩
abbrev main_call0_call1_v134 : Ref sig .tc := ⟨.hbm, 438, rfl⟩
abbrev main_call0_call1_v135 : Ref sig .tc := ⟨.hbm, 439, rfl⟩
abbrev main_call0_call1_v136 : Ref sig .tc := ⟨.hbm, 440, rfl⟩
abbrev main_call0_call1_v137 : Ref sig .tc := ⟨.hbm, 441, rfl⟩
abbrev main_call0_call1_v138 : Ref sig .tc := ⟨.hbm, 442, rfl⟩
abbrev main_call0_call1_v139 : Ref sig .tc := ⟨.hbm, 443, rfl⟩
abbrev main_call0_call1_c_35 : Ref sig .tc := ⟨.hbm, 444, rfl⟩
abbrev main_call0_call1_v140 : Ref sig .tc := ⟨.hbm, 445, rfl⟩
abbrev main_call0_call1_v141 : Ref sig .tc := ⟨.hbm, 446, rfl⟩
abbrev main_call0_call1_v142 : Ref sig .tc := ⟨.hbm, 447, rfl⟩
abbrev main_call0_call1_c_36 : Ref sig .tc := ⟨.hbm, 448, rfl⟩
abbrev main_call0_call1_v143 : Ref sig .tc := ⟨.hbm, 449, rfl⟩
abbrev main_call0_call1_v144 : Ref sig .tc := ⟨.hbm, 450, rfl⟩
abbrev main_call0_call1_c_37 : Ref sig .tc := ⟨.hbm, 451, rfl⟩
abbrev main_call0_call1_v145 : Ref sig .tc := ⟨.hbm, 452, rfl⟩
abbrev main_call0_call1_v146 : Ref sig .tc := ⟨.hbm, 453, rfl⟩
abbrev main_call0_call1_v147 : Ref sig .tc := ⟨.hbm, 454, rfl⟩
abbrev main_call0_call1_v148 : Ref sig .tc := ⟨.hbm, 455, rfl⟩
abbrev main_call0_call1_v149 : Ref sig .tc := ⟨.hbm, 456, rfl⟩
abbrev main_call0_call1_c_38 : Ref sig .tc := ⟨.hbm, 457, rfl⟩
abbrev main_call0_call1_v150 : Ref sig .tc := ⟨.hbm, 458, rfl⟩
abbrev main_call0_call1_v151 : Ref sig .tc := ⟨.hbm, 459, rfl⟩
abbrev main_call0_call1_c_39 : Ref sig .tc := ⟨.hbm, 460, rfl⟩
abbrev main_call0_call1_v152 : Ref sig .tc := ⟨.hbm, 461, rfl⟩
abbrev main_call0_call1_v153 : Ref sig .tc := ⟨.hbm, 462, rfl⟩
abbrev main_call0_call1_v154 : Ref sig .tc := ⟨.hbm, 463, rfl⟩
abbrev main_call0_call1_v155 : Ref sig .tc := ⟨.hbm, 464, rfl⟩
abbrev main_call0_call1_v156 : Ref sig .tc := ⟨.hbm, 465, rfl⟩
abbrev main_call0_call1_c_40 : Ref sig .tc := ⟨.hbm, 466, rfl⟩
abbrev main_call0_call1_v157 : Ref sig .tc := ⟨.hbm, 467, rfl⟩
abbrev main_call0_call1_v158 : Ref sig .tc := ⟨.hbm, 468, rfl⟩
abbrev main_call0_call1_c_41 : Ref sig .tc := ⟨.hbm, 469, rfl⟩
abbrev main_call0_call1_v159 : Ref sig .tc := ⟨.hbm, 470, rfl⟩
abbrev main_call0_call1_v160 : Ref sig .tc := ⟨.hbm, 471, rfl⟩
abbrev main_call0_call1_v161 : Ref sig .tc := ⟨.hbm, 472, rfl⟩
abbrev main_call0_call1_v162 : Ref sig .tc := ⟨.hbm, 473, rfl⟩
abbrev main_call0_call1_v163 : Ref sig .tc := ⟨.hbm, 474, rfl⟩
abbrev main_call0_call1_c_42 : Ref sig .tc := ⟨.hbm, 475, rfl⟩
abbrev main_call0_call1_v164 : Ref sig .tc := ⟨.hbm, 476, rfl⟩
abbrev main_call0_call1_v165 : Ref sig .tc := ⟨.hbm, 477, rfl⟩
abbrev main_call0_call1_c_43 : Ref sig .tc := ⟨.hbm, 478, rfl⟩
abbrev main_call0_call1_v166 : Ref sig .tc := ⟨.hbm, 479, rfl⟩
abbrev main_call0_call1_v167 : Ref sig .tc := ⟨.hbm, 480, rfl⟩
abbrev main_call0_call1_v168 : Ref sig .tc := ⟨.hbm, 481, rfl⟩
abbrev main_call0_call1_v169 : Ref sig .tc := ⟨.hbm, 482, rfl⟩
abbrev main_call0_call1_v170 : Ref sig .tc := ⟨.hbm, 483, rfl⟩
abbrev main_call0_v16_0 : Ref sig .tc := ⟨.hbm, 484, rfl⟩
abbrev main_call0_call1_v172 : Ref sig .tc := ⟨.hbm, 485, rfl⟩
abbrev main_call0_call1_v173 : Ref sig .tc := ⟨.hbm, 486, rfl⟩
abbrev main_call0_call1_c_44 : Ref sig .tc := ⟨.hbm, 487, rfl⟩
abbrev main_call0_call1_v174 : Ref sig .tc := ⟨.hbm, 488, rfl⟩
abbrev main_call0_v16_1 : Ref sig .tc := ⟨.hbm, 489, rfl⟩
abbrev main_call0_v17 : Ref sig .tc := ⟨.hbm, 490, rfl⟩
abbrev main_call0_v18_0 : Ref sig .tc := ⟨.hbm, 491, rfl⟩
abbrev main_call0_v18_1 : Ref sig .tc := ⟨.hbm, 492, rfl⟩
abbrev main_call0_call2_v0 : Ref sig .tc := ⟨.hbm, 493, rfl⟩
abbrev main_call0_call2_v1 : Ref sig .tc := ⟨.hbm, 494, rfl⟩
abbrev main_call0_call2_v2 : Ref sig .tc := ⟨.hbm, 495, rfl⟩
abbrev main_call0_call2_v3 : Ref sig .tc := ⟨.hbm, 496, rfl⟩
abbrev main_call0_call2_v4 : Ref sig .tc := ⟨.hbm, 497, rfl⟩
abbrev main_call0_call2_c : Ref sig .tc := ⟨.hbm, 498, rfl⟩
abbrev main_call0_call2_v5 : Ref sig .tc := ⟨.hbm, 499, rfl⟩
abbrev main_call0_call2_v6 : Ref sig .tc := ⟨.hbm, 500, rfl⟩
abbrev main_call0_call2_c_0 : Ref sig .tc := ⟨.hbm, 501, rfl⟩
abbrev main_call0_call2_v7 : Ref sig .tc := ⟨.hbm, 502, rfl⟩
abbrev main_call0_call2_v8 : Ref sig .tc := ⟨.hbm, 503, rfl⟩
abbrev main_call0_call2_v9 : Ref sig .tc := ⟨.hbm, 504, rfl⟩
abbrev main_call0_call2_v10 : Ref sig .tc := ⟨.hbm, 505, rfl⟩
abbrev main_call0_call2_call0_v0 : Ref sig .tc := ⟨.hbm, 506, rfl⟩
abbrev main_call0_call2_call0_c : Ref sig .tc := ⟨.hbm, 507, rfl⟩
abbrev main_call0_call2_call0_v1 : Ref sig .tc := ⟨.hbm, 508, rfl⟩
abbrev main_call0_call2_call0_v2 : Ref sig .tc := ⟨.hbm, 509, rfl⟩
abbrev main_call0_call2_call0_v3 : Ref sig .tc := ⟨.hbm, 510, rfl⟩
abbrev main_call0_call2_call0_v4 : Ref sig .tc := ⟨.hbm, 511, rfl⟩
abbrev main_call0_call2_call0_v5 : Ref sig .tc := ⟨.hbm, 512, rfl⟩
abbrev main_call0_call2_call0_v6 : Ref sig .tc := ⟨.hbm, 513, rfl⟩
abbrev main_call0_call2_call0_c_0 : Ref sig .tc := ⟨.hbm, 514, rfl⟩
abbrev main_call0_call2_call0_v7 : Ref sig .tc := ⟨.hbm, 515, rfl⟩
abbrev main_call0_call2_call0_v8 : Ref sig .tc := ⟨.hbm, 516, rfl⟩
abbrev main_call0_call2_call0_c_1 : Ref sig .tc := ⟨.hbm, 517, rfl⟩
abbrev main_call0_call2_call0_v9 : Ref sig .tc := ⟨.hbm, 518, rfl⟩
abbrev main_call0_call2_call0_v10 : Ref sig .tc := ⟨.hbm, 519, rfl⟩
abbrev main_call0_call2_call0_v11 : Ref sig .tc := ⟨.hbm, 520, rfl⟩
abbrev main_call0_call2_call0_v12 : Ref sig .tc := ⟨.hbm, 521, rfl⟩
abbrev main_call0_call2_call0_v13 : Ref sig .tc := ⟨.hbm, 522, rfl⟩
abbrev main_call0_call2_call0_c_2 : Ref sig .tc := ⟨.hbm, 523, rfl⟩
abbrev main_call0_call2_call0_v14 : Ref sig .tc := ⟨.hbm, 524, rfl⟩
abbrev main_call0_call2_call0_v15 : Ref sig .tc := ⟨.hbm, 525, rfl⟩
abbrev main_call0_call2_call0_c_3 : Ref sig .tc := ⟨.hbm, 526, rfl⟩
abbrev main_call0_call2_call0_v16 : Ref sig .tc := ⟨.hbm, 527, rfl⟩
abbrev main_call0_call2_call0_v17 : Ref sig .tc := ⟨.hbm, 528, rfl⟩
abbrev main_call0_call2_call0_v18 : Ref sig .tc := ⟨.hbm, 529, rfl⟩
abbrev main_call0_call2_call0_v19 : Ref sig .tc := ⟨.hbm, 530, rfl⟩
abbrev main_call0_call2_call0_v20 : Ref sig .tc := ⟨.hbm, 531, rfl⟩
abbrev main_call0_call2_call0_c_4 : Ref sig .tc := ⟨.hbm, 532, rfl⟩
abbrev main_call0_call2_call0_v21 : Ref sig .tc := ⟨.hbm, 533, rfl⟩
abbrev main_call0_call2_call0_v22 : Ref sig .tc := ⟨.hbm, 534, rfl⟩
abbrev main_call0_call2_call0_c_5 : Ref sig .tc := ⟨.hbm, 535, rfl⟩
abbrev main_call0_call2_call0_v23 : Ref sig .tc := ⟨.hbm, 536, rfl⟩
abbrev main_call0_call2_call0_v24 : Ref sig .tc := ⟨.hbm, 537, rfl⟩
abbrev main_call0_call2_call0_v25 : Ref sig .tc := ⟨.hbm, 538, rfl⟩
abbrev main_call0_call2_call0_v26 : Ref sig .tc := ⟨.hbm, 539, rfl⟩
abbrev main_call0_call2_call0_v27 : Ref sig .tc := ⟨.hbm, 540, rfl⟩
abbrev main_call0_call2_call0_c_6 : Ref sig .tc := ⟨.hbm, 541, rfl⟩
abbrev main_call0_call2_call0_v28 : Ref sig .tc := ⟨.hbm, 542, rfl⟩
abbrev main_call0_call2_call0_v29 : Ref sig .tc := ⟨.hbm, 543, rfl⟩
abbrev main_call0_call2_call0_c_7 : Ref sig .tc := ⟨.hbm, 544, rfl⟩
abbrev main_call0_call2_call0_v30 : Ref sig .tc := ⟨.hbm, 545, rfl⟩
abbrev main_call0_call2_call0_v31 : Ref sig .tc := ⟨.hbm, 546, rfl⟩
abbrev main_call0_call2_call0_v32 : Ref sig .tc := ⟨.hbm, 547, rfl⟩
abbrev main_call0_call2_call0_v33 : Ref sig .tc := ⟨.hbm, 548, rfl⟩
abbrev main_call0_call2_call0_v34 : Ref sig .tc := ⟨.hbm, 549, rfl⟩
abbrev main_call0_call2_call0_v35 : Ref sig .tc := ⟨.hbm, 550, rfl⟩
abbrev main_call0_call2_call0_v36 : Ref sig .tc := ⟨.hbm, 551, rfl⟩
abbrev main_call0_call2_call0_v37 : Ref sig .tc := ⟨.hbm, 552, rfl⟩
abbrev main_call0_call2_call0_c_8 : Ref sig .tc := ⟨.hbm, 553, rfl⟩
abbrev main_call0_call2_call0_v38 : Ref sig .tc := ⟨.hbm, 554, rfl⟩
abbrev main_call0_call2_call0_v39 : Ref sig .tc := ⟨.hbm, 555, rfl⟩
abbrev main_call0_call2_call0_v40 : Ref sig .tc := ⟨.hbm, 556, rfl⟩
abbrev main_call0_call2_call0_c_9 : Ref sig .tc := ⟨.hbm, 557, rfl⟩
abbrev main_call0_call2_call0_v41 : Ref sig .tc := ⟨.hbm, 558, rfl⟩
abbrev main_call0_call2_call0_v42 : Ref sig .tc := ⟨.hbm, 559, rfl⟩
abbrev main_call0_call2_call0_c_10 : Ref sig .tc := ⟨.hbm, 560, rfl⟩
abbrev main_call0_call2_call0_v43 : Ref sig .tc := ⟨.hbm, 561, rfl⟩
abbrev main_call0_call2_call0_v44 : Ref sig .tc := ⟨.hbm, 562, rfl⟩
abbrev main_call0_call2_call0_v45 : Ref sig .tc := ⟨.hbm, 563, rfl⟩
abbrev main_call0_call2_call0_v46 : Ref sig .tc := ⟨.hbm, 564, rfl⟩
abbrev main_call0_call2_call0_v47 : Ref sig .tc := ⟨.hbm, 565, rfl⟩
abbrev main_call0_call2_call0_c_11 : Ref sig .tc := ⟨.hbm, 566, rfl⟩
abbrev main_call0_call2_call0_v48 : Ref sig .tc := ⟨.hbm, 567, rfl⟩
abbrev main_call0_call2_call0_v49 : Ref sig .tc := ⟨.hbm, 568, rfl⟩
abbrev main_call0_call2_call0_c_12 : Ref sig .tc := ⟨.hbm, 569, rfl⟩
abbrev main_call0_call2_call0_v50 : Ref sig .tc := ⟨.hbm, 570, rfl⟩
abbrev main_call0_call2_call0_v51 : Ref sig .tc := ⟨.hbm, 571, rfl⟩
abbrev main_call0_call2_call0_v52 : Ref sig .tc := ⟨.hbm, 572, rfl⟩
abbrev main_call0_call2_call0_v53 : Ref sig .tc := ⟨.hbm, 573, rfl⟩
abbrev main_call0_call2_call0_v54 : Ref sig .tc := ⟨.hbm, 574, rfl⟩
abbrev main_call0_call2_call0_c_13 : Ref sig .tc := ⟨.hbm, 575, rfl⟩
abbrev main_call0_call2_call0_v55 : Ref sig .tc := ⟨.hbm, 576, rfl⟩
abbrev main_call0_call2_call0_v56 : Ref sig .tc := ⟨.hbm, 577, rfl⟩
abbrev main_call0_call2_call0_c_14 : Ref sig .tc := ⟨.hbm, 578, rfl⟩
abbrev main_call0_call2_call0_v57 : Ref sig .tc := ⟨.hbm, 579, rfl⟩
abbrev main_call0_call2_call0_v58 : Ref sig .tc := ⟨.hbm, 580, rfl⟩
abbrev main_call0_call2_call0_v59 : Ref sig .tc := ⟨.hbm, 581, rfl⟩
abbrev main_call0_call2_call0_v60 : Ref sig .tc := ⟨.hbm, 582, rfl⟩
abbrev main_call0_call2_call0_v61 : Ref sig .tc := ⟨.hbm, 583, rfl⟩
abbrev main_call0_call2_call0_c_15 : Ref sig .tc := ⟨.hbm, 584, rfl⟩
abbrev main_call0_call2_call0_v62 : Ref sig .tc := ⟨.hbm, 585, rfl⟩
abbrev main_call0_call2_call0_v63 : Ref sig .tc := ⟨.hbm, 586, rfl⟩
abbrev main_call0_call2_call0_c_16 : Ref sig .tc := ⟨.hbm, 587, rfl⟩
abbrev main_call0_call2_call0_v64 : Ref sig .tc := ⟨.hbm, 588, rfl⟩
abbrev main_call0_call2_call0_v65 : Ref sig .tc := ⟨.hbm, 589, rfl⟩
abbrev main_call0_call2_call0_v66 : Ref sig .tc := ⟨.hbm, 590, rfl⟩
abbrev main_call0_call2_call0_v67 : Ref sig .tc := ⟨.hbm, 591, rfl⟩
abbrev main_call0_call2_call0_v68 : Ref sig .tc := ⟨.hbm, 592, rfl⟩
abbrev main_call0_call2_call0_v69 : Ref sig .tc := ⟨.hbm, 593, rfl⟩
abbrev main_call0_call2_call0_v70 : Ref sig .tc := ⟨.hbm, 594, rfl⟩
abbrev main_call0_call2_call0_v71 : Ref sig .tc := ⟨.hbm, 595, rfl⟩
abbrev main_call0_call2_call0_c_17 : Ref sig .tc := ⟨.hbm, 596, rfl⟩
abbrev main_call0_call2_call0_v72 : Ref sig .tc := ⟨.hbm, 597, rfl⟩
abbrev main_call0_call2_call0_v73 : Ref sig .tc := ⟨.hbm, 598, rfl⟩
abbrev main_call0_call2_call0_v74 : Ref sig .tc := ⟨.hbm, 599, rfl⟩
abbrev main_call0_call2_call0_c_18 : Ref sig .tc := ⟨.hbm, 600, rfl⟩
abbrev main_call0_call2_call0_v75 : Ref sig .tc := ⟨.hbm, 601, rfl⟩
abbrev main_call0_call2_call0_v76 : Ref sig .tc := ⟨.hbm, 602, rfl⟩
abbrev main_call0_call2_call0_c_19 : Ref sig .tc := ⟨.hbm, 603, rfl⟩
abbrev main_call0_call2_call0_v77 : Ref sig .tc := ⟨.hbm, 604, rfl⟩
abbrev main_call0_call2_call0_v78 : Ref sig .tc := ⟨.hbm, 605, rfl⟩
abbrev main_call0_call2_call0_v79 : Ref sig .tc := ⟨.hbm, 606, rfl⟩
abbrev main_call0_call2_call0_v80 : Ref sig .tc := ⟨.hbm, 607, rfl⟩
abbrev main_call0_call2_call0_v81 : Ref sig .tc := ⟨.hbm, 608, rfl⟩
abbrev main_call0_call2_call0_c_20 : Ref sig .tc := ⟨.hbm, 609, rfl⟩
abbrev main_call0_call2_call0_v82 : Ref sig .tc := ⟨.hbm, 610, rfl⟩
abbrev main_call0_call2_call0_v83 : Ref sig .tc := ⟨.hbm, 611, rfl⟩
abbrev main_call0_call2_call0_c_21 : Ref sig .tc := ⟨.hbm, 612, rfl⟩
abbrev main_call0_call2_call0_v84 : Ref sig .tc := ⟨.hbm, 613, rfl⟩
abbrev main_call0_call2_call0_v85 : Ref sig .tc := ⟨.hbm, 614, rfl⟩
abbrev main_call0_call2_call0_v86 : Ref sig .tc := ⟨.hbm, 615, rfl⟩
abbrev main_call0_call2_call0_v87 : Ref sig .tc := ⟨.hbm, 616, rfl⟩
abbrev main_call0_call2_call0_v88 : Ref sig .tc := ⟨.hbm, 617, rfl⟩
abbrev main_call0_call2_call0_c_22 : Ref sig .tc := ⟨.hbm, 618, rfl⟩
abbrev main_call0_call2_call0_v89 : Ref sig .tc := ⟨.hbm, 619, rfl⟩
abbrev main_call0_call2_call0_v90 : Ref sig .tc := ⟨.hbm, 620, rfl⟩
abbrev main_call0_call2_call0_c_23 : Ref sig .tc := ⟨.hbm, 621, rfl⟩
abbrev main_call0_call2_call0_v91 : Ref sig .tc := ⟨.hbm, 622, rfl⟩
abbrev main_call0_call2_call0_v92 : Ref sig .tc := ⟨.hbm, 623, rfl⟩
abbrev main_call0_call2_call0_v93 : Ref sig .tc := ⟨.hbm, 624, rfl⟩
abbrev main_call0_call2_call0_v94 : Ref sig .tc := ⟨.hbm, 625, rfl⟩
abbrev main_call0_call2_call0_v95 : Ref sig .tc := ⟨.hbm, 626, rfl⟩
abbrev main_call0_call2_call0_c_24 : Ref sig .tc := ⟨.hbm, 627, rfl⟩
abbrev main_call0_call2_call0_v96 : Ref sig .tc := ⟨.hbm, 628, rfl⟩
abbrev main_call0_call2_call0_v97 : Ref sig .tc := ⟨.hbm, 629, rfl⟩
abbrev main_call0_call2_call0_c_25 : Ref sig .tc := ⟨.hbm, 630, rfl⟩
abbrev main_call0_call2_call0_v98 : Ref sig .tc := ⟨.hbm, 631, rfl⟩
abbrev main_call0_call2_call0_v99 : Ref sig .tc := ⟨.hbm, 632, rfl⟩
abbrev main_call0_call2_call0_v100 : Ref sig .tc := ⟨.hbm, 633, rfl⟩
abbrev main_call0_call2_call0_v101 : Ref sig .tc := ⟨.hbm, 634, rfl⟩
abbrev main_call0_call2_call0_v102 : Ref sig .tc := ⟨.hbm, 635, rfl⟩
abbrev main_call0_call2_call0_v103 : Ref sig .tc := ⟨.hbm, 636, rfl⟩
abbrev main_call0_call2_call0_v104 : Ref sig .tc := ⟨.hbm, 637, rfl⟩
abbrev main_call0_call2_call0_v105 : Ref sig .tc := ⟨.hbm, 638, rfl⟩
abbrev main_call0_call2_call0_c_26 : Ref sig .tc := ⟨.hbm, 639, rfl⟩
abbrev main_call0_call2_call0_v106 : Ref sig .tc := ⟨.hbm, 640, rfl⟩
abbrev main_call0_call2_call0_v107 : Ref sig .tc := ⟨.hbm, 641, rfl⟩
abbrev main_call0_call2_call0_v108 : Ref sig .tc := ⟨.hbm, 642, rfl⟩
abbrev main_call0_call2_call0_c_27 : Ref sig .tc := ⟨.hbm, 643, rfl⟩
abbrev main_call0_call2_call0_v109 : Ref sig .tc := ⟨.hbm, 644, rfl⟩
abbrev main_call0_call2_call0_v110 : Ref sig .tc := ⟨.hbm, 645, rfl⟩
abbrev main_call0_call2_call0_c_28 : Ref sig .tc := ⟨.hbm, 646, rfl⟩
abbrev main_call0_call2_call0_v111 : Ref sig .tc := ⟨.hbm, 647, rfl⟩
abbrev main_call0_call2_call0_v112 : Ref sig .tc := ⟨.hbm, 648, rfl⟩
abbrev main_call0_call2_call0_v113 : Ref sig .tc := ⟨.hbm, 649, rfl⟩
abbrev main_call0_call2_call0_v114 : Ref sig .tc := ⟨.hbm, 650, rfl⟩
abbrev main_call0_call2_call0_v115 : Ref sig .tc := ⟨.hbm, 651, rfl⟩
abbrev main_call0_call2_call0_c_29 : Ref sig .tc := ⟨.hbm, 652, rfl⟩
abbrev main_call0_call2_call0_v116 : Ref sig .tc := ⟨.hbm, 653, rfl⟩
abbrev main_call0_call2_call0_v117 : Ref sig .tc := ⟨.hbm, 654, rfl⟩
abbrev main_call0_call2_call0_c_30 : Ref sig .tc := ⟨.hbm, 655, rfl⟩
abbrev main_call0_call2_call0_v118 : Ref sig .tc := ⟨.hbm, 656, rfl⟩
abbrev main_call0_call2_call0_v119 : Ref sig .tc := ⟨.hbm, 657, rfl⟩
abbrev main_call0_call2_call0_v120 : Ref sig .tc := ⟨.hbm, 658, rfl⟩
abbrev main_call0_call2_call0_v121 : Ref sig .tc := ⟨.hbm, 659, rfl⟩
abbrev main_call0_call2_call0_v122 : Ref sig .tc := ⟨.hbm, 660, rfl⟩
abbrev main_call0_call2_call0_c_31 : Ref sig .tc := ⟨.hbm, 661, rfl⟩
abbrev main_call0_call2_call0_v123 : Ref sig .tc := ⟨.hbm, 662, rfl⟩
abbrev main_call0_call2_call0_v124 : Ref sig .tc := ⟨.hbm, 663, rfl⟩
abbrev main_call0_call2_call0_c_32 : Ref sig .tc := ⟨.hbm, 664, rfl⟩
abbrev main_call0_call2_call0_v125 : Ref sig .tc := ⟨.hbm, 665, rfl⟩
abbrev main_call0_call2_call0_v126 : Ref sig .tc := ⟨.hbm, 666, rfl⟩
abbrev main_call0_call2_call0_v127 : Ref sig .tc := ⟨.hbm, 667, rfl⟩
abbrev main_call0_call2_call0_v128 : Ref sig .tc := ⟨.hbm, 668, rfl⟩
abbrev main_call0_call2_call0_v129 : Ref sig .tc := ⟨.hbm, 669, rfl⟩
abbrev main_call0_call2_call0_c_33 : Ref sig .tc := ⟨.hbm, 670, rfl⟩
abbrev main_call0_call2_call0_v130 : Ref sig .tc := ⟨.hbm, 671, rfl⟩
abbrev main_call0_call2_call0_v131 : Ref sig .tc := ⟨.hbm, 672, rfl⟩
abbrev main_call0_call2_call0_c_34 : Ref sig .tc := ⟨.hbm, 673, rfl⟩
abbrev main_call0_call2_call0_v132 : Ref sig .tc := ⟨.hbm, 674, rfl⟩
abbrev main_call0_call2_call0_v133 : Ref sig .tc := ⟨.hbm, 675, rfl⟩
abbrev main_call0_call2_call0_v134 : Ref sig .tc := ⟨.hbm, 676, rfl⟩
abbrev main_call0_call2_call0_v135 : Ref sig .tc := ⟨.hbm, 677, rfl⟩
abbrev main_call0_call2_call0_v136 : Ref sig .tc := ⟨.hbm, 678, rfl⟩
abbrev main_call0_call2_call0_v137 : Ref sig .tc := ⟨.hbm, 679, rfl⟩
abbrev main_call0_call2_call0_v138 : Ref sig .tc := ⟨.hbm, 680, rfl⟩
abbrev main_call0_call2_call0_v139 : Ref sig .tc := ⟨.hbm, 681, rfl⟩
abbrev main_call0_call2_call0_c_35 : Ref sig .tc := ⟨.hbm, 682, rfl⟩
abbrev main_call0_call2_call0_v140 : Ref sig .tc := ⟨.hbm, 683, rfl⟩
abbrev main_call0_call2_call0_v141 : Ref sig .tc := ⟨.hbm, 684, rfl⟩
abbrev main_call0_call2_call0_v142 : Ref sig .tc := ⟨.hbm, 685, rfl⟩
abbrev main_call0_call2_call0_c_36 : Ref sig .tc := ⟨.hbm, 686, rfl⟩
abbrev main_call0_call2_call0_v143 : Ref sig .tc := ⟨.hbm, 687, rfl⟩
abbrev main_call0_call2_call0_v144 : Ref sig .tc := ⟨.hbm, 688, rfl⟩
abbrev main_call0_call2_call0_c_37 : Ref sig .tc := ⟨.hbm, 689, rfl⟩
abbrev main_call0_call2_call0_v145 : Ref sig .tc := ⟨.hbm, 690, rfl⟩
abbrev main_call0_call2_call0_v146 : Ref sig .tc := ⟨.hbm, 691, rfl⟩
abbrev main_call0_call2_call0_v147 : Ref sig .tc := ⟨.hbm, 692, rfl⟩
abbrev main_call0_call2_call0_v148 : Ref sig .tc := ⟨.hbm, 693, rfl⟩
abbrev main_call0_call2_call0_v149 : Ref sig .tc := ⟨.hbm, 694, rfl⟩
abbrev main_call0_call2_call0_c_38 : Ref sig .tc := ⟨.hbm, 695, rfl⟩
abbrev main_call0_call2_call0_v150 : Ref sig .tc := ⟨.hbm, 696, rfl⟩
abbrev main_call0_call2_call0_v151 : Ref sig .tc := ⟨.hbm, 697, rfl⟩
abbrev main_call0_call2_call0_c_39 : Ref sig .tc := ⟨.hbm, 698, rfl⟩
abbrev main_call0_call2_call0_v152 : Ref sig .tc := ⟨.hbm, 699, rfl⟩
abbrev main_call0_call2_call0_v153 : Ref sig .tc := ⟨.hbm, 700, rfl⟩
abbrev main_call0_call2_call0_v154 : Ref sig .tc := ⟨.hbm, 701, rfl⟩
abbrev main_call0_call2_call0_v155 : Ref sig .tc := ⟨.hbm, 702, rfl⟩
abbrev main_call0_call2_call0_v156 : Ref sig .tc := ⟨.hbm, 703, rfl⟩
abbrev main_call0_call2_call0_c_40 : Ref sig .tc := ⟨.hbm, 704, rfl⟩
abbrev main_call0_call2_call0_v157 : Ref sig .tc := ⟨.hbm, 705, rfl⟩
abbrev main_call0_call2_call0_v158 : Ref sig .tc := ⟨.hbm, 706, rfl⟩
abbrev main_call0_call2_call0_c_41 : Ref sig .tc := ⟨.hbm, 707, rfl⟩
abbrev main_call0_call2_call0_v159 : Ref sig .tc := ⟨.hbm, 708, rfl⟩
abbrev main_call0_call2_call0_v160 : Ref sig .tc := ⟨.hbm, 709, rfl⟩
abbrev main_call0_call2_call0_v161 : Ref sig .tc := ⟨.hbm, 710, rfl⟩
abbrev main_call0_call2_call0_v162 : Ref sig .tc := ⟨.hbm, 711, rfl⟩
abbrev main_call0_call2_call0_v163 : Ref sig .tc := ⟨.hbm, 712, rfl⟩
abbrev main_call0_call2_call0_c_42 : Ref sig .tc := ⟨.hbm, 713, rfl⟩
abbrev main_call0_call2_call0_v164 : Ref sig .tc := ⟨.hbm, 714, rfl⟩
abbrev main_call0_call2_call0_v165 : Ref sig .tc := ⟨.hbm, 715, rfl⟩
abbrev main_call0_call2_call0_c_43 : Ref sig .tc := ⟨.hbm, 716, rfl⟩
abbrev main_call0_call2_call0_v166 : Ref sig .tc := ⟨.hbm, 717, rfl⟩
abbrev main_call0_call2_call0_v167 : Ref sig .tc := ⟨.hbm, 718, rfl⟩
abbrev main_call0_call2_call0_v168 : Ref sig .tc := ⟨.hbm, 719, rfl⟩
abbrev main_call0_call2_call0_v169 : Ref sig .tc := ⟨.hbm, 720, rfl⟩
abbrev main_call0_call2_call0_v170 : Ref sig .tc := ⟨.hbm, 721, rfl⟩
abbrev main_call0_call2_v11_0 : Ref sig .tc := ⟨.hbm, 722, rfl⟩
abbrev main_call0_call2_call0_v172 : Ref sig .tc := ⟨.hbm, 723, rfl⟩
abbrev main_call0_call2_call0_v173 : Ref sig .tc := ⟨.hbm, 724, rfl⟩
abbrev main_call0_call2_call0_c_44 : Ref sig .tc := ⟨.hbm, 725, rfl⟩
abbrev main_call0_call2_call0_v174 : Ref sig .tc := ⟨.hbm, 726, rfl⟩
abbrev main_call0_call2_v11_1 : Ref sig .tc := ⟨.hbm, 727, rfl⟩
abbrev main_call0_call2_v12 : Ref sig .tc := ⟨.hbm, 728, rfl⟩
abbrev main_call0_call2_v13 : Ref sig .tc := ⟨.hbm, 729, rfl⟩
abbrev main_call0_v19 : Ref sig .tc := ⟨.hbm, 730, rfl⟩
abbrev main_call0_v20 : Ref sig .tc := ⟨.hbm, 731, rfl⟩
abbrev main_call0_v21 : Ref sig .tc := ⟨.hbm, 732, rfl⟩
abbrev main_call0_v22 : Ref sig .tc := ⟨.hbm, 733, rfl⟩
abbrev main_call0_v23 : Ref sig .tc := ⟨.hbm, 734, rfl⟩
abbrev main_call0_v24 : Ref sig .tc := ⟨.hbm, 735, rfl⟩
abbrev main_call0_v25 : Ref sig .tc := ⟨.hbm, 736, rfl⟩
abbrev main_call0_v26 : Ref sig .tc := ⟨.hbm, 737, rfl⟩
abbrev main_call0_v27 : Ref sig .tc := ⟨.hbm, 738, rfl⟩
abbrev main_call0_v28 : Ref sig .tc := ⟨.hbm, 739, rfl⟩
abbrev main_call0_c_1 : Ref sig .tc := ⟨.hbm, 740, rfl⟩
abbrev main_call0_v29 : Ref sig .tc := ⟨.hbm, 741, rfl⟩
abbrev main_call0_v30 : Ref sig .tc := ⟨.hbm, 742, rfl⟩
abbrev main_call0_c_2 : Ref sig .tc := ⟨.hbm, 743, rfl⟩
abbrev main_call0_v31 : Ref sig .tc := ⟨.hbm, 744, rfl⟩
abbrev main_call0_v32 : Ref sig .tc := ⟨.hbm, 745, rfl⟩
abbrev main_call0_v33 : Ref sig .tc := ⟨.hbm, 746, rfl⟩
abbrev main_call0_v34 : Ref sig .tc := ⟨.hbm, 747, rfl⟩
abbrev main_call0_call3_v0 : Ref sig .tc := ⟨.hbm, 748, rfl⟩
abbrev main_call0_call3_c : Ref sig .tc := ⟨.hbm, 749, rfl⟩
abbrev main_call0_call3_v1 : Ref sig .tc := ⟨.hbm, 750, rfl⟩
abbrev main_call0_call3_v2 : Ref sig .tc := ⟨.hbm, 751, rfl⟩
abbrev main_call0_call3_v3 : Ref sig .tc := ⟨.hbm, 752, rfl⟩
abbrev main_call0_call3_v4 : Ref sig .tc := ⟨.hbm, 753, rfl⟩
abbrev main_call0_call3_v5 : Ref sig .tc := ⟨.hbm, 754, rfl⟩
abbrev main_call0_call3_v6 : Ref sig .tc := ⟨.hbm, 755, rfl⟩
abbrev main_call0_call3_c_0 : Ref sig .tc := ⟨.hbm, 756, rfl⟩
abbrev main_call0_call3_v7 : Ref sig .tc := ⟨.hbm, 757, rfl⟩
abbrev main_call0_call3_v8 : Ref sig .tc := ⟨.hbm, 758, rfl⟩
abbrev main_call0_call3_c_1 : Ref sig .tc := ⟨.hbm, 759, rfl⟩
abbrev main_call0_call3_v9 : Ref sig .tc := ⟨.hbm, 760, rfl⟩
abbrev main_call0_call3_v10 : Ref sig .tc := ⟨.hbm, 761, rfl⟩
abbrev main_call0_call3_v11 : Ref sig .tc := ⟨.hbm, 762, rfl⟩
abbrev main_call0_call3_v12 : Ref sig .tc := ⟨.hbm, 763, rfl⟩
abbrev main_call0_call3_v13 : Ref sig .tc := ⟨.hbm, 764, rfl⟩
abbrev main_call0_call3_c_2 : Ref sig .tc := ⟨.hbm, 765, rfl⟩
abbrev main_call0_call3_v14 : Ref sig .tc := ⟨.hbm, 766, rfl⟩
abbrev main_call0_call3_v15 : Ref sig .tc := ⟨.hbm, 767, rfl⟩
abbrev main_call0_call3_c_3 : Ref sig .tc := ⟨.hbm, 768, rfl⟩
abbrev main_call0_call3_v16 : Ref sig .tc := ⟨.hbm, 769, rfl⟩
abbrev main_call0_call3_v17 : Ref sig .tc := ⟨.hbm, 770, rfl⟩
abbrev main_call0_call3_v18 : Ref sig .tc := ⟨.hbm, 771, rfl⟩
abbrev main_call0_call3_v19 : Ref sig .tc := ⟨.hbm, 772, rfl⟩
abbrev main_call0_call3_v20 : Ref sig .tc := ⟨.hbm, 773, rfl⟩
abbrev main_call0_call3_c_4 : Ref sig .tc := ⟨.hbm, 774, rfl⟩
abbrev main_call0_call3_v21 : Ref sig .tc := ⟨.hbm, 775, rfl⟩
abbrev main_call0_call3_v22 : Ref sig .tc := ⟨.hbm, 776, rfl⟩
abbrev main_call0_call3_c_5 : Ref sig .tc := ⟨.hbm, 777, rfl⟩
abbrev main_call0_call3_v23 : Ref sig .tc := ⟨.hbm, 778, rfl⟩
abbrev main_call0_call3_v24 : Ref sig .tc := ⟨.hbm, 779, rfl⟩
abbrev main_call0_call3_v25 : Ref sig .tc := ⟨.hbm, 780, rfl⟩
abbrev main_call0_call3_v26 : Ref sig .tc := ⟨.hbm, 781, rfl⟩
abbrev main_call0_call3_v27 : Ref sig .tc := ⟨.hbm, 782, rfl⟩
abbrev main_call0_call3_c_6 : Ref sig .tc := ⟨.hbm, 783, rfl⟩
abbrev main_call0_call3_v28 : Ref sig .tc := ⟨.hbm, 784, rfl⟩
abbrev main_call0_call3_v29 : Ref sig .tc := ⟨.hbm, 785, rfl⟩
abbrev main_call0_call3_c_7 : Ref sig .tc := ⟨.hbm, 786, rfl⟩
abbrev main_call0_call3_v30 : Ref sig .tc := ⟨.hbm, 787, rfl⟩
abbrev main_call0_call3_v31 : Ref sig .tc := ⟨.hbm, 788, rfl⟩
abbrev main_call0_call3_v32 : Ref sig .tc := ⟨.hbm, 789, rfl⟩
abbrev main_call0_call3_v33 : Ref sig .tc := ⟨.hbm, 790, rfl⟩
abbrev main_call0_call3_v34 : Ref sig .tc := ⟨.hbm, 791, rfl⟩
abbrev main_call0_call3_v35 : Ref sig .tc := ⟨.hbm, 792, rfl⟩
abbrev main_call0_call3_v36 : Ref sig .tc := ⟨.hbm, 793, rfl⟩
abbrev main_call0_call3_v37 : Ref sig .tc := ⟨.hbm, 794, rfl⟩
abbrev main_call0_call3_c_8 : Ref sig .tc := ⟨.hbm, 795, rfl⟩
abbrev main_call0_call3_v38 : Ref sig .tc := ⟨.hbm, 796, rfl⟩
abbrev main_call0_call3_v39 : Ref sig .tc := ⟨.hbm, 797, rfl⟩
abbrev main_call0_call3_v40 : Ref sig .tc := ⟨.hbm, 798, rfl⟩
abbrev main_call0_call3_c_9 : Ref sig .tc := ⟨.hbm, 799, rfl⟩
abbrev main_call0_call3_v41 : Ref sig .tc := ⟨.hbm, 800, rfl⟩
abbrev main_call0_call3_v42 : Ref sig .tc := ⟨.hbm, 801, rfl⟩
abbrev main_call0_call3_c_10 : Ref sig .tc := ⟨.hbm, 802, rfl⟩
abbrev main_call0_call3_v43 : Ref sig .tc := ⟨.hbm, 803, rfl⟩
abbrev main_call0_call3_v44 : Ref sig .tc := ⟨.hbm, 804, rfl⟩
abbrev main_call0_call3_v45 : Ref sig .tc := ⟨.hbm, 805, rfl⟩
abbrev main_call0_call3_v46 : Ref sig .tc := ⟨.hbm, 806, rfl⟩
abbrev main_call0_call3_v47 : Ref sig .tc := ⟨.hbm, 807, rfl⟩
abbrev main_call0_call3_c_11 : Ref sig .tc := ⟨.hbm, 808, rfl⟩
abbrev main_call0_call3_v48 : Ref sig .tc := ⟨.hbm, 809, rfl⟩
abbrev main_call0_call3_v49 : Ref sig .tc := ⟨.hbm, 810, rfl⟩
abbrev main_call0_call3_c_12 : Ref sig .tc := ⟨.hbm, 811, rfl⟩
abbrev main_call0_call3_v50 : Ref sig .tc := ⟨.hbm, 812, rfl⟩
abbrev main_call0_call3_v51 : Ref sig .tc := ⟨.hbm, 813, rfl⟩
abbrev main_call0_call3_v52 : Ref sig .tc := ⟨.hbm, 814, rfl⟩
abbrev main_call0_call3_v53 : Ref sig .tc := ⟨.hbm, 815, rfl⟩
abbrev main_call0_call3_v54 : Ref sig .tc := ⟨.hbm, 816, rfl⟩
abbrev main_call0_call3_c_13 : Ref sig .tc := ⟨.hbm, 817, rfl⟩
abbrev main_call0_call3_v55 : Ref sig .tc := ⟨.hbm, 818, rfl⟩
abbrev main_call0_call3_v56 : Ref sig .tc := ⟨.hbm, 819, rfl⟩
abbrev main_call0_call3_c_14 : Ref sig .tc := ⟨.hbm, 820, rfl⟩
abbrev main_call0_call3_v57 : Ref sig .tc := ⟨.hbm, 821, rfl⟩
abbrev main_call0_call3_v58 : Ref sig .tc := ⟨.hbm, 822, rfl⟩
abbrev main_call0_call3_v59 : Ref sig .tc := ⟨.hbm, 823, rfl⟩
abbrev main_call0_call3_v60 : Ref sig .tc := ⟨.hbm, 824, rfl⟩
abbrev main_call0_call3_v61 : Ref sig .tc := ⟨.hbm, 825, rfl⟩
abbrev main_call0_call3_c_15 : Ref sig .tc := ⟨.hbm, 826, rfl⟩
abbrev main_call0_call3_v62 : Ref sig .tc := ⟨.hbm, 827, rfl⟩
abbrev main_call0_call3_v63 : Ref sig .tc := ⟨.hbm, 828, rfl⟩
abbrev main_call0_call3_c_16 : Ref sig .tc := ⟨.hbm, 829, rfl⟩
abbrev main_call0_call3_v64 : Ref sig .tc := ⟨.hbm, 830, rfl⟩
abbrev main_call0_call3_v65 : Ref sig .tc := ⟨.hbm, 831, rfl⟩
abbrev main_call0_call3_v66 : Ref sig .tc := ⟨.hbm, 832, rfl⟩
abbrev main_call0_call3_v67 : Ref sig .tc := ⟨.hbm, 833, rfl⟩
abbrev main_call0_call3_v68 : Ref sig .tc := ⟨.hbm, 834, rfl⟩
abbrev main_call0_call3_v69 : Ref sig .tc := ⟨.hbm, 835, rfl⟩
abbrev main_call0_call3_v70 : Ref sig .tc := ⟨.hbm, 836, rfl⟩
abbrev main_call0_call3_v71 : Ref sig .tc := ⟨.hbm, 837, rfl⟩
abbrev main_call0_call3_c_17 : Ref sig .tc := ⟨.hbm, 838, rfl⟩
abbrev main_call0_call3_v72 : Ref sig .tc := ⟨.hbm, 839, rfl⟩
abbrev main_call0_call3_v73 : Ref sig .tc := ⟨.hbm, 840, rfl⟩
abbrev main_call0_call3_v74 : Ref sig .tc := ⟨.hbm, 841, rfl⟩
abbrev main_call0_call3_c_18 : Ref sig .tc := ⟨.hbm, 842, rfl⟩
abbrev main_call0_call3_v75 : Ref sig .tc := ⟨.hbm, 843, rfl⟩
abbrev main_call0_call3_v76 : Ref sig .tc := ⟨.hbm, 844, rfl⟩
abbrev main_call0_call3_c_19 : Ref sig .tc := ⟨.hbm, 845, rfl⟩
abbrev main_call0_call3_v77 : Ref sig .tc := ⟨.hbm, 846, rfl⟩
abbrev main_call0_call3_v78 : Ref sig .tc := ⟨.hbm, 847, rfl⟩
abbrev main_call0_call3_v79 : Ref sig .tc := ⟨.hbm, 848, rfl⟩
abbrev main_call0_call3_v80 : Ref sig .tc := ⟨.hbm, 849, rfl⟩
abbrev main_call0_call3_v81 : Ref sig .tc := ⟨.hbm, 850, rfl⟩
abbrev main_call0_call3_c_20 : Ref sig .tc := ⟨.hbm, 851, rfl⟩
abbrev main_call0_call3_v82 : Ref sig .tc := ⟨.hbm, 852, rfl⟩
abbrev main_call0_call3_v83 : Ref sig .tc := ⟨.hbm, 853, rfl⟩
abbrev main_call0_call3_c_21 : Ref sig .tc := ⟨.hbm, 854, rfl⟩
abbrev main_call0_call3_v84 : Ref sig .tc := ⟨.hbm, 855, rfl⟩
abbrev main_call0_call3_v85 : Ref sig .tc := ⟨.hbm, 856, rfl⟩
abbrev main_call0_call3_v86 : Ref sig .tc := ⟨.hbm, 857, rfl⟩
abbrev main_call0_call3_v87 : Ref sig .tc := ⟨.hbm, 858, rfl⟩
abbrev main_call0_call3_v88 : Ref sig .tc := ⟨.hbm, 859, rfl⟩
abbrev main_call0_call3_c_22 : Ref sig .tc := ⟨.hbm, 860, rfl⟩
abbrev main_call0_call3_v89 : Ref sig .tc := ⟨.hbm, 861, rfl⟩
abbrev main_call0_call3_v90 : Ref sig .tc := ⟨.hbm, 862, rfl⟩
abbrev main_call0_call3_c_23 : Ref sig .tc := ⟨.hbm, 863, rfl⟩
abbrev main_call0_call3_v91 : Ref sig .tc := ⟨.hbm, 864, rfl⟩
abbrev main_call0_call3_v92 : Ref sig .tc := ⟨.hbm, 865, rfl⟩
abbrev main_call0_call3_v93 : Ref sig .tc := ⟨.hbm, 866, rfl⟩
abbrev main_call0_call3_v94 : Ref sig .tc := ⟨.hbm, 867, rfl⟩
abbrev main_call0_call3_v95 : Ref sig .tc := ⟨.hbm, 868, rfl⟩
abbrev main_call0_call3_c_24 : Ref sig .tc := ⟨.hbm, 869, rfl⟩
abbrev main_call0_call3_v96 : Ref sig .tc := ⟨.hbm, 870, rfl⟩
abbrev main_call0_call3_v97 : Ref sig .tc := ⟨.hbm, 871, rfl⟩
abbrev main_call0_call3_c_25 : Ref sig .tc := ⟨.hbm, 872, rfl⟩
abbrev main_call0_call3_v98 : Ref sig .tc := ⟨.hbm, 873, rfl⟩
abbrev main_call0_call3_v99 : Ref sig .tc := ⟨.hbm, 874, rfl⟩
abbrev main_call0_call3_v100 : Ref sig .tc := ⟨.hbm, 875, rfl⟩
abbrev main_call0_call3_v101 : Ref sig .tc := ⟨.hbm, 876, rfl⟩
abbrev main_call0_call3_v102 : Ref sig .tc := ⟨.hbm, 877, rfl⟩
abbrev main_call0_call3_v103 : Ref sig .tc := ⟨.hbm, 878, rfl⟩
abbrev main_call0_call3_v104 : Ref sig .tc := ⟨.hbm, 879, rfl⟩
abbrev main_call0_call3_v105 : Ref sig .tc := ⟨.hbm, 880, rfl⟩
abbrev main_call0_call3_c_26 : Ref sig .tc := ⟨.hbm, 881, rfl⟩
abbrev main_call0_call3_v106 : Ref sig .tc := ⟨.hbm, 882, rfl⟩
abbrev main_call0_call3_v107 : Ref sig .tc := ⟨.hbm, 883, rfl⟩
abbrev main_call0_call3_v108 : Ref sig .tc := ⟨.hbm, 884, rfl⟩
abbrev main_call0_call3_c_27 : Ref sig .tc := ⟨.hbm, 885, rfl⟩
abbrev main_call0_call3_v109 : Ref sig .tc := ⟨.hbm, 886, rfl⟩
abbrev main_call0_call3_v110 : Ref sig .tc := ⟨.hbm, 887, rfl⟩
abbrev main_call0_call3_c_28 : Ref sig .tc := ⟨.hbm, 888, rfl⟩
abbrev main_call0_call3_v111 : Ref sig .tc := ⟨.hbm, 889, rfl⟩
abbrev main_call0_call3_v112 : Ref sig .tc := ⟨.hbm, 890, rfl⟩
abbrev main_call0_call3_v113 : Ref sig .tc := ⟨.hbm, 891, rfl⟩
abbrev main_call0_call3_v114 : Ref sig .tc := ⟨.hbm, 892, rfl⟩
abbrev main_call0_call3_v115 : Ref sig .tc := ⟨.hbm, 893, rfl⟩
abbrev main_call0_call3_c_29 : Ref sig .tc := ⟨.hbm, 894, rfl⟩
abbrev main_call0_call3_v116 : Ref sig .tc := ⟨.hbm, 895, rfl⟩
abbrev main_call0_call3_v117 : Ref sig .tc := ⟨.hbm, 896, rfl⟩
abbrev main_call0_call3_c_30 : Ref sig .tc := ⟨.hbm, 897, rfl⟩
abbrev main_call0_call3_v118 : Ref sig .tc := ⟨.hbm, 898, rfl⟩
abbrev main_call0_call3_v119 : Ref sig .tc := ⟨.hbm, 899, rfl⟩
abbrev main_call0_call3_v120 : Ref sig .tc := ⟨.hbm, 900, rfl⟩
abbrev main_call0_call3_v121 : Ref sig .tc := ⟨.hbm, 901, rfl⟩
abbrev main_call0_call3_v122 : Ref sig .tc := ⟨.hbm, 902, rfl⟩
abbrev main_call0_call3_c_31 : Ref sig .tc := ⟨.hbm, 903, rfl⟩
abbrev main_call0_call3_v123 : Ref sig .tc := ⟨.hbm, 904, rfl⟩
abbrev main_call0_call3_v124 : Ref sig .tc := ⟨.hbm, 905, rfl⟩
abbrev main_call0_call3_c_32 : Ref sig .tc := ⟨.hbm, 906, rfl⟩
abbrev main_call0_call3_v125 : Ref sig .tc := ⟨.hbm, 907, rfl⟩
abbrev main_call0_call3_v126 : Ref sig .tc := ⟨.hbm, 908, rfl⟩
abbrev main_call0_call3_v127 : Ref sig .tc := ⟨.hbm, 909, rfl⟩
abbrev main_call0_call3_v128 : Ref sig .tc := ⟨.hbm, 910, rfl⟩
abbrev main_call0_call3_v129 : Ref sig .tc := ⟨.hbm, 911, rfl⟩
abbrev main_call0_call3_c_33 : Ref sig .tc := ⟨.hbm, 912, rfl⟩
abbrev main_call0_call3_v130 : Ref sig .tc := ⟨.hbm, 913, rfl⟩
abbrev main_call0_call3_v131 : Ref sig .tc := ⟨.hbm, 914, rfl⟩
abbrev main_call0_call3_c_34 : Ref sig .tc := ⟨.hbm, 915, rfl⟩
abbrev main_call0_call3_v132 : Ref sig .tc := ⟨.hbm, 916, rfl⟩
abbrev main_call0_call3_v133 : Ref sig .tc := ⟨.hbm, 917, rfl⟩
abbrev main_call0_call3_v134 : Ref sig .tc := ⟨.hbm, 918, rfl⟩
abbrev main_call0_call3_v135 : Ref sig .tc := ⟨.hbm, 919, rfl⟩
abbrev main_call0_call3_v136 : Ref sig .tc := ⟨.hbm, 920, rfl⟩
abbrev main_call0_call3_v137 : Ref sig .tc := ⟨.hbm, 921, rfl⟩
abbrev main_call0_call3_v138 : Ref sig .tc := ⟨.hbm, 922, rfl⟩
abbrev main_call0_call3_v139 : Ref sig .tc := ⟨.hbm, 923, rfl⟩
abbrev main_call0_call3_c_35 : Ref sig .tc := ⟨.hbm, 924, rfl⟩
abbrev main_call0_call3_v140 : Ref sig .tc := ⟨.hbm, 925, rfl⟩
abbrev main_call0_call3_v141 : Ref sig .tc := ⟨.hbm, 926, rfl⟩
abbrev main_call0_call3_v142 : Ref sig .tc := ⟨.hbm, 927, rfl⟩
abbrev main_call0_call3_c_36 : Ref sig .tc := ⟨.hbm, 928, rfl⟩
abbrev main_call0_call3_v143 : Ref sig .tc := ⟨.hbm, 929, rfl⟩
abbrev main_call0_call3_v144 : Ref sig .tc := ⟨.hbm, 930, rfl⟩
abbrev main_call0_call3_c_37 : Ref sig .tc := ⟨.hbm, 931, rfl⟩
abbrev main_call0_call3_v145 : Ref sig .tc := ⟨.hbm, 932, rfl⟩
abbrev main_call0_call3_v146 : Ref sig .tc := ⟨.hbm, 933, rfl⟩
abbrev main_call0_call3_v147 : Ref sig .tc := ⟨.hbm, 934, rfl⟩
abbrev main_call0_call3_v148 : Ref sig .tc := ⟨.hbm, 935, rfl⟩
abbrev main_call0_call3_v149 : Ref sig .tc := ⟨.hbm, 936, rfl⟩
abbrev main_call0_call3_c_38 : Ref sig .tc := ⟨.hbm, 937, rfl⟩
abbrev main_call0_call3_v150 : Ref sig .tc := ⟨.hbm, 938, rfl⟩
abbrev main_call0_call3_v151 : Ref sig .tc := ⟨.hbm, 939, rfl⟩
abbrev main_call0_call3_c_39 : Ref sig .tc := ⟨.hbm, 940, rfl⟩
abbrev main_call0_call3_v152 : Ref sig .tc := ⟨.hbm, 941, rfl⟩
abbrev main_call0_call3_v153 : Ref sig .tc := ⟨.hbm, 942, rfl⟩
abbrev main_call0_call3_v154 : Ref sig .tc := ⟨.hbm, 943, rfl⟩
abbrev main_call0_call3_v155 : Ref sig .tc := ⟨.hbm, 944, rfl⟩
abbrev main_call0_call3_v156 : Ref sig .tc := ⟨.hbm, 945, rfl⟩
abbrev main_call0_call3_c_40 : Ref sig .tc := ⟨.hbm, 946, rfl⟩
abbrev main_call0_call3_v157 : Ref sig .tc := ⟨.hbm, 947, rfl⟩
abbrev main_call0_call3_v158 : Ref sig .tc := ⟨.hbm, 948, rfl⟩
abbrev main_call0_call3_c_41 : Ref sig .tc := ⟨.hbm, 949, rfl⟩
abbrev main_call0_call3_v159 : Ref sig .tc := ⟨.hbm, 950, rfl⟩
abbrev main_call0_call3_v160 : Ref sig .tc := ⟨.hbm, 951, rfl⟩
abbrev main_call0_call3_v161 : Ref sig .tc := ⟨.hbm, 952, rfl⟩
abbrev main_call0_call3_v162 : Ref sig .tc := ⟨.hbm, 953, rfl⟩
abbrev main_call0_call3_v163 : Ref sig .tc := ⟨.hbm, 954, rfl⟩
abbrev main_call0_call3_c_42 : Ref sig .tc := ⟨.hbm, 955, rfl⟩
abbrev main_call0_call3_v164 : Ref sig .tc := ⟨.hbm, 956, rfl⟩
abbrev main_call0_call3_v165 : Ref sig .tc := ⟨.hbm, 957, rfl⟩
abbrev main_call0_call3_c_43 : Ref sig .tc := ⟨.hbm, 958, rfl⟩
abbrev main_call0_call3_v166 : Ref sig .tc := ⟨.hbm, 959, rfl⟩
abbrev main_call0_call3_v167 : Ref sig .tc := ⟨.hbm, 960, rfl⟩
abbrev main_call0_call3_v168 : Ref sig .tc := ⟨.hbm, 961, rfl⟩
abbrev main_call0_call3_v169 : Ref sig .tc := ⟨.hbm, 962, rfl⟩
abbrev main_call0_call3_v170 : Ref sig .tc := ⟨.hbm, 963, rfl⟩
abbrev main_call0_v35_0 : Ref sig .tc := ⟨.hbm, 964, rfl⟩
abbrev main_call0_call3_v172 : Ref sig .tc := ⟨.hbm, 965, rfl⟩
abbrev main_call0_call3_v173 : Ref sig .tc := ⟨.hbm, 966, rfl⟩
abbrev main_call0_call3_c_44 : Ref sig .tc := ⟨.hbm, 967, rfl⟩
abbrev main_call0_call3_v174 : Ref sig .tc := ⟨.hbm, 968, rfl⟩
abbrev main_call0_v35_1 : Ref sig .tc := ⟨.hbm, 969, rfl⟩
abbrev main_call0_v36 : Ref sig .tc := ⟨.hbm, 970, rfl⟩
abbrev main_call0_v37_0 : Ref sig .tc := ⟨.hbm, 971, rfl⟩
abbrev main_call0_v37_1 : Ref sig .tc := ⟨.hbm, 972, rfl⟩
abbrev main_call0_call4_v0 : Ref sig .tc := ⟨.hbm, 973, rfl⟩
abbrev main_call0_call4_v1 : Ref sig .tc := ⟨.hbm, 974, rfl⟩
abbrev main_call0_call4_v2 : Ref sig .tc := ⟨.hbm, 975, rfl⟩
abbrev main_call0_call4_v3 : Ref sig .tc := ⟨.hbm, 976, rfl⟩
abbrev main_call0_call4_v4 : Ref sig .tc := ⟨.hbm, 977, rfl⟩
abbrev main_call0_call4_c : Ref sig .tc := ⟨.hbm, 978, rfl⟩
abbrev main_call0_call4_v5 : Ref sig .tc := ⟨.hbm, 979, rfl⟩
abbrev main_call0_call4_v6 : Ref sig .tc := ⟨.hbm, 980, rfl⟩
abbrev main_call0_call4_c_0 : Ref sig .tc := ⟨.hbm, 981, rfl⟩
abbrev main_call0_call4_v7 : Ref sig .tc := ⟨.hbm, 982, rfl⟩
abbrev main_call0_call4_v8 : Ref sig .tc := ⟨.hbm, 983, rfl⟩
abbrev main_call0_call4_v9 : Ref sig .tc := ⟨.hbm, 984, rfl⟩
abbrev main_call0_call4_v10 : Ref sig .tc := ⟨.hbm, 985, rfl⟩
abbrev main_call0_call4_call0_v0 : Ref sig .tc := ⟨.hbm, 986, rfl⟩
abbrev main_call0_call4_call0_c : Ref sig .tc := ⟨.hbm, 987, rfl⟩
abbrev main_call0_call4_call0_v1 : Ref sig .tc := ⟨.hbm, 988, rfl⟩
abbrev main_call0_call4_call0_v2 : Ref sig .tc := ⟨.hbm, 989, rfl⟩
abbrev main_call0_call4_call0_v3 : Ref sig .tc := ⟨.hbm, 990, rfl⟩
abbrev main_call0_call4_call0_v4 : Ref sig .tc := ⟨.hbm, 991, rfl⟩
abbrev main_call0_call4_call0_v5 : Ref sig .tc := ⟨.hbm, 992, rfl⟩
abbrev main_call0_call4_call0_v6 : Ref sig .tc := ⟨.hbm, 993, rfl⟩
abbrev main_call0_call4_call0_c_0 : Ref sig .tc := ⟨.hbm, 994, rfl⟩
abbrev main_call0_call4_call0_v7 : Ref sig .tc := ⟨.hbm, 995, rfl⟩
abbrev main_call0_call4_call0_v8 : Ref sig .tc := ⟨.hbm, 996, rfl⟩
abbrev main_call0_call4_call0_c_1 : Ref sig .tc := ⟨.hbm, 997, rfl⟩
abbrev main_call0_call4_call0_v9 : Ref sig .tc := ⟨.hbm, 998, rfl⟩
abbrev main_call0_call4_call0_v10 : Ref sig .tc := ⟨.hbm, 999, rfl⟩
abbrev main_call0_call4_call0_v11 : Ref sig .tc := ⟨.hbm, 1000, rfl⟩
abbrev main_call0_call4_call0_v12 : Ref sig .tc := ⟨.hbm, 1001, rfl⟩
abbrev main_call0_call4_call0_v13 : Ref sig .tc := ⟨.hbm, 1002, rfl⟩
abbrev main_call0_call4_call0_c_2 : Ref sig .tc := ⟨.hbm, 1003, rfl⟩
abbrev main_call0_call4_call0_v14 : Ref sig .tc := ⟨.hbm, 1004, rfl⟩
abbrev main_call0_call4_call0_v15 : Ref sig .tc := ⟨.hbm, 1005, rfl⟩
abbrev main_call0_call4_call0_c_3 : Ref sig .tc := ⟨.hbm, 1006, rfl⟩
abbrev main_call0_call4_call0_v16 : Ref sig .tc := ⟨.hbm, 1007, rfl⟩
abbrev main_call0_call4_call0_v17 : Ref sig .tc := ⟨.hbm, 1008, rfl⟩
abbrev main_call0_call4_call0_v18 : Ref sig .tc := ⟨.hbm, 1009, rfl⟩
abbrev main_call0_call4_call0_v19 : Ref sig .tc := ⟨.hbm, 1010, rfl⟩
abbrev main_call0_call4_call0_v20 : Ref sig .tc := ⟨.hbm, 1011, rfl⟩
abbrev main_call0_call4_call0_c_4 : Ref sig .tc := ⟨.hbm, 1012, rfl⟩
abbrev main_call0_call4_call0_v21 : Ref sig .tc := ⟨.hbm, 1013, rfl⟩
abbrev main_call0_call4_call0_v22 : Ref sig .tc := ⟨.hbm, 1014, rfl⟩
abbrev main_call0_call4_call0_c_5 : Ref sig .tc := ⟨.hbm, 1015, rfl⟩
abbrev main_call0_call4_call0_v23 : Ref sig .tc := ⟨.hbm, 1016, rfl⟩
abbrev main_call0_call4_call0_v24 : Ref sig .tc := ⟨.hbm, 1017, rfl⟩
abbrev main_call0_call4_call0_v25 : Ref sig .tc := ⟨.hbm, 1018, rfl⟩
abbrev main_call0_call4_call0_v26 : Ref sig .tc := ⟨.hbm, 1019, rfl⟩
abbrev main_call0_call4_call0_v27 : Ref sig .tc := ⟨.hbm, 1020, rfl⟩
abbrev main_call0_call4_call0_c_6 : Ref sig .tc := ⟨.hbm, 1021, rfl⟩
abbrev main_call0_call4_call0_v28 : Ref sig .tc := ⟨.hbm, 1022, rfl⟩
abbrev main_call0_call4_call0_v29 : Ref sig .tc := ⟨.hbm, 1023, rfl⟩
abbrev main_call0_call4_call0_c_7 : Ref sig .tc := ⟨.hbm, 1024, rfl⟩
abbrev main_call0_call4_call0_v30 : Ref sig .tc := ⟨.hbm, 1025, rfl⟩
abbrev main_call0_call4_call0_v31 : Ref sig .tc := ⟨.hbm, 1026, rfl⟩
abbrev main_call0_call4_call0_v32 : Ref sig .tc := ⟨.hbm, 1027, rfl⟩
abbrev main_call0_call4_call0_v33 : Ref sig .tc := ⟨.hbm, 1028, rfl⟩
abbrev main_call0_call4_call0_v34 : Ref sig .tc := ⟨.hbm, 1029, rfl⟩
abbrev main_call0_call4_call0_v35 : Ref sig .tc := ⟨.hbm, 1030, rfl⟩
abbrev main_call0_call4_call0_v36 : Ref sig .tc := ⟨.hbm, 1031, rfl⟩
abbrev main_call0_call4_call0_v37 : Ref sig .tc := ⟨.hbm, 1032, rfl⟩
abbrev main_call0_call4_call0_c_8 : Ref sig .tc := ⟨.hbm, 1033, rfl⟩
abbrev main_call0_call4_call0_v38 : Ref sig .tc := ⟨.hbm, 1034, rfl⟩
abbrev main_call0_call4_call0_v39 : Ref sig .tc := ⟨.hbm, 1035, rfl⟩
abbrev main_call0_call4_call0_v40 : Ref sig .tc := ⟨.hbm, 1036, rfl⟩
abbrev main_call0_call4_call0_c_9 : Ref sig .tc := ⟨.hbm, 1037, rfl⟩
abbrev main_call0_call4_call0_v41 : Ref sig .tc := ⟨.hbm, 1038, rfl⟩
abbrev main_call0_call4_call0_v42 : Ref sig .tc := ⟨.hbm, 1039, rfl⟩
abbrev main_call0_call4_call0_c_10 : Ref sig .tc := ⟨.hbm, 1040, rfl⟩
abbrev main_call0_call4_call0_v43 : Ref sig .tc := ⟨.hbm, 1041, rfl⟩
abbrev main_call0_call4_call0_v44 : Ref sig .tc := ⟨.hbm, 1042, rfl⟩
abbrev main_call0_call4_call0_v45 : Ref sig .tc := ⟨.hbm, 1043, rfl⟩
abbrev main_call0_call4_call0_v46 : Ref sig .tc := ⟨.hbm, 1044, rfl⟩
abbrev main_call0_call4_call0_v47 : Ref sig .tc := ⟨.hbm, 1045, rfl⟩
abbrev main_call0_call4_call0_c_11 : Ref sig .tc := ⟨.hbm, 1046, rfl⟩
abbrev main_call0_call4_call0_v48 : Ref sig .tc := ⟨.hbm, 1047, rfl⟩
abbrev main_call0_call4_call0_v49 : Ref sig .tc := ⟨.hbm, 1048, rfl⟩
abbrev main_call0_call4_call0_c_12 : Ref sig .tc := ⟨.hbm, 1049, rfl⟩
abbrev main_call0_call4_call0_v50 : Ref sig .tc := ⟨.hbm, 1050, rfl⟩
abbrev main_call0_call4_call0_v51 : Ref sig .tc := ⟨.hbm, 1051, rfl⟩
abbrev main_call0_call4_call0_v52 : Ref sig .tc := ⟨.hbm, 1052, rfl⟩
abbrev main_call0_call4_call0_v53 : Ref sig .tc := ⟨.hbm, 1053, rfl⟩
abbrev main_call0_call4_call0_v54 : Ref sig .tc := ⟨.hbm, 1054, rfl⟩
abbrev main_call0_call4_call0_c_13 : Ref sig .tc := ⟨.hbm, 1055, rfl⟩
abbrev main_call0_call4_call0_v55 : Ref sig .tc := ⟨.hbm, 1056, rfl⟩
abbrev main_call0_call4_call0_v56 : Ref sig .tc := ⟨.hbm, 1057, rfl⟩
abbrev main_call0_call4_call0_c_14 : Ref sig .tc := ⟨.hbm, 1058, rfl⟩
abbrev main_call0_call4_call0_v57 : Ref sig .tc := ⟨.hbm, 1059, rfl⟩
abbrev main_call0_call4_call0_v58 : Ref sig .tc := ⟨.hbm, 1060, rfl⟩
abbrev main_call0_call4_call0_v59 : Ref sig .tc := ⟨.hbm, 1061, rfl⟩
abbrev main_call0_call4_call0_v60 : Ref sig .tc := ⟨.hbm, 1062, rfl⟩
abbrev main_call0_call4_call0_v61 : Ref sig .tc := ⟨.hbm, 1063, rfl⟩
abbrev main_call0_call4_call0_c_15 : Ref sig .tc := ⟨.hbm, 1064, rfl⟩
abbrev main_call0_call4_call0_v62 : Ref sig .tc := ⟨.hbm, 1065, rfl⟩
abbrev main_call0_call4_call0_v63 : Ref sig .tc := ⟨.hbm, 1066, rfl⟩
abbrev main_call0_call4_call0_c_16 : Ref sig .tc := ⟨.hbm, 1067, rfl⟩
abbrev main_call0_call4_call0_v64 : Ref sig .tc := ⟨.hbm, 1068, rfl⟩
abbrev main_call0_call4_call0_v65 : Ref sig .tc := ⟨.hbm, 1069, rfl⟩
abbrev main_call0_call4_call0_v66 : Ref sig .tc := ⟨.hbm, 1070, rfl⟩
abbrev main_call0_call4_call0_v67 : Ref sig .tc := ⟨.hbm, 1071, rfl⟩
abbrev main_call0_call4_call0_v68 : Ref sig .tc := ⟨.hbm, 1072, rfl⟩
abbrev main_call0_call4_call0_v69 : Ref sig .tc := ⟨.hbm, 1073, rfl⟩
abbrev main_call0_call4_call0_v70 : Ref sig .tc := ⟨.hbm, 1074, rfl⟩
abbrev main_call0_call4_call0_v71 : Ref sig .tc := ⟨.hbm, 1075, rfl⟩
abbrev main_call0_call4_call0_c_17 : Ref sig .tc := ⟨.hbm, 1076, rfl⟩
abbrev main_call0_call4_call0_v72 : Ref sig .tc := ⟨.hbm, 1077, rfl⟩
abbrev main_call0_call4_call0_v73 : Ref sig .tc := ⟨.hbm, 1078, rfl⟩
abbrev main_call0_call4_call0_v74 : Ref sig .tc := ⟨.hbm, 1079, rfl⟩
abbrev main_call0_call4_call0_c_18 : Ref sig .tc := ⟨.hbm, 1080, rfl⟩
abbrev main_call0_call4_call0_v75 : Ref sig .tc := ⟨.hbm, 1081, rfl⟩
abbrev main_call0_call4_call0_v76 : Ref sig .tc := ⟨.hbm, 1082, rfl⟩
abbrev main_call0_call4_call0_c_19 : Ref sig .tc := ⟨.hbm, 1083, rfl⟩
abbrev main_call0_call4_call0_v77 : Ref sig .tc := ⟨.hbm, 1084, rfl⟩
abbrev main_call0_call4_call0_v78 : Ref sig .tc := ⟨.hbm, 1085, rfl⟩
abbrev main_call0_call4_call0_v79 : Ref sig .tc := ⟨.hbm, 1086, rfl⟩
abbrev main_call0_call4_call0_v80 : Ref sig .tc := ⟨.hbm, 1087, rfl⟩
abbrev main_call0_call4_call0_v81 : Ref sig .tc := ⟨.hbm, 1088, rfl⟩
abbrev main_call0_call4_call0_c_20 : Ref sig .tc := ⟨.hbm, 1089, rfl⟩
abbrev main_call0_call4_call0_v82 : Ref sig .tc := ⟨.hbm, 1090, rfl⟩
abbrev main_call0_call4_call0_v83 : Ref sig .tc := ⟨.hbm, 1091, rfl⟩
abbrev main_call0_call4_call0_c_21 : Ref sig .tc := ⟨.hbm, 1092, rfl⟩
abbrev main_call0_call4_call0_v84 : Ref sig .tc := ⟨.hbm, 1093, rfl⟩
abbrev main_call0_call4_call0_v85 : Ref sig .tc := ⟨.hbm, 1094, rfl⟩
abbrev main_call0_call4_call0_v86 : Ref sig .tc := ⟨.hbm, 1095, rfl⟩
abbrev main_call0_call4_call0_v87 : Ref sig .tc := ⟨.hbm, 1096, rfl⟩
abbrev main_call0_call4_call0_v88 : Ref sig .tc := ⟨.hbm, 1097, rfl⟩
abbrev main_call0_call4_call0_c_22 : Ref sig .tc := ⟨.hbm, 1098, rfl⟩
abbrev main_call0_call4_call0_v89 : Ref sig .tc := ⟨.hbm, 1099, rfl⟩
abbrev main_call0_call4_call0_v90 : Ref sig .tc := ⟨.hbm, 1100, rfl⟩
abbrev main_call0_call4_call0_c_23 : Ref sig .tc := ⟨.hbm, 1101, rfl⟩
abbrev main_call0_call4_call0_v91 : Ref sig .tc := ⟨.hbm, 1102, rfl⟩
abbrev main_call0_call4_call0_v92 : Ref sig .tc := ⟨.hbm, 1103, rfl⟩
abbrev main_call0_call4_call0_v93 : Ref sig .tc := ⟨.hbm, 1104, rfl⟩
abbrev main_call0_call4_call0_v94 : Ref sig .tc := ⟨.hbm, 1105, rfl⟩
abbrev main_call0_call4_call0_v95 : Ref sig .tc := ⟨.hbm, 1106, rfl⟩
abbrev main_call0_call4_call0_c_24 : Ref sig .tc := ⟨.hbm, 1107, rfl⟩
abbrev main_call0_call4_call0_v96 : Ref sig .tc := ⟨.hbm, 1108, rfl⟩
abbrev main_call0_call4_call0_v97 : Ref sig .tc := ⟨.hbm, 1109, rfl⟩
abbrev main_call0_call4_call0_c_25 : Ref sig .tc := ⟨.hbm, 1110, rfl⟩
abbrev main_call0_call4_call0_v98 : Ref sig .tc := ⟨.hbm, 1111, rfl⟩
abbrev main_call0_call4_call0_v99 : Ref sig .tc := ⟨.hbm, 1112, rfl⟩
abbrev main_call0_call4_call0_v100 : Ref sig .tc := ⟨.hbm, 1113, rfl⟩
abbrev main_call0_call4_call0_v101 : Ref sig .tc := ⟨.hbm, 1114, rfl⟩
abbrev main_call0_call4_call0_v102 : Ref sig .tc := ⟨.hbm, 1115, rfl⟩
abbrev main_call0_call4_call0_v103 : Ref sig .tc := ⟨.hbm, 1116, rfl⟩
abbrev main_call0_call4_call0_v104 : Ref sig .tc := ⟨.hbm, 1117, rfl⟩
abbrev main_call0_call4_call0_v105 : Ref sig .tc := ⟨.hbm, 1118, rfl⟩
abbrev main_call0_call4_call0_c_26 : Ref sig .tc := ⟨.hbm, 1119, rfl⟩
abbrev main_call0_call4_call0_v106 : Ref sig .tc := ⟨.hbm, 1120, rfl⟩
abbrev main_call0_call4_call0_v107 : Ref sig .tc := ⟨.hbm, 1121, rfl⟩
abbrev main_call0_call4_call0_v108 : Ref sig .tc := ⟨.hbm, 1122, rfl⟩
abbrev main_call0_call4_call0_c_27 : Ref sig .tc := ⟨.hbm, 1123, rfl⟩
abbrev main_call0_call4_call0_v109 : Ref sig .tc := ⟨.hbm, 1124, rfl⟩
abbrev main_call0_call4_call0_v110 : Ref sig .tc := ⟨.hbm, 1125, rfl⟩
abbrev main_call0_call4_call0_c_28 : Ref sig .tc := ⟨.hbm, 1126, rfl⟩
abbrev main_call0_call4_call0_v111 : Ref sig .tc := ⟨.hbm, 1127, rfl⟩
abbrev main_call0_call4_call0_v112 : Ref sig .tc := ⟨.hbm, 1128, rfl⟩
abbrev main_call0_call4_call0_v113 : Ref sig .tc := ⟨.hbm, 1129, rfl⟩
abbrev main_call0_call4_call0_v114 : Ref sig .tc := ⟨.hbm, 1130, rfl⟩
abbrev main_call0_call4_call0_v115 : Ref sig .tc := ⟨.hbm, 1131, rfl⟩
abbrev main_call0_call4_call0_c_29 : Ref sig .tc := ⟨.hbm, 1132, rfl⟩
abbrev main_call0_call4_call0_v116 : Ref sig .tc := ⟨.hbm, 1133, rfl⟩
abbrev main_call0_call4_call0_v117 : Ref sig .tc := ⟨.hbm, 1134, rfl⟩
abbrev main_call0_call4_call0_c_30 : Ref sig .tc := ⟨.hbm, 1135, rfl⟩
abbrev main_call0_call4_call0_v118 : Ref sig .tc := ⟨.hbm, 1136, rfl⟩
abbrev main_call0_call4_call0_v119 : Ref sig .tc := ⟨.hbm, 1137, rfl⟩
abbrev main_call0_call4_call0_v120 : Ref sig .tc := ⟨.hbm, 1138, rfl⟩
abbrev main_call0_call4_call0_v121 : Ref sig .tc := ⟨.hbm, 1139, rfl⟩
abbrev main_call0_call4_call0_v122 : Ref sig .tc := ⟨.hbm, 1140, rfl⟩
abbrev main_call0_call4_call0_c_31 : Ref sig .tc := ⟨.hbm, 1141, rfl⟩
abbrev main_call0_call4_call0_v123 : Ref sig .tc := ⟨.hbm, 1142, rfl⟩
abbrev main_call0_call4_call0_v124 : Ref sig .tc := ⟨.hbm, 1143, rfl⟩
abbrev main_call0_call4_call0_c_32 : Ref sig .tc := ⟨.hbm, 1144, rfl⟩
abbrev main_call0_call4_call0_v125 : Ref sig .tc := ⟨.hbm, 1145, rfl⟩
abbrev main_call0_call4_call0_v126 : Ref sig .tc := ⟨.hbm, 1146, rfl⟩
abbrev main_call0_call4_call0_v127 : Ref sig .tc := ⟨.hbm, 1147, rfl⟩
abbrev main_call0_call4_call0_v128 : Ref sig .tc := ⟨.hbm, 1148, rfl⟩
abbrev main_call0_call4_call0_v129 : Ref sig .tc := ⟨.hbm, 1149, rfl⟩
abbrev main_call0_call4_call0_c_33 : Ref sig .tc := ⟨.hbm, 1150, rfl⟩
abbrev main_call0_call4_call0_v130 : Ref sig .tc := ⟨.hbm, 1151, rfl⟩
abbrev main_call0_call4_call0_v131 : Ref sig .tc := ⟨.hbm, 1152, rfl⟩
abbrev main_call0_call4_call0_c_34 : Ref sig .tc := ⟨.hbm, 1153, rfl⟩
abbrev main_call0_call4_call0_v132 : Ref sig .tc := ⟨.hbm, 1154, rfl⟩
abbrev main_call0_call4_call0_v133 : Ref sig .tc := ⟨.hbm, 1155, rfl⟩
abbrev main_call0_call4_call0_v134 : Ref sig .tc := ⟨.hbm, 1156, rfl⟩
abbrev main_call0_call4_call0_v135 : Ref sig .tc := ⟨.hbm, 1157, rfl⟩
abbrev main_call0_call4_call0_v136 : Ref sig .tc := ⟨.hbm, 1158, rfl⟩
abbrev main_call0_call4_call0_v137 : Ref sig .tc := ⟨.hbm, 1159, rfl⟩
abbrev main_call0_call4_call0_v138 : Ref sig .tc := ⟨.hbm, 1160, rfl⟩
abbrev main_call0_call4_call0_v139 : Ref sig .tc := ⟨.hbm, 1161, rfl⟩
abbrev main_call0_call4_call0_c_35 : Ref sig .tc := ⟨.hbm, 1162, rfl⟩
abbrev main_call0_call4_call0_v140 : Ref sig .tc := ⟨.hbm, 1163, rfl⟩
abbrev main_call0_call4_call0_v141 : Ref sig .tc := ⟨.hbm, 1164, rfl⟩
abbrev main_call0_call4_call0_v142 : Ref sig .tc := ⟨.hbm, 1165, rfl⟩
abbrev main_call0_call4_call0_c_36 : Ref sig .tc := ⟨.hbm, 1166, rfl⟩
abbrev main_call0_call4_call0_v143 : Ref sig .tc := ⟨.hbm, 1167, rfl⟩
abbrev main_call0_call4_call0_v144 : Ref sig .tc := ⟨.hbm, 1168, rfl⟩
abbrev main_call0_call4_call0_c_37 : Ref sig .tc := ⟨.hbm, 1169, rfl⟩
abbrev main_call0_call4_call0_v145 : Ref sig .tc := ⟨.hbm, 1170, rfl⟩
abbrev main_call0_call4_call0_v146 : Ref sig .tc := ⟨.hbm, 1171, rfl⟩
abbrev main_call0_call4_call0_v147 : Ref sig .tc := ⟨.hbm, 1172, rfl⟩
abbrev main_call0_call4_call0_v148 : Ref sig .tc := ⟨.hbm, 1173, rfl⟩
abbrev main_call0_call4_call0_v149 : Ref sig .tc := ⟨.hbm, 1174, rfl⟩
abbrev main_call0_call4_call0_c_38 : Ref sig .tc := ⟨.hbm, 1175, rfl⟩
abbrev main_call0_call4_call0_v150 : Ref sig .tc := ⟨.hbm, 1176, rfl⟩
abbrev main_call0_call4_call0_v151 : Ref sig .tc := ⟨.hbm, 1177, rfl⟩
abbrev main_call0_call4_call0_c_39 : Ref sig .tc := ⟨.hbm, 1178, rfl⟩
abbrev main_call0_call4_call0_v152 : Ref sig .tc := ⟨.hbm, 1179, rfl⟩
abbrev main_call0_call4_call0_v153 : Ref sig .tc := ⟨.hbm, 1180, rfl⟩
abbrev main_call0_call4_call0_v154 : Ref sig .tc := ⟨.hbm, 1181, rfl⟩
abbrev main_call0_call4_call0_v155 : Ref sig .tc := ⟨.hbm, 1182, rfl⟩
abbrev main_call0_call4_call0_v156 : Ref sig .tc := ⟨.hbm, 1183, rfl⟩
abbrev main_call0_call4_call0_c_40 : Ref sig .tc := ⟨.hbm, 1184, rfl⟩
abbrev main_call0_call4_call0_v157 : Ref sig .tc := ⟨.hbm, 1185, rfl⟩
abbrev main_call0_call4_call0_v158 : Ref sig .tc := ⟨.hbm, 1186, rfl⟩
abbrev main_call0_call4_call0_c_41 : Ref sig .tc := ⟨.hbm, 1187, rfl⟩
abbrev main_call0_call4_call0_v159 : Ref sig .tc := ⟨.hbm, 1188, rfl⟩
abbrev main_call0_call4_call0_v160 : Ref sig .tc := ⟨.hbm, 1189, rfl⟩
abbrev main_call0_call4_call0_v161 : Ref sig .tc := ⟨.hbm, 1190, rfl⟩
abbrev main_call0_call4_call0_v162 : Ref sig .tc := ⟨.hbm, 1191, rfl⟩
abbrev main_call0_call4_call0_v163 : Ref sig .tc := ⟨.hbm, 1192, rfl⟩
abbrev main_call0_call4_call0_c_42 : Ref sig .tc := ⟨.hbm, 1193, rfl⟩
abbrev main_call0_call4_call0_v164 : Ref sig .tc := ⟨.hbm, 1194, rfl⟩
abbrev main_call0_call4_call0_v165 : Ref sig .tc := ⟨.hbm, 1195, rfl⟩
abbrev main_call0_call4_call0_c_43 : Ref sig .tc := ⟨.hbm, 1196, rfl⟩
abbrev main_call0_call4_call0_v166 : Ref sig .tc := ⟨.hbm, 1197, rfl⟩
abbrev main_call0_call4_call0_v167 : Ref sig .tc := ⟨.hbm, 1198, rfl⟩
abbrev main_call0_call4_call0_v168 : Ref sig .tc := ⟨.hbm, 1199, rfl⟩
abbrev main_call0_call4_call0_v169 : Ref sig .tc := ⟨.hbm, 1200, rfl⟩
abbrev main_call0_call4_call0_v170 : Ref sig .tc := ⟨.hbm, 1201, rfl⟩
abbrev main_call0_call4_v11_0 : Ref sig .tc := ⟨.hbm, 1202, rfl⟩
abbrev main_call0_call4_call0_v172 : Ref sig .tc := ⟨.hbm, 1203, rfl⟩
abbrev main_call0_call4_call0_v173 : Ref sig .tc := ⟨.hbm, 1204, rfl⟩
abbrev main_call0_call4_call0_c_44 : Ref sig .tc := ⟨.hbm, 1205, rfl⟩
abbrev main_call0_call4_call0_v174 : Ref sig .tc := ⟨.hbm, 1206, rfl⟩
abbrev main_call0_call4_v11_1 : Ref sig .tc := ⟨.hbm, 1207, rfl⟩
abbrev main_call0_call4_v12 : Ref sig .tc := ⟨.hbm, 1208, rfl⟩
abbrev main_call0_call4_v13 : Ref sig .tc := ⟨.hbm, 1209, rfl⟩
abbrev main_call0_v38 : Ref sig .tc := ⟨.hbm, 1210, rfl⟩
abbrev main_call0_v39 : Ref sig .tc := ⟨.hbm, 1211, rfl⟩
abbrev main_call0_v40 : Ref sig .tc := ⟨.hbm, 1212, rfl⟩
abbrev main_call0_v41 : Ref sig .tc := ⟨.hbm, 1213, rfl⟩
abbrev main_call0_v42 : Ref sig .tc := ⟨.hbm, 1214, rfl⟩
abbrev main_call0_v43 : Ref sig .tc := ⟨.hbm, 1215, rfl⟩
abbrev main_call0_v44 : Ref sig .tc := ⟨.hbm, 1216, rfl⟩
abbrev main_call0_v45 : Ref sig .tc := ⟨.hbm, 1217, rfl⟩
abbrev main_call0_v46 : Ref sig .tc := ⟨.hbm, 1218, rfl⟩
abbrev main_call0_v47 : Ref sig .tc := ⟨.hbm, 1219, rfl⟩
abbrev main_call0_c_3 : Ref sig .tc := ⟨.hbm, 1220, rfl⟩
abbrev main_call0_v48 : Ref sig .tc := ⟨.hbm, 1221, rfl⟩
abbrev main_call0_v49 : Ref sig .tc := ⟨.hbm, 1222, rfl⟩
abbrev main_call0_c_4 : Ref sig .tc := ⟨.hbm, 1223, rfl⟩
abbrev main_call0_v50 : Ref sig .tc := ⟨.hbm, 1224, rfl⟩
abbrev main_call0_v51 : Ref sig .tc := ⟨.hbm, 1225, rfl⟩
abbrev main_call0_v52 : Ref sig .tc := ⟨.hbm, 1226, rfl⟩
abbrev main_call0_v53 : Ref sig .tc := ⟨.hbm, 1227, rfl⟩
abbrev main_call0_call5_v0 : Ref sig .tc := ⟨.hbm, 1228, rfl⟩
abbrev main_call0_call5_c : Ref sig .tc := ⟨.hbm, 1229, rfl⟩
abbrev main_call0_call5_v1 : Ref sig .tc := ⟨.hbm, 1230, rfl⟩
abbrev main_call0_call5_v2 : Ref sig .tc := ⟨.hbm, 1231, rfl⟩
abbrev main_call0_call5_v3 : Ref sig .tc := ⟨.hbm, 1232, rfl⟩
abbrev main_call0_call5_v4 : Ref sig .tc := ⟨.hbm, 1233, rfl⟩
abbrev main_call0_call5_v5 : Ref sig .tc := ⟨.hbm, 1234, rfl⟩
abbrev main_call0_call5_v6 : Ref sig .tc := ⟨.hbm, 1235, rfl⟩
abbrev main_call0_call5_c_0 : Ref sig .tc := ⟨.hbm, 1236, rfl⟩
abbrev main_call0_call5_v7 : Ref sig .tc := ⟨.hbm, 1237, rfl⟩
abbrev main_call0_call5_v8 : Ref sig .tc := ⟨.hbm, 1238, rfl⟩
abbrev main_call0_call5_c_1 : Ref sig .tc := ⟨.hbm, 1239, rfl⟩
abbrev main_call0_call5_v9 : Ref sig .tc := ⟨.hbm, 1240, rfl⟩
abbrev main_call0_call5_v10 : Ref sig .tc := ⟨.hbm, 1241, rfl⟩
abbrev main_call0_call5_v11 : Ref sig .tc := ⟨.hbm, 1242, rfl⟩
abbrev main_call0_call5_v12 : Ref sig .tc := ⟨.hbm, 1243, rfl⟩
abbrev main_call0_call5_v13 : Ref sig .tc := ⟨.hbm, 1244, rfl⟩
abbrev main_call0_call5_c_2 : Ref sig .tc := ⟨.hbm, 1245, rfl⟩
abbrev main_call0_call5_v14 : Ref sig .tc := ⟨.hbm, 1246, rfl⟩
abbrev main_call0_call5_v15 : Ref sig .tc := ⟨.hbm, 1247, rfl⟩
abbrev main_call0_call5_c_3 : Ref sig .tc := ⟨.hbm, 1248, rfl⟩
abbrev main_call0_call5_v16 : Ref sig .tc := ⟨.hbm, 1249, rfl⟩
abbrev main_call0_call5_v17 : Ref sig .tc := ⟨.hbm, 1250, rfl⟩
abbrev main_call0_call5_v18 : Ref sig .tc := ⟨.hbm, 1251, rfl⟩
abbrev main_call0_call5_v19 : Ref sig .tc := ⟨.hbm, 1252, rfl⟩
abbrev main_call0_call5_v20 : Ref sig .tc := ⟨.hbm, 1253, rfl⟩
abbrev main_call0_call5_c_4 : Ref sig .tc := ⟨.hbm, 1254, rfl⟩
abbrev main_call0_call5_v21 : Ref sig .tc := ⟨.hbm, 1255, rfl⟩
abbrev main_call0_call5_v22 : Ref sig .tc := ⟨.hbm, 1256, rfl⟩
abbrev main_call0_call5_c_5 : Ref sig .tc := ⟨.hbm, 1257, rfl⟩
abbrev main_call0_call5_v23 : Ref sig .tc := ⟨.hbm, 1258, rfl⟩
abbrev main_call0_call5_v24 : Ref sig .tc := ⟨.hbm, 1259, rfl⟩
abbrev main_call0_call5_v25 : Ref sig .tc := ⟨.hbm, 1260, rfl⟩
abbrev main_call0_call5_v26 : Ref sig .tc := ⟨.hbm, 1261, rfl⟩
abbrev main_call0_call5_v27 : Ref sig .tc := ⟨.hbm, 1262, rfl⟩
abbrev main_call0_call5_c_6 : Ref sig .tc := ⟨.hbm, 1263, rfl⟩
abbrev main_call0_call5_v28 : Ref sig .tc := ⟨.hbm, 1264, rfl⟩
abbrev main_call0_call5_v29 : Ref sig .tc := ⟨.hbm, 1265, rfl⟩
abbrev main_call0_call5_c_7 : Ref sig .tc := ⟨.hbm, 1266, rfl⟩
abbrev main_call0_call5_v30 : Ref sig .tc := ⟨.hbm, 1267, rfl⟩
abbrev main_call0_call5_v31 : Ref sig .tc := ⟨.hbm, 1268, rfl⟩
abbrev main_call0_call5_v32 : Ref sig .tc := ⟨.hbm, 1269, rfl⟩
abbrev main_call0_call5_v33 : Ref sig .tc := ⟨.hbm, 1270, rfl⟩
abbrev main_call0_call5_v34 : Ref sig .tc := ⟨.hbm, 1271, rfl⟩
abbrev main_call0_call5_v35 : Ref sig .tc := ⟨.hbm, 1272, rfl⟩
abbrev main_call0_call5_v36 : Ref sig .tc := ⟨.hbm, 1273, rfl⟩
abbrev main_call0_call5_v37 : Ref sig .tc := ⟨.hbm, 1274, rfl⟩
abbrev main_call0_call5_c_8 : Ref sig .tc := ⟨.hbm, 1275, rfl⟩
abbrev main_call0_call5_v38 : Ref sig .tc := ⟨.hbm, 1276, rfl⟩
abbrev main_call0_call5_v39 : Ref sig .tc := ⟨.hbm, 1277, rfl⟩
abbrev main_call0_call5_v40 : Ref sig .tc := ⟨.hbm, 1278, rfl⟩
abbrev main_call0_call5_c_9 : Ref sig .tc := ⟨.hbm, 1279, rfl⟩
abbrev main_call0_call5_v41 : Ref sig .tc := ⟨.hbm, 1280, rfl⟩
abbrev main_call0_call5_v42 : Ref sig .tc := ⟨.hbm, 1281, rfl⟩
abbrev main_call0_call5_c_10 : Ref sig .tc := ⟨.hbm, 1282, rfl⟩
abbrev main_call0_call5_v43 : Ref sig .tc := ⟨.hbm, 1283, rfl⟩
abbrev main_call0_call5_v44 : Ref sig .tc := ⟨.hbm, 1284, rfl⟩
abbrev main_call0_call5_v45 : Ref sig .tc := ⟨.hbm, 1285, rfl⟩
abbrev main_call0_call5_v46 : Ref sig .tc := ⟨.hbm, 1286, rfl⟩
abbrev main_call0_call5_v47 : Ref sig .tc := ⟨.hbm, 1287, rfl⟩
abbrev main_call0_call5_c_11 : Ref sig .tc := ⟨.hbm, 1288, rfl⟩
abbrev main_call0_call5_v48 : Ref sig .tc := ⟨.hbm, 1289, rfl⟩
abbrev main_call0_call5_v49 : Ref sig .tc := ⟨.hbm, 1290, rfl⟩
abbrev main_call0_call5_c_12 : Ref sig .tc := ⟨.hbm, 1291, rfl⟩
abbrev main_call0_call5_v50 : Ref sig .tc := ⟨.hbm, 1292, rfl⟩
abbrev main_call0_call5_v51 : Ref sig .tc := ⟨.hbm, 1293, rfl⟩
abbrev main_call0_call5_v52 : Ref sig .tc := ⟨.hbm, 1294, rfl⟩
abbrev main_call0_call5_v53 : Ref sig .tc := ⟨.hbm, 1295, rfl⟩
abbrev main_call0_call5_v54 : Ref sig .tc := ⟨.hbm, 1296, rfl⟩
abbrev main_call0_call5_c_13 : Ref sig .tc := ⟨.hbm, 1297, rfl⟩
abbrev main_call0_call5_v55 : Ref sig .tc := ⟨.hbm, 1298, rfl⟩
abbrev main_call0_call5_v56 : Ref sig .tc := ⟨.hbm, 1299, rfl⟩
abbrev main_call0_call5_c_14 : Ref sig .tc := ⟨.hbm, 1300, rfl⟩
abbrev main_call0_call5_v57 : Ref sig .tc := ⟨.hbm, 1301, rfl⟩
abbrev main_call0_call5_v58 : Ref sig .tc := ⟨.hbm, 1302, rfl⟩
abbrev main_call0_call5_v59 : Ref sig .tc := ⟨.hbm, 1303, rfl⟩
abbrev main_call0_call5_v60 : Ref sig .tc := ⟨.hbm, 1304, rfl⟩
abbrev main_call0_call5_v61 : Ref sig .tc := ⟨.hbm, 1305, rfl⟩
abbrev main_call0_call5_c_15 : Ref sig .tc := ⟨.hbm, 1306, rfl⟩
abbrev main_call0_call5_v62 : Ref sig .tc := ⟨.hbm, 1307, rfl⟩
abbrev main_call0_call5_v63 : Ref sig .tc := ⟨.hbm, 1308, rfl⟩
abbrev main_call0_call5_c_16 : Ref sig .tc := ⟨.hbm, 1309, rfl⟩
abbrev main_call0_call5_v64 : Ref sig .tc := ⟨.hbm, 1310, rfl⟩
abbrev main_call0_call5_v65 : Ref sig .tc := ⟨.hbm, 1311, rfl⟩
abbrev main_call0_call5_v66 : Ref sig .tc := ⟨.hbm, 1312, rfl⟩
abbrev main_call0_call5_v67 : Ref sig .tc := ⟨.hbm, 1313, rfl⟩
abbrev main_call0_call5_v68 : Ref sig .tc := ⟨.hbm, 1314, rfl⟩
abbrev main_call0_call5_v69 : Ref sig .tc := ⟨.hbm, 1315, rfl⟩
abbrev main_call0_call5_v70 : Ref sig .tc := ⟨.hbm, 1316, rfl⟩
abbrev main_call0_call5_v71 : Ref sig .tc := ⟨.hbm, 1317, rfl⟩
abbrev main_call0_call5_c_17 : Ref sig .tc := ⟨.hbm, 1318, rfl⟩
abbrev main_call0_call5_v72 : Ref sig .tc := ⟨.hbm, 1319, rfl⟩
abbrev main_call0_call5_v73 : Ref sig .tc := ⟨.hbm, 1320, rfl⟩
abbrev main_call0_call5_v74 : Ref sig .tc := ⟨.hbm, 1321, rfl⟩
abbrev main_call0_call5_c_18 : Ref sig .tc := ⟨.hbm, 1322, rfl⟩
abbrev main_call0_call5_v75 : Ref sig .tc := ⟨.hbm, 1323, rfl⟩
abbrev main_call0_call5_v76 : Ref sig .tc := ⟨.hbm, 1324, rfl⟩
abbrev main_call0_call5_c_19 : Ref sig .tc := ⟨.hbm, 1325, rfl⟩
abbrev main_call0_call5_v77 : Ref sig .tc := ⟨.hbm, 1326, rfl⟩
abbrev main_call0_call5_v78 : Ref sig .tc := ⟨.hbm, 1327, rfl⟩
abbrev main_call0_call5_v79 : Ref sig .tc := ⟨.hbm, 1328, rfl⟩
abbrev main_call0_call5_v80 : Ref sig .tc := ⟨.hbm, 1329, rfl⟩
abbrev main_call0_call5_v81 : Ref sig .tc := ⟨.hbm, 1330, rfl⟩
abbrev main_call0_call5_c_20 : Ref sig .tc := ⟨.hbm, 1331, rfl⟩
abbrev main_call0_call5_v82 : Ref sig .tc := ⟨.hbm, 1332, rfl⟩
abbrev main_call0_call5_v83 : Ref sig .tc := ⟨.hbm, 1333, rfl⟩
abbrev main_call0_call5_c_21 : Ref sig .tc := ⟨.hbm, 1334, rfl⟩
abbrev main_call0_call5_v84 : Ref sig .tc := ⟨.hbm, 1335, rfl⟩
abbrev main_call0_call5_v85 : Ref sig .tc := ⟨.hbm, 1336, rfl⟩
abbrev main_call0_call5_v86 : Ref sig .tc := ⟨.hbm, 1337, rfl⟩
abbrev main_call0_call5_v87 : Ref sig .tc := ⟨.hbm, 1338, rfl⟩
abbrev main_call0_call5_v88 : Ref sig .tc := ⟨.hbm, 1339, rfl⟩
abbrev main_call0_call5_c_22 : Ref sig .tc := ⟨.hbm, 1340, rfl⟩
abbrev main_call0_call5_v89 : Ref sig .tc := ⟨.hbm, 1341, rfl⟩
abbrev main_call0_call5_v90 : Ref sig .tc := ⟨.hbm, 1342, rfl⟩
abbrev main_call0_call5_c_23 : Ref sig .tc := ⟨.hbm, 1343, rfl⟩
abbrev main_call0_call5_v91 : Ref sig .tc := ⟨.hbm, 1344, rfl⟩
abbrev main_call0_call5_v92 : Ref sig .tc := ⟨.hbm, 1345, rfl⟩
abbrev main_call0_call5_v93 : Ref sig .tc := ⟨.hbm, 1346, rfl⟩
abbrev main_call0_call5_v94 : Ref sig .tc := ⟨.hbm, 1347, rfl⟩
abbrev main_call0_call5_v95 : Ref sig .tc := ⟨.hbm, 1348, rfl⟩
abbrev main_call0_call5_c_24 : Ref sig .tc := ⟨.hbm, 1349, rfl⟩
abbrev main_call0_call5_v96 : Ref sig .tc := ⟨.hbm, 1350, rfl⟩
abbrev main_call0_call5_v97 : Ref sig .tc := ⟨.hbm, 1351, rfl⟩
abbrev main_call0_call5_c_25 : Ref sig .tc := ⟨.hbm, 1352, rfl⟩
abbrev main_call0_call5_v98 : Ref sig .tc := ⟨.hbm, 1353, rfl⟩
abbrev main_call0_call5_v99 : Ref sig .tc := ⟨.hbm, 1354, rfl⟩
abbrev main_call0_call5_v100 : Ref sig .tc := ⟨.hbm, 1355, rfl⟩
abbrev main_call0_call5_v101 : Ref sig .tc := ⟨.hbm, 1356, rfl⟩
abbrev main_call0_call5_v102 : Ref sig .tc := ⟨.hbm, 1357, rfl⟩
abbrev main_call0_call5_v103 : Ref sig .tc := ⟨.hbm, 1358, rfl⟩
abbrev main_call0_call5_v104 : Ref sig .tc := ⟨.hbm, 1359, rfl⟩
abbrev main_call0_call5_v105 : Ref sig .tc := ⟨.hbm, 1360, rfl⟩
abbrev main_call0_call5_c_26 : Ref sig .tc := ⟨.hbm, 1361, rfl⟩
abbrev main_call0_call5_v106 : Ref sig .tc := ⟨.hbm, 1362, rfl⟩
abbrev main_call0_call5_v107 : Ref sig .tc := ⟨.hbm, 1363, rfl⟩
abbrev main_call0_call5_v108 : Ref sig .tc := ⟨.hbm, 1364, rfl⟩
abbrev main_call0_call5_c_27 : Ref sig .tc := ⟨.hbm, 1365, rfl⟩
abbrev main_call0_call5_v109 : Ref sig .tc := ⟨.hbm, 1366, rfl⟩
abbrev main_call0_call5_v110 : Ref sig .tc := ⟨.hbm, 1367, rfl⟩
abbrev main_call0_call5_c_28 : Ref sig .tc := ⟨.hbm, 1368, rfl⟩
abbrev main_call0_call5_v111 : Ref sig .tc := ⟨.hbm, 1369, rfl⟩
abbrev main_call0_call5_v112 : Ref sig .tc := ⟨.hbm, 1370, rfl⟩
abbrev main_call0_call5_v113 : Ref sig .tc := ⟨.hbm, 1371, rfl⟩
abbrev main_call0_call5_v114 : Ref sig .tc := ⟨.hbm, 1372, rfl⟩
abbrev main_call0_call5_v115 : Ref sig .tc := ⟨.hbm, 1373, rfl⟩
abbrev main_call0_call5_c_29 : Ref sig .tc := ⟨.hbm, 1374, rfl⟩
abbrev main_call0_call5_v116 : Ref sig .tc := ⟨.hbm, 1375, rfl⟩
abbrev main_call0_call5_v117 : Ref sig .tc := ⟨.hbm, 1376, rfl⟩
abbrev main_call0_call5_c_30 : Ref sig .tc := ⟨.hbm, 1377, rfl⟩
abbrev main_call0_call5_v118 : Ref sig .tc := ⟨.hbm, 1378, rfl⟩
abbrev main_call0_call5_v119 : Ref sig .tc := ⟨.hbm, 1379, rfl⟩
abbrev main_call0_call5_v120 : Ref sig .tc := ⟨.hbm, 1380, rfl⟩
abbrev main_call0_call5_v121 : Ref sig .tc := ⟨.hbm, 1381, rfl⟩
abbrev main_call0_call5_v122 : Ref sig .tc := ⟨.hbm, 1382, rfl⟩
abbrev main_call0_call5_c_31 : Ref sig .tc := ⟨.hbm, 1383, rfl⟩
abbrev main_call0_call5_v123 : Ref sig .tc := ⟨.hbm, 1384, rfl⟩
abbrev main_call0_call5_v124 : Ref sig .tc := ⟨.hbm, 1385, rfl⟩
abbrev main_call0_call5_c_32 : Ref sig .tc := ⟨.hbm, 1386, rfl⟩
abbrev main_call0_call5_v125 : Ref sig .tc := ⟨.hbm, 1387, rfl⟩
abbrev main_call0_call5_v126 : Ref sig .tc := ⟨.hbm, 1388, rfl⟩
abbrev main_call0_call5_v127 : Ref sig .tc := ⟨.hbm, 1389, rfl⟩
abbrev main_call0_call5_v128 : Ref sig .tc := ⟨.hbm, 1390, rfl⟩
abbrev main_call0_call5_v129 : Ref sig .tc := ⟨.hbm, 1391, rfl⟩
abbrev main_call0_call5_c_33 : Ref sig .tc := ⟨.hbm, 1392, rfl⟩
abbrev main_call0_call5_v130 : Ref sig .tc := ⟨.hbm, 1393, rfl⟩
abbrev main_call0_call5_v131 : Ref sig .tc := ⟨.hbm, 1394, rfl⟩
abbrev main_call0_call5_c_34 : Ref sig .tc := ⟨.hbm, 1395, rfl⟩
abbrev main_call0_call5_v132 : Ref sig .tc := ⟨.hbm, 1396, rfl⟩
abbrev main_call0_call5_v133 : Ref sig .tc := ⟨.hbm, 1397, rfl⟩
abbrev main_call0_call5_v134 : Ref sig .tc := ⟨.hbm, 1398, rfl⟩
abbrev main_call0_call5_v135 : Ref sig .tc := ⟨.hbm, 1399, rfl⟩
abbrev main_call0_call5_v136 : Ref sig .tc := ⟨.hbm, 1400, rfl⟩
abbrev main_call0_call5_v137 : Ref sig .tc := ⟨.hbm, 1401, rfl⟩
abbrev main_call0_call5_v138 : Ref sig .tc := ⟨.hbm, 1402, rfl⟩
abbrev main_call0_call5_v139 : Ref sig .tc := ⟨.hbm, 1403, rfl⟩
abbrev main_call0_call5_c_35 : Ref sig .tc := ⟨.hbm, 1404, rfl⟩
abbrev main_call0_call5_v140 : Ref sig .tc := ⟨.hbm, 1405, rfl⟩
abbrev main_call0_call5_v141 : Ref sig .tc := ⟨.hbm, 1406, rfl⟩
abbrev main_call0_call5_v142 : Ref sig .tc := ⟨.hbm, 1407, rfl⟩
abbrev main_call0_call5_c_36 : Ref sig .tc := ⟨.hbm, 1408, rfl⟩
abbrev main_call0_call5_v143 : Ref sig .tc := ⟨.hbm, 1409, rfl⟩
abbrev main_call0_call5_v144 : Ref sig .tc := ⟨.hbm, 1410, rfl⟩
abbrev main_call0_call5_c_37 : Ref sig .tc := ⟨.hbm, 1411, rfl⟩
abbrev main_call0_call5_v145 : Ref sig .tc := ⟨.hbm, 1412, rfl⟩
abbrev main_call0_call5_v146 : Ref sig .tc := ⟨.hbm, 1413, rfl⟩
abbrev main_call0_call5_v147 : Ref sig .tc := ⟨.hbm, 1414, rfl⟩
abbrev main_call0_call5_v148 : Ref sig .tc := ⟨.hbm, 1415, rfl⟩
abbrev main_call0_call5_v149 : Ref sig .tc := ⟨.hbm, 1416, rfl⟩
abbrev main_call0_call5_c_38 : Ref sig .tc := ⟨.hbm, 1417, rfl⟩
abbrev main_call0_call5_v150 : Ref sig .tc := ⟨.hbm, 1418, rfl⟩
abbrev main_call0_call5_v151 : Ref sig .tc := ⟨.hbm, 1419, rfl⟩
abbrev main_call0_call5_c_39 : Ref sig .tc := ⟨.hbm, 1420, rfl⟩
abbrev main_call0_call5_v152 : Ref sig .tc := ⟨.hbm, 1421, rfl⟩
abbrev main_call0_call5_v153 : Ref sig .tc := ⟨.hbm, 1422, rfl⟩
abbrev main_call0_call5_v154 : Ref sig .tc := ⟨.hbm, 1423, rfl⟩
abbrev main_call0_call5_v155 : Ref sig .tc := ⟨.hbm, 1424, rfl⟩
abbrev main_call0_call5_v156 : Ref sig .tc := ⟨.hbm, 1425, rfl⟩
abbrev main_call0_call5_c_40 : Ref sig .tc := ⟨.hbm, 1426, rfl⟩
abbrev main_call0_call5_v157 : Ref sig .tc := ⟨.hbm, 1427, rfl⟩
abbrev main_call0_call5_v158 : Ref sig .tc := ⟨.hbm, 1428, rfl⟩
abbrev main_call0_call5_c_41 : Ref sig .tc := ⟨.hbm, 1429, rfl⟩
abbrev main_call0_call5_v159 : Ref sig .tc := ⟨.hbm, 1430, rfl⟩
abbrev main_call0_call5_v160 : Ref sig .tc := ⟨.hbm, 1431, rfl⟩
abbrev main_call0_call5_v161 : Ref sig .tc := ⟨.hbm, 1432, rfl⟩
abbrev main_call0_call5_v162 : Ref sig .tc := ⟨.hbm, 1433, rfl⟩
abbrev main_call0_call5_v163 : Ref sig .tc := ⟨.hbm, 1434, rfl⟩
abbrev main_call0_call5_c_42 : Ref sig .tc := ⟨.hbm, 1435, rfl⟩
abbrev main_call0_call5_v164 : Ref sig .tc := ⟨.hbm, 1436, rfl⟩
abbrev main_call0_call5_v165 : Ref sig .tc := ⟨.hbm, 1437, rfl⟩
abbrev main_call0_call5_c_43 : Ref sig .tc := ⟨.hbm, 1438, rfl⟩
abbrev main_call0_call5_v166 : Ref sig .tc := ⟨.hbm, 1439, rfl⟩
abbrev main_call0_call5_v167 : Ref sig .tc := ⟨.hbm, 1440, rfl⟩
abbrev main_call0_call5_v168 : Ref sig .tc := ⟨.hbm, 1441, rfl⟩
abbrev main_call0_call5_v169 : Ref sig .tc := ⟨.hbm, 1442, rfl⟩
abbrev main_call0_call5_v170 : Ref sig .tc := ⟨.hbm, 1443, rfl⟩
abbrev main_call0_v54_0 : Ref sig .tc := ⟨.hbm, 1444, rfl⟩
abbrev main_call0_call5_v172 : Ref sig .tc := ⟨.hbm, 1445, rfl⟩
abbrev main_call0_call5_v173 : Ref sig .tc := ⟨.hbm, 1446, rfl⟩
abbrev main_call0_call5_c_44 : Ref sig .tc := ⟨.hbm, 1447, rfl⟩
abbrev main_call0_call5_v174 : Ref sig .tc := ⟨.hbm, 1448, rfl⟩
abbrev main_call0_v54_1 : Ref sig .tc := ⟨.hbm, 1449, rfl⟩
abbrev main_call0_v55 : Ref sig .tc := ⟨.hbm, 1450, rfl⟩
abbrev main_call0_v56_0 : Ref sig .tc := ⟨.hbm, 1451, rfl⟩
abbrev main_v8 : Ref sig .tc := ⟨.hbm, 1452, rfl⟩
abbrev main_v9 : Ref sig .tc := ⟨.hbm, 1453, rfl⟩
abbrev main_v10 : Ref sig .tc := ⟨.hbm, 1454, rfl⟩
abbrev main_v11 : Ref sig .tc := ⟨.hbm, 1455, rfl⟩
abbrev main_v12 : Ref sig .tc := ⟨.hbm, 1456, rfl⟩
abbrev main_c_2 : Ref sig .tc := ⟨.hbm, 1457, rfl⟩
abbrev main_v13 : Ref sig .tc := ⟨.hbm, 1458, rfl⟩
abbrev main_v14 : Ref sig .tc := ⟨.hbm, 1459, rfl⟩
abbrev main_c_3 : Ref sig .tc := ⟨.hbm, 1460, rfl⟩
abbrev main_v15 : Ref sig .tc := ⟨.hbm, 1461, rfl⟩
abbrev main_v16 : Ref sig .tc := ⟨.hbm, 1462, rfl⟩
abbrev main_v17 : Ref sig .tc := ⟨.hbm, 1463, rfl⟩
abbrev main_v18 : Ref sig .tc := ⟨.hbm, 1464, rfl⟩
abbrev main_v19 : Ref sig .tc := ⟨.hbm, 1465, rfl⟩
abbrev main_cst : Ref sig .tc := ⟨.hbm, 1466, rfl⟩
abbrev main_v20 : Ref sig .tc := ⟨.hbm, 1467, rfl⟩
abbrev main_v21 : Ref sig .tc := ⟨.hbm, 1468, rfl⟩
abbrev main_c_4 : Ref sig .tc := ⟨.hbm, 1469, rfl⟩
abbrev main_v22 : Ref sig .tc := ⟨.hbm, 1470, rfl⟩
abbrev main_v23 : Ref sig .tc := ⟨.hbm, 1471, rfl⟩
abbrev main_c_5 : Ref sig .tc := ⟨.hbm, 1472, rfl⟩
abbrev main_v24 : Ref sig .tc := ⟨.hbm, 1473, rfl⟩
abbrev main_v25 : Ref sig .tc := ⟨.hbm, 1474, rfl⟩
abbrev main_v26 : Ref sig .tc := ⟨.hbm, 1475, rfl⟩
abbrev main_v27 : Ref sig .tc := ⟨.hbm, 1476, rfl⟩
abbrev main_v28 : Ref sig .tc := ⟨.hbm, 1477, rfl⟩
abbrev main_v29 : Ref sig .tc := ⟨.hbm, 1478, rfl⟩
abbrev main_cst_6 : Ref sig .tc := ⟨.hbm, 1479, rfl⟩
abbrev main_v30 : Ref sig .tc := ⟨.hbm, 1480, rfl⟩
abbrev main_cst_7 : Ref sig .tc := ⟨.hbm, 1481, rfl⟩
abbrev main_v31 : Ref sig .tc := ⟨.hbm, 1482, rfl⟩
abbrev main_v32 : Ref sig .tc := ⟨.hbm, 1483, rfl⟩

abbrev nD : Nat := 1
abbrev τ : Topo := Topo.v7x

variable {F : FTy → Type} [FloatOps F]
-- ==== Proof.RefOps.lean ====
/- The reference's operations in order: those before the shuffle, the shuffle, and those behind it. -/
module

public import proofs.«01_k».proof.Proof.Gen.ReferenceIdeal
public import Idealize.ShloMosaic.Lib.StableHlo.Run
public import Idealize.ShloMosaic.Lib.Pipeline.Frame
public import Idealize.ShloMosaic.Lib.Tactic
public import Idealize.ShloMosaic.Lib.Quiescent

@[expose] public section

set_option maxRecDepth 16384

noncomputable section

namespace Cert.Reference

open Cert.ReferenceIdeal Cert.ReferenceIdeal.Gen Idealize.ShloMosaic Idealize.ShloMosaic.TcCoe Idealize.SL.Sem
open Idealize.ShloMosaic.StableHlo

variable {F : FTy → Type} [FloatOps F]

/-- The operations before the shuffle: the key and the numbers to be shuffled. -/
abbrev before : List (HloOp τ sig (Elt F)) :=
  [ nullary main_c (constantI S_ 32 42#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_v7 (iotaInDim S12582912 32 0) ]

/-- The operations after the shuffle: the squared differences, the drawn ones doubled, and the mean. -/
abbrev behind : List (HloOp τ sig (Elt F)) :=
  [ binary main_arg0 main_arg1 main_v9 (subf : (⟨S16x3x512x512, .f32⟩ : BufTy).Contents (Elt F) → (⟨S16x3x512x512, .f32⟩ : BufTy).Contents (Elt F) → (⟨S16x3x512x512, .f32⟩ : BufTy).Contents (Elt F)),
    binary main_v9 main_v9 main_v10 (mulf : (⟨S16x3x512x512, .f32⟩ : BufTy).Contents (Elt F) → (⟨S16x3x512x512, .f32⟩ : BufTy).Contents (Elt F) → (⟨S16x3x512x512, .f32⟩ : BufTy).Contents (Elt F)),
    reshape main_v10 main_v11 (rfl : (.f32 : EltTy) = .f32) shapeCasts_S16x3x512x512_S12582912,
    unary main_v8 main_v12 ((extractStridedSlice S6291456 ![0] · slices_S12582912_S6291456_0) : (⟨S12582912, .i32⟩ : BufTy).Contents (Elt F) → (⟨S6291456, .i32⟩ : BufTy).Contents (Elt F)),
    nullary main_c_2 (constantI S_ 32 0#32),
    unary main_c_2 main_v13 (broadcastInDim S6291456 ![] bcast_S_S6291456 : (⟨S_, .i32⟩ : BufTy).Contents (Elt F) → (⟨S6291456, .i32⟩ : BufTy).Contents (Elt F)),
    binary main_v12 main_v13 main_v14 (cmpi .slt : (⟨S6291456, .i32⟩ : BufTy).Contents (Elt F) → (⟨S6291456, .i32⟩ : BufTy).Contents (Elt F) → (⟨S6291456, .i1⟩ : BufTy).Contents (Elt F)),
    nullary main_c_3 (constantI S_ 32 12582912#32),
    unary main_c_3 main_v15 (broadcastInDim S6291456 ![] bcast_S_S6291456 : (⟨S_, .i32⟩ : BufTy).Contents (Elt F) → (⟨S6291456, .i32⟩ : BufTy).Contents (Elt F)),
    binary main_v12 main_v15 main_v16 (addi : (⟨S6291456, .i32⟩ : BufTy).Contents (Elt F) → (⟨S6291456, .i32⟩ : BufTy).Contents (Elt F) → (⟨S6291456, .i32⟩ : BufTy).Contents (Elt F)),
    ternary main_v14 main_v16 main_v12 main_v17 (select : (⟨S6291456, .i1⟩ : BufTy).Contents (Elt F) → (⟨S6291456, .i32⟩ : BufTy).Contents (Elt F) → (⟨S6291456, .i32⟩ : BufTy).Contents (Elt F) → (⟨S6291456, .i32⟩ : BufTy).Contents (Elt F)),
    unary main_v17 main_v18 (broadcastInDim S6291456x1 ![0] bcast_S6291456_S6291456x1_0 : (⟨S6291456, .i32⟩ : BufTy).Contents (Elt F) → (⟨S6291456x1, .i32⟩ : BufTy).Contents (Elt F)),
    binary main_v11 main_v18 main_v19 ((fun x i => Host.gather gather_S12582912_S6291456x1_S6291456_n_0_n_n_0_1_1 x i) : (⟨S12582912, .f32⟩ : BufTy).Contents (Elt F) → (⟨S6291456x1, .i32⟩ : BufTy).Contents (Elt F) → (⟨S6291456, .f32⟩ : BufTy).Contents (Elt F)),
    nullary main_cst (constant S_ .f32 0x40000000#32),
    unary main_cst main_v20 (broadcastInDim S6291456 ![] bcast_S_S6291456 : (⟨S_, .f32⟩ : BufTy).Contents (Elt F) → (⟨S6291456, .f32⟩ : BufTy).Contents (Elt F)),
    binary main_v19 main_v20 main_v21 (mulf : (⟨S6291456, .f32⟩ : BufTy).Contents (Elt F) → (⟨S6291456, .f32⟩ : BufTy).Contents (Elt F) → (⟨S6291456, .f32⟩ : BufTy).Contents (Elt F)),
    nullary main_c_4 (constantI S_ 32 0#32),
    unary main_c_4 main_v22 (broadcastInDim S6291456 ![] bcast_S_S6291456 : (⟨S_, .i32⟩ : BufTy).Contents (Elt F) → (⟨S6291456, .i32⟩ : BufTy).Contents (Elt F)),
    binary main_v12 main_v22 main_v23 (cmpi .slt : (⟨S6291456, .i32⟩ : BufTy).Contents (Elt F) → (⟨S6291456, .i32⟩ : BufTy).Contents (Elt F) → (⟨S6291456, .i1⟩ : BufTy).Contents (Elt F)),
    nullary main_c_5 (constantI S_ 32 12582912#32),
    unary main_c_5 main_v24 (broadcastInDim S6291456 ![] bcast_S_S6291456 : (⟨S_, .i32⟩ : BufTy).Contents (Elt F) → (⟨S6291456, .i32⟩ : BufTy).Contents (Elt F)),
    binary main_v12 main_v24 main_v25 (addi : (⟨S6291456, .i32⟩ : BufTy).Contents (Elt F) → (⟨S6291456, .i32⟩ : BufTy).Contents (Elt F) → (⟨S6291456, .i32⟩ : BufTy).Contents (Elt F)),
    ternary main_v23 main_v25 main_v12 main_v26 (select : (⟨S6291456, .i1⟩ : BufTy).Contents (Elt F) → (⟨S6291456, .i32⟩ : BufTy).Contents (Elt F) → (⟨S6291456, .i32⟩ : BufTy).Contents (Elt F) → (⟨S6291456, .i32⟩ : BufTy).Contents (Elt F)),
    unary main_v26 main_v27 (broadcastInDim S6291456x1 ![0] bcast_S6291456_S6291456x1_0 : (⟨S6291456, .i32⟩ : BufTy).Contents (Elt F) → (⟨S6291456x1, .i32⟩ : BufTy).Contents (Elt F)),
    ternary main_v11 main_v27 main_v21 main_v28 ((fun x i u => Host.scatter scatter_S12582912_S6291456x1_S6291456_n_0_0_1 (fun _ b => b) x i u) : (⟨S12582912, .f32⟩ : BufTy).Contents (Elt F) → (⟨S6291456x1, .i32⟩ : BufTy).Contents (Elt F) → (⟨S6291456, .f32⟩ : BufTy).Contents (Elt F) → (⟨S12582912, .f32⟩ : BufTy).Contents (Elt F)),
    reshape main_v28 main_v29 (rfl : (.f32 : EltTy) = .f32) shapeCasts_S12582912_S16x3x512x512,
    nullary main_cst_6 (constant S_ .f32 0x00000000#32),
    binary main_v29 main_cst_6 main_v30 ((fun x v => Host.reduceAdd x v reducesTo_S16x3x512x512_S_d0_1_2_3 h_S_) : (⟨S16x3x512x512, .f32⟩ : BufTy).Contents (Elt F) → (⟨S_, .f32⟩ : BufTy).Contents (Elt F) → (⟨S_, .f32⟩ : BufTy).Contents (Elt F)),
    nullary main_cst_7 (constant S_ .f32 0x4B400000#32),
    binary main_v30 main_cst_7 main_v31 (Host.divf : (⟨S_, .f32⟩ : BufTy).Contents (Elt F) → (⟨S_, .f32⟩ : BufTy).Contents (Elt F) → (⟨S_, .f32⟩ : BufTy).Contents (Elt F)),
    reshape main_v31 main_v32 (rfl : (.f32 : EltTy) = .f32) shapeCasts_S_S1x1 ]

/-- The reference's program is the operations before the shuffle, the shuffle and the operations behind it. -/
theorem main_parts (c : Dev nD) : main (F := F) c
    = seqK before (fn_shuffle.body (.of main_v6) (.of main_v7) main_call0 >>= fun _ => seqK behind (pure ⟨⟩)) := by
  sl_kernel_rfl

end Cert.Reference

end
-- ==== Proof.Sim.lean ====
/- Two straight lines of host operations, over two buffer tables, that compute the same values operation by
   operation.

   A line is followed one operation at a time: as long as the operands of each pair of operations sit at buffers
   with equal numbers, and those buffers have equal contents, so do the buffers the two operations write. The
   second line is given as a program, so that following it also finds its list of operations. -/
module

public import Idealize.ShloMosaic.Lib.StableHlo.Run

@[expose] public section

noncomputable section

namespace Cert.Sim

open Idealize.ShloMosaic Idealize.ShloMosaic.TcCoe Idealize.SL.Sem
open Idealize.ShloMosaic.StableHlo (TRef after seq tcRefs)

variable {τ₁ τ₂ : Topo} {sig₁ sig₂ : RefSig} {Val : EltTy → Type}

/-- `r` is the buffer numbered `i` of the main memory. -/
structure At {sig : RefSig} (r : Ref sig .tc) (i : ℕ) : Prop where
  space : r.space = .hbm
  idx : r.idx.val = i

/-- Two buffers of one number are one buffer. -/
theorem At.unique {sig : RefSig} {r s : Ref sig .tc} {i : ℕ} (hr : At r i) (hs : At s i) : r = s := by
  obtain ⟨sp, a, ha⟩ := r
  obtain ⟨sp', b, hb⟩ := s
  obtain ⟨h₁, h₂⟩ := hr
  obtain ⟨h₃, h₄⟩ := hs
  dsimp only at h₁ h₂ h₃ h₄
  subst h₁
  subst h₃
  obtain rfl : a = b := Fin.ext (h₂.trans h₄.symm)
  rfl

/-- The buffers numbered from `lo` up to `n` hold the same values on both sides, read at any type they both have. -/
def Agree (lo n : ℕ) (V₁ : Valuation τ₁ sig₁ Val) (V₂ : Valuation τ₂ sig₂ Val) : Prop :=
  ∀ i, lo ≤ i → i < n → ∀ (T : BufTy) (x : TRef sig₁ T) (x' : TRef sig₂ T), At x.ref i → At x'.ref i →
    x.ofBuf (V₁ x.ref) = x'.ofBuf (V₂ x'.ref)

/-- A pair of operands already known to agree: buffers of one number, between `lo` and `n`. -/
structure Opnd {T : BufTy} (lo n : ℕ) (x : TRef sig₁ T) (x' : TRef sig₂ T) : Prop where
  space : x.ref.space = .hbm
  space' : x'.ref.space = .hbm
  idx : x'.ref.idx.val = x.ref.idx.val
  le : Nat.ble lo x.ref.idx.val = true
  lt : Nat.blt x.ref.idx.val n = true

/-- Operands known to agree hold equal values. -/
theorem Opnd.eq {T : BufTy} {lo n : ℕ} {x : TRef sig₁ T} {x' : TRef sig₂ T} (h : Opnd lo n x x')
    {V₁ : Valuation τ₁ sig₁ Val} {V₂ : Valuation τ₂ sig₂ Val} (hV : Agree lo n V₁ V₂) :
    x.ofBuf (V₁ x.ref) = x'.ofBuf (V₂ x'.ref) :=
  hV _ (Nat.le_of_ble_eq_true h.le) (Nat.lt_of_succ_le (Nat.le_of_ble_eq_true h.lt)) T x x' ⟨h.space, rfl⟩ ⟨h.space', h.idx⟩

/-- A pair of results: the buffers numbered `n`. -/
structure Res {T : BufTy} (n : ℕ) (y : TRef sig₁ T) (y' : TRef sig₂ T) : Prop where
  left : At y.ref n
  right : At y'.ref n

/-- Two operations that write equal values to the next pair of buffers extend the agreement by that pair. -/
theorem agree_step {T : BufTy} {lo n : ℕ} {o₁ : HloOp τ₁ sig₁ Val} {o₂ : HloOp τ₂ sig₂ Val} {y : TRef sig₁ T}
    {y' : TRef sig₂ T} (hy : Res n y y') (w₁ : o₁.writes = {(y.ref : DevRef τ₁ sig₁)})
    (w₂ : o₂.writes = {(y'.ref : DevRef τ₂ sig₂)}) {V₁ : Valuation τ₁ sig₁ Val} {V₂ : Valuation τ₂ sig₂ Val}
    (hV : Agree lo n V₁ V₂) (h : y.ofBuf (o₁.result V₁ y.ref) = y'.ofBuf (o₂.result V₂ y'.ref)) :
    Agree lo (n + 1) (o₁.result V₁) (o₂.result V₂) := by
  intro i hlo hi U x x' hx hx'
  rcases Nat.lt_succ_iff_lt_or_eq.mp hi with hlt | rfl
  · have e₁ : o₁.result V₁ x.ref = V₁ x.ref := o₁.result_of_not_mem V₁ (by
      rw [w₁, Finset.mem_singleton]
      exact fun he => absurd ((hx.idx.symm.trans (by rw [Proc.devRef_injective _ he])).trans hy.left.idx) hlt.ne)
    have e₂ : o₂.result V₂ x'.ref = V₂ x'.ref := o₂.result_of_not_mem V₂ (by
      rw [w₂, Finset.mem_singleton]
      exact fun he => absurd ((hx'.idx.symm.trans (by rw [Proc.devRef_injective _ he])).trans hy.right.idx) hlt.ne)
    rw [e₁, e₂]
    exact hV i hlo hlt U x x' hx hx'
  · obtain ⟨r, e, d, s⟩ := x
    obtain ⟨r', e', d', s'⟩ := x'
    obtain ⟨q, f, _, _⟩ := y
    obtain ⟨q', f', _, _⟩ := y'
    obtain rfl : r = q := hx.unique hy.left
    obtain rfl : r' = q' := hx'.unique hy.right
    subst f
    subst e
    exact h

section Line

variable {nD : Nat} {Λ : Labels} {lo m : ℕ}

/-- THE FOLLOWED LINE: the program `p` is a straight line of operations that keeps every buffer numbered below `n`,
    and run beside the list `l` it extends an agreement up to `n` to one up to `m`. -/
def Line (lo n m : ℕ) (l : List (HloOp τ₁ sig₁ Val)) (p : Prog (TpuEff nD τ₂ sig₂ Val Λ .tc) PUnit) : Prop :=
  ∃ l' : List (HloOp τ₂ sig₂ Val), p = seq l'
    ∧ (∀ op ∈ l', op.bufs ⊆ tcRefs τ₂ sig₂ ∧ op.fresh = ∅
        ∧ ∀ r : Ref sig₂ .tc, ∀ i, At r i → i < n → (r : DevRef τ₂ sig₂) ∉ op.writes)
    ∧ ∀ (V₁ : Valuation τ₁ sig₁ Val) (V₂ : Valuation τ₂ sig₂ Val), Agree lo n V₁ V₂ → Agree lo m (after l V₁) (after l' V₂)

/-- The empty line follows the empty program. -/
theorem Line.nil : Line (τ₁ := τ₁) (sig₁ := sig₁) lo m m [] (pure ⟨⟩ : Prog (TpuEff nD τ₂ sig₂ Val Λ .tc) PUnit) :=
  ⟨[], rfl, fun _ h => absurd h List.not_mem_nil, fun _ _ h => h⟩

/-- One pair of operations, given how they extend the agreement, then the rest of both lines. -/
theorem Line.cons {T : BufTy} {n : ℕ} {o₁ : HloOp τ₁ sig₁ Val} {o₂ : HloOp τ₂ sig₂ Val} {l : List (HloOp τ₁ sig₁ Val)}
    {k : PUnit → Prog (TpuEff nD τ₂ sig₂ Val Λ .tc) PUnit} {y : TRef sig₁ T} {y' : TRef sig₂ T} (hy : Res n y y')
    (w₁ : o₁.writes = {(y.ref : DevRef τ₁ sig₁)}) (w₂ : o₂.writes = {(y'.ref : DevRef τ₂ sig₂)})
    (hb : o₂.bufs ⊆ tcRefs τ₂ sig₂) (hf : o₂.fresh = ∅)
    (h : ∀ (V₁ : Valuation τ₁ sig₁ Val) (V₂ : Valuation τ₂ sig₂ Val), Agree lo n V₁ V₂ →
      y.ofBuf (o₁.result V₁ y.ref) = y'.ofBuf (o₂.result V₂ y'.ref))
    (hl : Line lo (n + 1) m l (k ⟨⟩)) : Line lo n m (o₁ :: l) (hlo rfl o₂ (fun _ => .ret ⟨⟩) >>= k) := by
  obtain ⟨l', e, hs, hA⟩ := hl
  refine ⟨o₂ :: l', ?_, fun op hop => ?_, fun V₁ V₂ hV => hA _ _ (agree_step hy w₁ w₂ hV (h V₁ V₂ hV))⟩
  · rw [show (seq (o₂ :: l') : Prog (TpuEff nD τ₂ sig₂ Val Λ .tc) PUnit)
        = hlo rfl o₂ (fun _ => .ret (⟨⟩ : PUnit)) >>= fun _ => seq l' from rfl, ← e]
  rcases List.mem_cons.mp hop with rfl | hop
  · refine ⟨hb, hf, fun r i hr hi => ?_⟩
    rw [w₂, Finset.mem_singleton]
    exact fun he => absurd ((hr.idx.symm.trans (by rw [Proc.devRef_injective _ he])).trans hy.right.idx) hi.ne
  · exact ⟨(hs op hop).1, (hs op hop).2.1, fun r i hr hi => (hs op hop).2.2 r i hr (hi.trans n.lt_succ_self)⟩

variable {Tx Ta Tb Ty : BufTy} {n : ℕ} {l : List (HloOp τ₁ sig₁ Val)} {k : PUnit → Prog (TpuEff nD τ₂ sig₂ Val Λ .tc) PUnit}

/-- A constant on both sides. -/
theorem Line.nullary {y : TRef sig₁ Ty} {y' : TRef sig₂ Ty} {v v' : Ty.Contents Val} (hy : Res n y y') (hv : v = v')
    (hl : Line lo (n + 1) m l (k ⟨⟩)) :
    Line lo n m (TRef.nullary y v :: l) (hlo rfl (TRef.nullary y' v') (fun _ => .ret ⟨⟩) >>= k) := by
  refine Line.cons (y := y) (y' := y') hy rfl rfl (StableHlo.nullary_bufs_sub ..) rfl (fun V₁ V₂ _ => ?_) hl
  rw [StableHlo.nullary_result, StableHlo.nullary_result, TRef.ofBuf_toBuf, TRef.ofBuf_toBuf, hv]

/-- One function of one operand on both sides. -/
theorem Line.unary {x : TRef sig₁ Tx} {x' : TRef sig₂ Tx} {y : TRef sig₁ Ty} {y' : TRef sig₂ Ty}
    {f f' : Tx.Contents Val → Ty.Contents Val} (hx : Opnd lo n x x') (hy : Res n y y') (hf : f = f')
    (hl : Line lo (n + 1) m l (k ⟨⟩)) :
    Line lo n m (TRef.unary x y f :: l) (hlo rfl (TRef.unary x' y' f') (fun _ => .ret ⟨⟩) >>= k) := by
  refine Line.cons (y := y) (y' := y') hy rfl rfl (StableHlo.unary_bufs_sub ..) rfl (fun V₁ V₂ hV => ?_) hl
  rw [StableHlo.unary_result, StableHlo.unary_result, TRef.ofBuf_toBuf, TRef.ofBuf_toBuf, hf, hx.eq hV]

/-- One function of two operands on both sides. -/
theorem Line.binary {a : TRef sig₁ Ta} {a' : TRef sig₂ Ta} {b : TRef sig₁ Tb} {b' : TRef sig₂ Tb} {y : TRef sig₁ Ty}
    {y' : TRef sig₂ Ty} {f f' : Ta.Contents Val → Tb.Contents Val → Ty.Contents Val} (ha : Opnd lo n a a')
    (hb : Opnd lo n b b') (hy : Res n y y') (hf : f = f') (hl : Line lo (n + 1) m l (k ⟨⟩)) :
    Line lo n m (TRef.binary a b y f :: l) (hlo rfl (TRef.binary a' b' y' f') (fun _ => .ret ⟨⟩) >>= k) := by
  refine Line.cons (y := y) (y' := y') hy rfl rfl (StableHlo.binary_bufs_sub ..) rfl (fun V₁ V₂ hV => ?_) hl
  rw [StableHlo.binary_result, StableHlo.binary_result, TRef.ofBuf_toBuf, TRef.ofBuf_toBuf, hf, ha.eq hV, hb.eq hV]

/-- A reshape on both sides is the reading of one function of the operand. -/
theorem reshape_value {sig : RefSig} {τ : Topo} {x : TRef sig Tx} {y : TRef sig Ty} (he : Tx.elt = Ty.elt)
    (hn : Tx.shape.ShapeCasts Ty.shape) (V : Valuation τ sig Val) :
    y.ofBuf ((TRef.reshape (Val := Val) x y he hn).result V y.ref)
      = fun i => he ▸ shapeCast Ty.shape (x.ofBuf (V x.ref)) hn i := by
  obtain ⟨r, e, _, _⟩ := x
  obtain ⟨q, f, _, _⟩ := y
  subst e
  subst f
  rw [StableHlo.reshape_result]
  rfl

/-- A reshape on both sides. -/
theorem Line.reshape {x : TRef sig₁ Tx} {x' : TRef sig₂ Tx} {y : TRef sig₁ Ty} {y' : TRef sig₂ Ty}
    {he he' : Tx.elt = Ty.elt} {hn hn' : Tx.shape.ShapeCasts Ty.shape} (hx : Opnd lo n x x') (hy : Res n y y')
    (hl : Line lo (n + 1) m l (k ⟨⟩)) :
    Line lo n m (TRef.reshape (Val := Val) x y he hn :: l)
      (hlo rfl (TRef.reshape (Val := Val) x' y' he' hn') (fun _ => .ret ⟨⟩) >>= k) := by
  refine Line.cons (y := y) (y' := y') hy rfl rfl (StableHlo.reshape_bufs_sub ..) rfl (fun V₁ V₂ hV => ?_) hl
  rw [reshape_value, reshape_value, hx.eq hV]

/-- A call is its body. -/
theorem Line.call {p q : Prog (TpuEff nD τ₂ sig₂ Val Λ .tc) PUnit} {g : PUnit → Prog (TpuEff nD τ₂ sig₂ Val Λ .tc) PUnit}
    (e : p = q) (h : Line lo n m l (q >>= g)) : Line lo n m l (p >>= g) := by
  rw [e]; exact h

/-- A called function's body is read statement by statement. -/
theorem Line.assoc {p : Prog (TpuEff nD τ₂ sig₂ Val Λ .tc) PUnit} {f g : PUnit → Prog (TpuEff nD τ₂ sig₂ Val Λ .tc) PUnit}
    (h : Line lo n m l (p >>= fun x => f x >>= g)) : Line lo n m l ((p >>= f) >>= g) := by
  rw [bind_assoc]; exact h

/-- A called function's end continues with the caller. -/
theorem Line.done {g : PUnit → Prog (TpuEff nD τ₂ sig₂ Val Λ .tc) PUnit} (h : Line lo n m l (g ⟨⟩)) :
    Line lo n m l ((pure ⟨⟩ : Prog (TpuEff nD τ₂ sig₂ Val Λ .tc) PUnit) >>= g) := by
  rw [pure_bind]; exact h

/-- A last call is a call continued by nothing. -/
theorem Line.last {p : Prog (TpuEff nD τ₂ sig₂ Val Λ .tc) PUnit} (h : Line lo n m l (p >>= pure)) : Line lo n m l p := by
  rw [bind_pure] at h; exact h

end Line

end Cert.Sim

end
-- ==== Proof.Follow.lean ====
/- The drawing of the permutation, in the kernel's program and in the reference's: the same operations in the same
   order. -/
module

public import proofs.«01_k».proof.Proof.Gen.KernelIdeal.Launch.Ops02
public import proofs.«01_k».proof.Proof.Gen.KernelIdeal
public import proofs.«01_k».proof.Proof.Gen.ReferenceIdeal
public import proofs.«01_k».proof.Proof.Sim

@[expose] public section

set_option maxRecDepth 16384
set_option maxHeartbeats 40000000

noncomputable section

namespace Cert.Follow

open Idealize.ShloMosaic Idealize.ShloMosaic.TcCoe Idealize.SL.Sem
open Idealize.ShloMosaic.StableHlo (TRef after seq tcRefs)
open Cert.Sim Cert.ReferenceIdeal

/-- Both programs draw the permutation by the same operations: from equal keys and equal numbers (buffers 11 and 12) every buffer of the
    drawing, up to number 1452, ends equal on both sides. -/
theorem shuffle_line : Line 11 13 1453 (Cert.KernelIdeal.Gen.hostOps0_1 (F := Ideal))
    (Cert.ReferenceIdeal.fn_shuffle.body (F := Ideal) (.of Cert.ReferenceIdeal.main_v6) (.of Cert.ReferenceIdeal.main_v7)
      Cert.ReferenceIdeal.main_call0) := by
  unfold Cert.KernelIdeal.Gen.hostOps0_1
  refine Line.last (Line.call (fn_shuffle.body.eq_1 _ _ _) ?_)
  repeat first
    | (with_reducible refine Line.binary ?_ ?_ ?_ ?_ ?_) <;> [exact ⟨rfl, rfl, rfl, rfl, rfl⟩; exact ⟨rfl, rfl, rfl, rfl, rfl⟩; exact ⟨⟨rfl, rfl⟩, ⟨rfl, rfl⟩⟩; rfl; skip]
    | with_reducible refine Line.unary ?_ ?_ ?_ ?_ <;> [exact ⟨rfl, rfl, rfl, rfl, rfl⟩; exact ⟨⟨rfl, rfl⟩, ⟨rfl, rfl⟩⟩; rfl; skip]
    | with_reducible refine Line.nullary ?_ ?_ ?_ <;> [exact ⟨⟨rfl, rfl⟩, ⟨rfl, rfl⟩⟩; rfl; skip]
    | with_reducible refine Line.reshape ?_ ?_ ?_ <;> [exact ⟨rfl, rfl, rfl, rfl, rfl⟩; exact ⟨⟨rfl, rfl⟩, ⟨rfl, rfl⟩⟩; skip]
    | with_reducible refine Line.assoc ?_
    | with_reducible refine Line.done ?_
    | with_reducible refine Line.call (fn_shuffle.body_part0.eq_1 _ _ _) ?_
    | with_reducible refine Line.call (fn_threefry_split.body.eq_1 _ _) ?_
    | with_reducible refine Line.call (fn_threefry2x32.body.eq_1 _ _ _ _ _) ?_
    | with_reducible refine Line.call (fn_threefry2x32.body_part0.eq_1 _ _ _ _ _) ?_
    | with_reducible refine Line.call (fn_threefry2x32.body_part1.eq_1 _ _ _ _ _) ?_
    | with_reducible refine Line.call (fn_threefry2x32.body_part2.eq_1 _ _ _ _ _) ?_
    | with_reducible refine Line.call (fn_threefry2x32.body_part3.eq_1 _ _ _ _ _) ?_
    | with_reducible refine Line.call (fn_threefry2x32_0.body.eq_1 _ _ _ _ _) ?_
    | with_reducible refine Line.call (fn_threefry2x32_0.body_part0.eq_1 _ _ _ _ _) ?_
    | with_reducible refine Line.call (fn_threefry2x32_0.body_part1.eq_1 _ _ _ _ _) ?_
    | with_reducible refine Line.call (fn_threefry2x32_0.body_part2.eq_1 _ _ _ _ _) ?_
    | with_reducible refine Line.call (fn_threefry2x32_0.body_part3.eq_1 _ _ _ _ _) ?_
    | with_reducible refine Line.call (fn_threefry_split_1.body.eq_1 _ _) ?_
    | with_reducible refine Line.call (fn_shuffle.body_part1.eq_1 _ _ _) ?_
    | with_reducible exact Line.nil

end Cert.Follow

end
-- ==== Proof.Reference.lean ====
/- The reference's run: what its operations leave in the arguments and in the result. -/
module

public import proofs.«01_k».proof.Proof.RefOps
public import proofs.«01_k».proof.Proof.Follow

@[expose] public section

set_option maxRecDepth 16384

set_option maxHeartbeats 4000000

noncomputable section

namespace Cert.Reference

open Cert.ReferenceIdeal Cert.ReferenceIdeal.Gen Idealize.ShloMosaic Idealize.ShloMosaic.TcCoe Idealize.SL.Sem
open Idealize.ShloMosaic.StableHlo

/-- The shuffle's operations. -/
def shuffle : List (HloOp τ sig (Elt Ideal)) := Cert.Follow.shuffle_line.choose

/-- All of the reference's operations. -/
abbrev ops : List (HloOp τ sig (Elt Ideal)) := before ++ (shuffle ++ behind)

/-- Two lists of operations run one after the other are the list of all of them. -/
theorem seqK_seq {Λ : Labels} {nD : Nat} {τ : Topo} {sig : RefSig} {Val : EltTy → Type} (a b : List (HloOp τ sig Val)) :
    (seqK a (seq b) : Prog (TpuEff nD τ sig Val Λ .tc) PUnit) = seq (a ++ b) := by
  induction a with
  | nil => rfl
  | cons o a ih => simp only [seqK, List.cons_append, seq, ih]

/-- The reference's program is its operations in order. -/
theorem main_eq (c : Dev nD) : main (F := Ideal) c = seq ops := by
  rw [main_parts, show (pure ⟨⟩ : Prog (TpuEff nD τ sig (Elt Ideal) (Pipeline.Sig Λ₀ (Fin 0) fun p => (pcfgs (F := Ideal) p).Adm) .tc) PUnit) = seq [] from rfl, Cert.Follow.shuffle_line.choose_spec.1, seq_bind_seqK, seqK_seq, seqK_seq, seqK_seq, List.append_nil]
  rfl

/-- The operations before the shuffle touch tensor values only. -/
theorem before_sub : (before (F := Ideal)).Forall fun op => op.bufs ⊆ tcRefs τ sig := by
  simp only [before, List.Forall]
  repeat' apply And.intro
  all_goals first | exact nullary_bufs_sub .. | exact unary_bufs_sub .. | exact binary_bufs_sub .. | exact ternary_bufs_sub .. | exact reshape_bufs_sub ..

/-- So do those behind it. -/
theorem behind_sub : (behind (F := Ideal)).Forall fun op => op.bufs ⊆ tcRefs τ sig := by
  simp only [behind, List.Forall]
  repeat' apply And.intro
  all_goals first | exact nullary_bufs_sub .. | exact unary_bufs_sub .. | exact binary_bufs_sub .. | exact ternary_bufs_sub .. | exact reshape_bufs_sub ..

/-- The operations before the shuffle allocate nothing. -/
theorem before_fresh : (before (F := Ideal)).Forall fun op => op.fresh = ∅ := by
  simp only [before, List.Forall]
  repeat' apply And.intro
  all_goals rfl

/-- Nor do those behind it. -/
theorem behind_fresh : (behind (F := Ideal)).Forall fun op => op.fresh = ∅ := by
  simp only [behind, List.Forall]
  repeat' apply And.intro
  all_goals rfl

/-- All of the operations touch tensor values only. -/
theorem ops_sub : ops.Forall fun op => op.bufs ⊆ tcRefs τ sig :=
  List.forall_iff_forall_mem.mpr fun op h => by
    rcases List.mem_append.mp h with h | h
    · exact List.forall_iff_forall_mem.mp before_sub op h
    rcases List.mem_append.mp h with h | h
    · exact (Cert.Follow.shuffle_line.choose_spec.2.1 op h).1
    · exact List.forall_iff_forall_mem.mp behind_sub op h

/-- None of the operations allocates. -/
theorem ops_fresh : ∀ op ∈ ops, op.fresh = ∅ := fun op h => by
  rcases List.mem_append.mp h with h | h
  · exact List.forall_iff_forall_mem.mp before_fresh op h
  rcases List.mem_append.mp h with h | h
  · exact (Cert.Follow.shuffle_line.choose_spec.2.1 op h).2.1
  · exact List.forall_iff_forall_mem.mp behind_fresh op h

/-- No buffer of the reference is scoped. -/
theorem scopedRefs_eq : (Finset.univ.filter fun b : Ref sig .tc => b.isScoped) = ∅ := by
  refine Finset.filter_eq_empty_iff.mpr fun b _ => ?_
  obtain ⟨sp, i⟩ := b
  cases sp <;> simp [Ref.isScoped]
  all_goals exact i.elim0

/-- The reference has no scoped semaphore. -/
theorem scopedSems_eq : (Finset.univ.filter fun sm : SemLoc sig => sm.isScoped .tc) = ∅ := by
  decide

/-- The reference's run ends with every buffer at what the operations leave in it. -/
theorem run (m : (ℓ : Loc nD τ sig) → Buf (Elt Ideal) ℓ) (ρ : Dev nD → PrngReg) :
    θ_run defs (onTc (τ := τ) (main (F := Ideal))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

/-- What a valuation holds after the shuffle. -/
abbrev shuffled (V : Valuation τ sig (Elt Ideal)) : Valuation τ sig (Elt Ideal) := after shuffle (after before V)

/-- The shuffle and what is before it keep the first argument. -/
theorem kept_arg0 (V : Valuation τ sig (Elt Ideal)) : shuffled V main_arg0 = V main_arg0 :=
  (after_of_forall_not_mem shuffle _ fun op h => (Cert.Follow.shuffle_line.choose_spec.2.1 op h).2.2 main_arg0 0 ⟨rfl, rfl⟩ (by decide)).trans
    (by unfold before; after_results)

/-- The shuffle and what is before it keep the second argument. -/
theorem kept_arg1 (V : Valuation τ sig (Elt Ideal)) : shuffled V main_arg1 = V main_arg1 :=
  (after_of_forall_not_mem shuffle _ fun op h => (Cert.Follow.shuffle_line.choose_spec.2.1 op h).2.2 main_arg1 1 ⟨rfl, rfl⟩ (by decide)).trans
    (by unfold before; after_results)

/-- The whole run is the part behind the shuffle run after the rest. -/
theorem after_ops (V : Valuation τ sig (Elt Ideal)) : after ops V = after behind (shuffled V) := by
  rw [after_append, after_append]

/-- The operations behind the shuffle keep the first argument. -/
theorem behind_arg0 (V : Valuation τ sig (Elt Ideal)) : after behind V main_arg0 = V main_arg0 := by unfold behind; after_results
/-- They keep the second argument. -/
theorem behind_arg1 (V : Valuation τ sig (Elt Ideal)) : after behind V main_arg1 = V main_arg1 := by unfold behind; after_results

/-- The reference leaves its arguments as they were, and no semaphore raised. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c =>
      ⟨by rw [h c main_arg0, after_ops, behind_arg0, kept_arg0], by rw [h c main_arg1, after_ops, behind_arg1, kept_arg1]⟩,
      Idealize.ShloMosaic.sem_eq_zero_of_no_sems (by decide) r.2⟩)
    (run m ρ)

/-- The places drawn, as the column of indices the doubling reads: a negative one counts from the end. -/
def drawn (p : IVec S12582912 32) : IVec S6291456x1 32 :=
  broadcastInDim S6291456x1 ![0] bcast_S6291456_S6291456x1_0
    (select
      (cmpi .slt (extractStridedSlice S6291456 ![0] p slices_S12582912_S6291456_0)
        (broadcastInDim S6291456 ![] bcast_S_S6291456 (constantI S_ 32 0#32)))
      (addi (extractStridedSlice S6291456 ![0] p slices_S12582912_S6291456_0)
        (broadcastInDim S6291456 ![] bcast_S_S6291456 (constantI S_ 32 12582912#32)))
      (extractStridedSlice S6291456 ![0] p slices_S12582912_S6291456_0))

/-- The squared differences. -/
def squared (a b : FVec Ideal S16x3x512x512 .f32) : FVec Ideal S16x3x512x512 .f32 := mulf (subf a b) (subf a b)

/-- The squared differences in one row. -/
def flat (a b : FVec Ideal S16x3x512x512 .f32) : FVec Ideal S12582912 .f32 :=
  shapeCast S12582912 (squared a b) shapeCasts_S16x3x512x512_S12582912

/-- A row with its drawn entries doubled. -/
def doubled (p : IVec S12582912 32) (f : FVec Ideal S12582912 .f32) : FVec Ideal S12582912 .f32 :=
  Host.scatter scatter_S12582912_S6291456x1_S6291456_n_0_0_1 (fun _ b => b) f (drawn p)
    (mulf (Host.gather gather_S12582912_S6291456x1_S6291456_n_0_n_n_0_1_1 f (drawn p))
      (broadcastInDim S6291456 ![] bcast_S_S6291456 (constant S_ .f32 0x40000000#32)))

/-- The mean of the squared differences, the drawn ones doubled. -/
def mean (a b : FVec Ideal S16x3x512x512 .f32) (p : IVec S12582912 32) : FVec Ideal S1x1 .f32 :=
  shapeCast S1x1
    (Host.divf
      (Host.reduceAdd (shapeCast S16x3x512x512 (doubled p (flat a b)) shapeCasts_S12582912_S16x3x512x512)
        (constant S_ .f32 0x00000000#32) reducesTo_S16x3x512x512_S_d0_1_2_3 h_S_)
      (constant S_ .f32 0x4B400000#32))
    shapeCasts_S_S1x1

/-- The operations behind the shuffle leave the mean in the result. -/
theorem value (V : Valuation τ sig (Elt Ideal)) : after behind V main_v32 = mean (V main_arg0) (V main_arg1) (V main_v8) := by
  unfold behind
  after_results
  rfl

end Cert.Reference

end
-- ==== Proof.Host.lean ====
/- What the kernel's host operations leave in the three arrays the launch reads, from the permutation they draw; and
   that this permutation is the reference's. -/
module

public import proofs.«01_k».proof.Proof.Reference
public import proofs.«01_k».proof.Proof.Gen.KernelIdeal.Value

@[expose] public section

set_option maxRecDepth 16384
set_option maxHeartbeats 1000000

noncomputable section

namespace Cert.Host

open Cert.KernelIdeal Cert.KernelIdeal.Gen Cert.Sim Idealize.ShloMosaic Idealize.ShloMosaic.TcCoe Idealize.SL.Sem
open Idealize.ShloMosaic.StableHlo

/-- A pair of buffers of one type holding equal values agrees at every type the two can be read at. -/
theorem agree_at {τ₁ τ₂ : Topo} {sig₁ sig₂ : RefSig} {Val : EltTy → Type} {V₁ : Valuation τ₁ sig₁ Val}
    {V₂ : Valuation τ₂ sig₂ Val} {i : ℕ} {T U : BufTy} (y : TRef sig₁ U) (y' : TRef sig₂ U) (hy : At y.ref i)
    (hy' : At y'.ref i) (h : y.ofBuf (V₁ y.ref) = y'.ofBuf (V₂ y'.ref)) (x : TRef sig₁ T) (x' : TRef sig₂ T)
    (hx : At x.ref i) (hx' : At x'.ref i) : x.ofBuf (V₁ x.ref) = x'.ofBuf (V₂ x'.ref) := by
  obtain ⟨r, e, d, s⟩ := x
  obtain ⟨r', e', d', s'⟩ := x'
  obtain ⟨t, f, g, k⟩ := y
  obtain ⟨t', f', g', k'⟩ := y'
  obtain rfl : r = t := hx.unique hy
  obtain rfl : r' = t' := hx'.unique hy'
  subst e
  subst f
  exact h

/-- The key and the numbers to be shuffled are the same on both sides. -/
theorem agree_before (W : Valuation Cert.KernelIdeal.τ Cert.KernelIdeal.sig (Elt Ideal))
    (V : Valuation Cert.ReferenceIdeal.τ Cert.ReferenceIdeal.sig (Elt Ideal)) :
    Agree 11 13 (after (Cert.KernelIdeal.Gen.hostOps0 (F := Ideal)) W) (after Cert.Reference.before V) := by
  intro i hlo hi T x x' hx hx'
  obtain rfl | rfl : i = 11 ∨ i = 12 := by omega
  · refine agree_at (.of main_v6) (.of Cert.ReferenceIdeal.main_v6) ⟨rfl, rfl⟩ ⟨rfl, rfl⟩ ?_ x x' hx hx'
    show after Cert.KernelIdeal.Gen.hostOps0 W main_v6 = after Cert.Reference.before V Cert.ReferenceIdeal.main_v6
    unfold Cert.KernelIdeal.Gen.hostOps0 Cert.Reference.before
    after_results
  · refine agree_at (.of main_v7) (.of Cert.ReferenceIdeal.main_v7) ⟨rfl, rfl⟩ ⟨rfl, rfl⟩ ?_ x x' hx hx'
    show after Cert.KernelIdeal.Gen.hostOps0 W main_v7 = after Cert.Reference.before V Cert.ReferenceIdeal.main_v7
    unfold Cert.KernelIdeal.Gen.hostOps0 Cert.Reference.before
    after_results

/-- The two programs draw one permutation. -/
theorem same_perm (W : Valuation Cert.KernelIdeal.τ Cert.KernelIdeal.sig (Elt Ideal))
    (V : Valuation Cert.ReferenceIdeal.τ Cert.ReferenceIdeal.sig (Elt Ideal)) :
    (after Cert.KernelIdeal.Gen.hostOps0_1 (after (Cert.KernelIdeal.Gen.hostOps0 (F := Ideal)) W) main_v8 : IVec ⟨1, ![12582912]⟩ 32)
      = Cert.Reference.shuffled V Cert.ReferenceIdeal.main_v8 :=
  Cert.Follow.shuffle_line.choose_spec.2.2 _ _ (agree_before W V) 1452 (by decide) (by decide) ⟨⟨1, ![12582912]⟩, .i32⟩
    (.of main_v8) (.of Cert.ReferenceIdeal.main_v8) ⟨rfl, rfl⟩ ⟨rfl, rfl⟩

/-- Which weight each element has, from a permutation: two where it is drawn, one elsewhere. -/
def weights (p : IVec S12582912 32) : IVec S12582912 8 :=
  Host.scatter scatter_S12582912_S6291456x1_S6291456_n_0_0_1 (fun _ b => b) (fun _ => 1#8) (Cert.Reference.drawn p) (fun _ => 2#8)

/-- The operations behind the shuffle leave the weights of the permutation, in rows of 1024. -/
theorem behind_v19 (W : Valuation Cert.KernelIdeal.τ Cert.KernelIdeal.sig (Elt Ideal)) :
    after Cert.KernelIdeal.Gen.hostOps0_2 W main_v19 = shapeCast S12288x1024 (weights (W main_v8)) shapeCasts_S12582912_S12288x1024 := by
  unfold Cert.KernelIdeal.Gen.hostOps0_2
  after_results
  rfl

/-- They leave the first argument, in rows of 1024. -/
theorem behind_v20 (W : Valuation Cert.KernelIdeal.τ Cert.KernelIdeal.sig (Elt Ideal)) :
    after Cert.KernelIdeal.Gen.hostOps0_2 W main_v20 = shapeCast S12288x1024 (W main_arg0) shapeCasts_S16x3x512x512_S12288x1024 := by
  unfold Cert.KernelIdeal.Gen.hostOps0_2
  after_results
  rfl

/-- They leave the second argument, in rows of 1024. -/
theorem behind_v21 (W : Valuation Cert.KernelIdeal.τ Cert.KernelIdeal.sig (Elt Ideal)) :
    after Cert.KernelIdeal.Gen.hostOps0_2 W main_v21 = shapeCast S12288x1024 (W main_arg1) shapeCasts_S16x3x512x512_S12288x1024 := by
  unfold Cert.KernelIdeal.Gen.hostOps0_2
  after_results
  rfl

/-- They keep the first argument. -/
theorem behind_arg0 (W : Valuation Cert.KernelIdeal.τ Cert.KernelIdeal.sig (Elt Ideal)) :
    after Cert.KernelIdeal.Gen.hostOps0_2 W main_arg0 = W main_arg0 := by
  unfold Cert.KernelIdeal.Gen.hostOps0_2; after_results

/-- They keep the second argument. -/
theorem behind_arg1 (W : Valuation Cert.KernelIdeal.τ Cert.KernelIdeal.sig (Elt Ideal)) :
    after Cert.KernelIdeal.Gen.hostOps0_2 W main_arg1 = W main_arg1 := by
  unfold Cert.KernelIdeal.Gen.hostOps0_2; after_results

variable (m : (ℓ : Loc nD τ sig) → Buf (Elt Ideal) ℓ) (c : Dev nD)

/-- What the kernel's buffers hold after the shuffle. -/
abbrev shuffled : Valuation τ sig (Elt Ideal) :=
  after (Cert.KernelIdeal.Gen.hostOps0_1 (F := Ideal)) (after (Cert.KernelIdeal.Gen.hostOps0 (F := Ideal)) fun b => m (c, b))

/-- What the launch finds is what the operations behind the shuffle leave. -/
theorem V_split (b : Ref sig .tc) : V m c b = after Cert.KernelIdeal.Gen.hostOps0_2 (shuffled m c) b := by
  unfold V
  rw [List.flatten_cons, List.flatten_cons, List.flatten_cons, List.flatten_nil, List.append_nil, after_append, after_append]

/-- The shuffle and what is before it keep the first argument. -/
theorem shuffled_arg0 : shuffled m c main_arg0 = m ((c : Thread nD τ).loc main_arg0) :=
  (behind_arg0 _).symm.trans ((V_split m c main_arg0).symm.trans (V_main_arg0 m c))

/-- The shuffle and what is before it keep the second argument. -/
theorem shuffled_arg1 : shuffled m c main_arg1 = m ((c : Thread nD τ).loc main_arg1) :=
  (behind_arg1 _).symm.trans ((V_split m c main_arg1).symm.trans (V_main_arg1 m c))

/-- The first array the launch reads is the prediction, in rows of 1024. -/
theorem V_v20 : V m c main_v20 = shapeCast S12288x1024 (m ((c : Thread nD τ).loc main_arg0)) shapeCasts_S16x3x512x512_S12288x1024 := by
  rw [V_split, behind_v20, shuffled_arg0]

/-- The second is the truth, in rows of 1024. -/
theorem V_v21 : V m c main_v21 = shapeCast S12288x1024 (m ((c : Thread nD τ).loc main_arg1)) shapeCasts_S16x3x512x512_S12288x1024 := by
  rw [V_split, behind_v21, shuffled_arg1]

/-- The third is the weights, in rows of 1024. -/
theorem V_v19 : V m c main_v19 = shapeCast S12288x1024 (weights (shuffled m c main_v8)) shapeCasts_S12582912_S12288x1024 := by
  rw [V_split, behind_v19]

end Cert.Host

end
-- ==== Proof.Weights.lean ====
/- Doubling the entries an index array names, in two ways: by a table of weights, two at the named entries and one
   elsewhere, and by reading the named entries, doubling them and writing them back. -/
module

public import Idealize.ShloMosaic.PureOps.Ideal
public import Idealize.ShloMosaic.Lib.Routing.OpsSet
public import Idealize.ShloMosaic.Lib.StableHlo.Predicate

@[expose] public section

noncomputable section

namespace Cert.Weights

open Idealize.ShloMosaic Idealize.ShloMosaic.StableHlo.Predicate

variable {N n : ℕ}

/-- An update that lands at entry `x` of a vector has `x` for its index, read signed. -/
theorem index_of_lands (d : ScatterDims ⟨1, ![N]⟩ ⟨2, ![n, 1]⟩ ⟨1, ![n]⟩) (hiw : d.insertedWindowDims = [0])
    (hsd : d.scatterDimsToOperandDims = [0]) (hivd : d.indexVectorDim = 1) (idx : IVec ⟨2, ![n, 1]⟩ 32) (p : Fin n)
    (x : (⟨1, ![N]⟩ : Shape).Idx) (h : d.resultIdx? (Shape.Idx.ofFin p) idx = some x) :
    (idx (ixP p)).toInt = ((x 0).val : Int) := by
  have hm : (0 : Fin 1) ∈ d.scatterDimsToOperandDims := by rw [hsd]; exact List.mem_singleton.2 rfl
  have hw : d.window (Shape.Idx.ofFin p) 0 = 0 := by
    unfold ScatterDims.window
    rw [dif_neg fun hk => (of_decide_eq_true (List.mem_filter.1 hk).2) (by rw [hiw]; exact List.mem_singleton.2 rfl)]
  have hi : d.siIdx (Shape.Idx.ofFin p) ⟨d.scatterDimsToOperandDims.idxOf 0, List.idxOf_lt_length_iff.2 hm⟩ = ixP p := by
    funext b
    refine Fin.ext ?_
    match b with
    | ⟨0, _⟩ =>
      have coord : ∀ a : Fin 1, ((Shape.Idx.ofFin p : (⟨1, ![n]⟩ : Shape).Idx) a).val = p.val := fun a => by
        rw [Subsingleton.elim a 0]; rfl
      unfold ScatterDims.siIdx
      rw [dif_neg (by rw [hivd]; exact zero_ne_one)]
      unfold ScatterDims.siCoord
      rw [Fin.val_cast]
      exact coord _
    | ⟨1, _⟩ =>
      unfold ScatterDims.siIdx
      rw [dif_pos hivd.symm]
      show List.idxOf (0 : Fin 1) d.scatterDimsToOperandDims = 0
      rw [hsd]
      rfl
  have hs : d.start (Shape.Idx.ofFin p) idx 0 = (idx (ixP p)).toInt := by
    unfold ScatterDims.start
    rw [dif_pos hm, hi]
  unfold ScatterDims.resultIdx? at h
  split at h
  · next hin =>
    have h0 := (hin 0).1
    have e := congrArg Fin.val (congrFun (Option.some.inj h) 0)
    change (d.start (Shape.Idx.ofFin p) idx 0 + (d.window (Shape.Idx.ofFin p) 0 : Int)).toNat = (x 0).val at e
    rw [hs, hw] at h0 e
    omega
  · cases h

/-- An index of a vector is its one coordinate. -/
theorem eq_ofFin (k : (⟨1, ![n]⟩ : Shape).Idx) : k = Shape.Idx.ofFin (k 0 : Fin n) :=
  funext fun a => by rw [Subsingleton.elim a 0]; exact Fin.ext rfl

/-- The entry a read at an update's index finds is the entry the update lands at. -/
theorem gather_of_lands {α : Type} (d : ScatterDims ⟨1, ![N]⟩ ⟨2, ![n, 1]⟩ ⟨1, ![n]⟩) (hiw : d.insertedWindowDims = [0])
    (hsd : d.scatterDimsToOperandDims = [0]) (hivd : d.indexVectorDim = 1)
    (g : GatherDims ⟨1, ![N]⟩ ⟨2, ![n, 1]⟩ ⟨1, ![n]⟩) (hcoll : g.collapsedSliceDims = [0])
    (hob : g.operandBatchingDims = []) (hsim : g.startIndexMap = [0]) (givd : g.indexVectorDim = 1)
    (v : (⟨1, ![N]⟩ : Shape).Idx → α) (idx : IVec ⟨2, ![n, 1]⟩ 32) (k : (⟨1, ![n]⟩ : Shape).Idx)
    (x : (⟨1, ![N]⟩ : Shape).Idx) (h : d.resultIdx? k idx = some x) : Host.gather g v idx k = v x := by
  obtain ⟨p, rfl⟩ : ∃ p : Fin n, k = Shape.Idx.ofFin p := ⟨k 0, eq_ofFin k⟩
  have e := index_of_lands d hiw hsd hivd idx p x h
  have hx : (x 0).val < N := (x 0).isLt
  rw [gather_take g hcoll hob hsim givd v idx p (by omega)]
  refine congrArg v ((funext fun a => ?_ : _ = x))
  rw [Subsingleton.elim a 0]
  refine Fin.ext ?_
  show min (idx (ixP p)).toInt.toNat (N - 1) = (x 0).val
  rw [e]
  omega

/-- THE TWO WAYS AGREE: an entry of the vector with its named entries doubled in place is the entry times its weight. -/
theorem doubled_eq_weighted (d : ScatterDims ⟨1, ![N]⟩ ⟨2, ![n, 1]⟩ ⟨1, ![n]⟩) (hiw : d.insertedWindowDims = [0])
    (hsd : d.scatterDimsToOperandDims = [0]) (hivd : d.indexVectorDim = 1)
    (g : GatherDims ⟨1, ![N]⟩ ⟨2, ![n, 1]⟩ ⟨1, ![n]⟩) (hcoll : g.collapsedSliceDims = [0])
    (hob : g.operandBatchingDims = []) (hsim : g.startIndexMap = [0]) (givd : g.indexVectorDim = 1)
    (v : (⟨1, ![N]⟩ : Shape).Idx → EReal) (idx : IVec ⟨2, ![n, 1]⟩ 32) (x : (⟨1, ![N]⟩ : Shape).Idx) :
    Host.scatter d (fun _ b => b) v idx (fun k => Host.gather g v idx k * ((2 : ℝ) : EReal)) x
      = v x * (((Host.scatter d (fun _ b => b) (fun _ => 1#8) idx (fun _ => 2#8) x).toInt : ℝ) : EReal) := by
  by_cases hx : ∃ k, d.resultIdx? k idx = some x
  · obtain ⟨k, hk⟩ := hx
    rw [Routing.scatter_set_hit d v idx _ x (v x * ((2 : ℝ) : EReal))
        (fun k hk => congrArg (· * ((2 : ℝ) : EReal)) (gather_of_lands d hiw hsd hivd g hcoll hob hsim givd v idx k x hk)) k hk,
      Routing.scatter_set_hit d _ idx _ x 2#8 (fun _ _ => rfl) k hk, show (2#8 : BitVec 8).toInt = 2 from by decide]
    norm_num
  · have hn : ∀ k, d.resultIdx? k idx ≠ some x := fun k hk => hx ⟨k, hk⟩
    rw [Routing.scatter_set_miss d v idx _ x hn, Routing.scatter_set_miss d _ idx _ x hn, show (1#8 : BitVec 8).toInt = 1 from by decide]
    norm_num

end Cert.Weights

end
-- ==== Proof.Body.lean ====
/- What one grid step of the kernel leaves in its one-element result, and the running sum the steps make of it. -/
module

public import proofs.«01_k».proof.Proof.Gen.KernelIdeal.Value
public import Idealize.ShloMosaic.Lib.Tactic

@[expose] public section

set_option maxRecDepth 16384

noncomputable section

namespace Cert.Body

open Cert.KernelIdeal Cert.KernelIdeal.Gen Idealize.ShloMosaic Idealize.ShloMosaic.TcCoe Idealize.SL.Sem

variable {F : FTy → Type} [FloatOps F] [Named F]

/-- The two zero offsets, as the constant function. -/
theorem zeros : (![0, 0] : Fin 2 → Nat) = fun _ => 0 := funext fun a => by fin_cases a <;> rfl

/-- The result array has one index. -/
theorem one_index (j k : S1x1.Idx) : j = k := by
  funext a
  match a with
  | ⟨0, _⟩ => exact (Subsingleton.elim (α := Fin 1) _ _)
  | ⟨1, _⟩ => exact (Subsingleton.elim (α := Fin 1) _ _)

/-- The first step stores its block's weighted sum. -/
theorem first_step (c : Dev nD) (i : grid0.Coords) (a1 : Memref sig .tc .vmem S512x1024 .f32) (h1 : a1.IsWhole)
    (a2 : Memref sig .tc .vmem S512x1024 .f32) (h2 : a2.IsWhole) (a3 : Memref sig .tc .vmem S512x1024 .i8) (h3 : a3.IsWhole)
    (a4 : Memref sig .tc .smem S1x1 .f32) (h4 : a4.IsWhole) (hc0 : cond0_0 i) (hc1 : ¬cond0_1 i) (hc2 : ¬cond0_2 i)
    (p g : Vec F S512x1024 .f32) (w : Vec F S512x1024 .i8) :
    out0_A_3 c i a1 h1 a2 h2 a3 h3 a4 h4 hc0 hc1 hc2 p g w = fun _ => k0_pay1 p g w := by
  unfold out0_A_3
  rw [View.read_writes_eq_canon _ _ _ (cover0_A_3 c i a1 h1 a2 h2 a3 h3 a4 h4 hc0 hc1 hc2 p g w)]
  unfold kernelRun0_A
  dsimp only
  rw [View.canon_unit_zero zeros]
  simp only [View.readAt_eq_ld, h1.read_unread, h2.read_unread, h3.read_unread, View.ld_unit_zero (S := S512x1024) zeros]
  rfl

/-- A middle step adds its block's weighted sum to what the result holds. -/
theorem middle_step (c : Dev nD) (i : grid0.Coords) (a1 : Memref sig .tc .vmem S512x1024 .f32) (h1 : a1.IsWhole)
    (a2 : Memref sig .tc .vmem S512x1024 .f32) (h2 : a2.IsWhole) (a3 : Memref sig .tc .vmem S512x1024 .i8) (h3 : a3.IsWhole)
    (a4 : Memref sig .tc .smem S1x1 .f32) (h4 : a4.IsWhole) (hc0 : ¬cond0_0 i) (hc1 : cond0_1 i) (hc2 : ¬cond0_2 i)
    (p g : Vec F S512x1024 .f32) (w : Vec F S512x1024 .i8) (o : Vec F S1x1 .f32) :
    out0_B_3 c i a1 h1 a2 h2 a3 h3 a4 h4 hc0 hc1 hc2 p g w o = fun j => Scalar.addf (o j) (k0_pay1 p g w) := by
  unfold out0_B_3
  rw [View.read_writes_eq_canon _ _ _ (cover0_B_3 c i a1 h1 a2 h2 a3 h3 a4 h4 hc0 hc1 hc2 p g w o)]
  unfold kernelRun0_B
  dsimp only
  sl_unfold_words
  rw [View.canon_unit_zero zeros]
  unfold k0_pay2
  simp only [View.readAt_eq_ld, h1.read_unread, h2.read_unread, h3.read_unread, h4.read_unread, View.ld_unit_zero (S := S512x1024) zeros]
  exact funext fun j => congrArg (Scalar.addf · _)
    ((congrFun (View.ld_unit_zero (S := S1x1) zeros _ o) _).trans (congrArg o (one_index _ _)))

/-- The last step adds its block's weighted sum, then multiplies by the inverse of the number of elements. -/
theorem last_step (c : Dev nD) (i : grid0.Coords) (a1 : Memref sig .tc .vmem S512x1024 .f32) (h1 : a1.IsWhole)
    (a2 : Memref sig .tc .vmem S512x1024 .f32) (h2 : a2.IsWhole) (a3 : Memref sig .tc .vmem S512x1024 .i8) (h3 : a3.IsWhole)
    (a4 : Memref sig .tc .smem S1x1 .f32) (h4 : a4.IsWhole) (hc0 : ¬cond0_0 i) (hc1 : cond0_1 i) (hc2 : cond0_2 i)
    (p g : Vec F S512x1024 .f32) (w : Vec F S512x1024 .i8) (o : Vec F S1x1 .f32) :
    out0_C_3 c i a1 h1 a2 h2 a3 h3 a4 h4 hc0 hc1 hc2 p g w o
      = fun j => k0_pay3 (Scalar.addf (o j) (k0_pay1 p g w)) := by
  unfold out0_C_3
  rw [View.read_writes_eq_canon _ _ _ (cover0_C_3 c i a1 h1 a2 h2 a3 h3 a4 h4 hc0 hc1 hc2 p g w o)]
  unfold kernelRun0_C
  dsimp only
  sl_unfold_words
  rw [View.canon_cons_unit_zero (S := S1x1) zeros]
  unfold k0_pay2
  simp only [View.readAt_eq_ld, h1.read_unread, h2.read_unread, h3.read_unread, h4.read_unread, View.ld_unit_zero (S := S512x1024) zeros]
  exact funext fun j => congrArg (fun v => k0_pay3 (Scalar.addf v _))
    ((congrFun (View.ld_unit_zero (S := S1x1) zeros _ o) _).trans (congrArg o (one_index _ _)))

end Cert.Body

end
-- ==== Proof.Kernel.lean ====
/- What the kernel's result array ends holding: the sum over all rows of the squared differences times their weights,
   times the inverse of the number of elements. -/
module

public import proofs.«01_k».proof.Proof.Body
public import proofs.«01_k».proof.Proof.Gen.KernelIdeal.Value
public import Idealize.ShloMosaic.PureOps.Ideal.Laws
public import Idealize.ShloMosaic.Lib.ValueIdx

@[expose] public section

set_option maxRecDepth 16384

noncomputable section

namespace Cert.Sums

open Cert.KernelIdeal Cert.KernelIdeal.Gen Idealize.ShloMosaic Idealize.ShloMosaic.TcCoe Idealize.SL.Sem
open Idealize.ShloMosaic.ValueIdx

/-- One element's part of the sum: the squared difference times the weight. -/
def part (p g : EReal) (w : BitVec 8) : EReal := (p - g) * (p - g) * ((w.toInt : ℝ) : EReal)

/-- A step's value is the sum of the parts of its block's elements. -/
theorem block_sum (p g : Vec Ideal S512x1024 .f32) (w : Vec Ideal S512x1024 .i8) :
    k0_pay1 (F := Ideal) p g w = ∑ j : S512x1024.Idx, part (p j) (g j) (w j) := by
  unfold k0_pay1
  simp only [shapeCast_self]
  refine (Ideal.multiReduction_add_total (φ := .f32) (shapeCast S1x512x1024 (mulf (mulf (subf p g) (subf p g)) (sitofp .f32 w)) shapeCasts_S512x1024_S1x512x1024)
    0x00000000#32 reduces_S1x512x1024_S1 (fun b => by match b with | ⟨0, _⟩ => rfl) (.inl rfl) rfl _).trans ?_
  exact Equiv.sum_comp (Shape.reshapeEquiv shapeCasts_S512x1024_S1x512x1024) fun j => part (p j) (g j) (w j)

/-- The row that block `t` has at its row `a`. -/
def rowOf (t : Fin 24) (a : Fin 512) : Fin 12288 := ⟨512 * t.val + a.val, by omega⟩

/-- A sum over the rows is the sum over the blocks of the sums over their rows. -/
theorem sum_blocks (f : S12288x1024.Idx → EReal) :
    ∑ t : Fin 24, ∑ j : S512x1024.Idx, f (ix2 (rowOf t (j 0)) (j 1)) = ∑ x : S12288x1024.Idx, f x := by
  rw [sum_idx2 f]
  have h : ∀ t : Fin 24, ∑ j : S512x1024.Idx, f (ix2 (rowOf t (j 0)) (j 1))
      = ∑ a : Fin 512, ∑ b : Fin 1024, f (ix2 (rowOf t a) b) := fun t =>
    sum_idx2 fun j : S512x1024.Idx => f (ix2 (rowOf t (j 0)) (j 1))
  rw [Finset.sum_congr rfl fun t _ => h t, ← Fintype.sum_prod_type' (f := fun (t : Fin 24) (a : Fin 512) => ∑ b : Fin 1024, f (ix2 (rowOf t a) b))]
  refine Fintype.sum_equiv (finProdFinEquiv (m := 24) (n := 512)) _ (fun a : Fin 12288 => ∑ b : Fin 1024, f (ix2 a b)) fun q => ?_
  refine Finset.sum_congr rfl fun b _ => congrArg (fun a : Fin 12288 => f (ix2 a b)) (Fin.ext ?_)
  show 512 * q.1.val + q.2.val = q.2.val + 512 * q.1.val
  omega

variable (m : (ℓ : Loc nD τ sig) → Buf (Elt Ideal) ℓ) (c : Dev nD)

/-- The three arrays the launch reads, at an element: that element's part of the sum. -/
def partAt (x : S12288x1024.Idx) : EReal :=
  part ((V m c main_v20 : FVec Ideal S12288x1024 .f32) x) ((V m c main_v21 : FVec Ideal S12288x1024 .f32) x) ((V m c main_v19 : IVec S12288x1024 8) x)

/-- The blocks of point `t` lie at its rows. -/
theorem index_rows (t : Fin cfg0.N) : (win0_0.index t 0 = t.val ∧ win0_0.index t 1 = 0) ∧ (win0_1.index t 0 = t.val ∧ win0_1.index t 1 = 0)
    ∧ (win0_2.index t 0 = t.val ∧ win0_2.index t 1 = 0) :=
  (by decide : ∀ t : Fin grid0.N, (win0_0.index t 0 = t.val ∧ win0_0.index t 1 = 0) ∧ (win0_1.index t 0 = t.val ∧ win0_1.index t 1 = 0)
    ∧ (win0_2.index t 0 = t.val ∧ win0_2.index t 1 = 0)) t

/-- The first window's block at point `t`, read off any array: the array at the point's rows. -/
theorem read0 (X : FVec Ideal S12288x1024 .f32) (t : Fin cfg0.N) (j : S512x1024.Idx) :
    (((cfg0.win 0).blk t).view.read (Elt Ideal) X : Vec Ideal S512x1024 .f32) j = X (ix2 (rowOf ⟨t.val, N_0 ▸ t.isLt⟩ (j 0)) (j 1)) := by
  have hi := (index_rows t).1
  rw [View.read_apply]
  refine congrArg X (funext fun a => Fin.ext ?_)
  match a with
  | ⟨0, _⟩ => show win0_0.index t 0 * 512 + 1 * (j 0).val = 512 * t.val + (j 0).val; rw [hi.1]; omega
  | ⟨1, _⟩ => show win0_0.index t 1 * 1024 + 1 * (j 1).val = (j 1).val; rw [hi.2]; omega

/-- The second window's block likewise. -/
theorem read1 (X : FVec Ideal S12288x1024 .f32) (t : Fin cfg0.N) (j : S512x1024.Idx) :
    (((cfg0.win 1).blk t).view.read (Elt Ideal) X : Vec Ideal S512x1024 .f32) j = X (ix2 (rowOf ⟨t.val, N_0 ▸ t.isLt⟩ (j 0)) (j 1)) := by
  have hi := (index_rows t).2.1
  rw [View.read_apply]
  refine congrArg X (funext fun a => Fin.ext ?_)
  match a with
  | ⟨0, _⟩ => show win0_1.index t 0 * 512 + 1 * (j 0).val = 512 * t.val + (j 0).val; rw [hi.1]; omega
  | ⟨1, _⟩ => show win0_1.index t 1 * 1024 + 1 * (j 1).val = (j 1).val; rw [hi.2]; omega

/-- The third window's block likewise. -/
theorem read2 (X : IVec S12288x1024 8) (t : Fin cfg0.N) (j : S512x1024.Idx) :
    (((cfg0.win 2).blk t).view.read (Elt Ideal) X : Vec Ideal S512x1024 .i8) j = X (ix2 (rowOf ⟨t.val, N_0 ▸ t.isLt⟩ (j 0)) (j 1)) := by
  have hi := (index_rows t).2.2
  rw [View.read_apply]
  refine congrArg X (funext fun a => Fin.ext ?_)
  match a with
  | ⟨0, _⟩ => show win0_2.index t 0 * 512 + 1 * (j 0).val = 512 * t.val + (j 0).val; rw [hi.1]; omega
  | ⟨1, _⟩ => show win0_2.index t 1 * 1024 + 1 * (j 1).val = (j 1).val; rw [hi.2]; omega

/-- The sum of block `t`. -/
def blockSum (t : Fin 24) : EReal := ∑ j : S512x1024.Idx, partAt m c (ix2 (rowOf t (j 0)) (j 1))

/-- At point `t` the step's value is the sum of block `t`. -/
theorem step_sum (t : Fin cfg0.N) : k0_pay1 (F := Ideal) (iblk m c 0 t) (iblk m c 1 t) (iblk m c 2 t) = blockSum m c ⟨t.val, N_0 ▸ t.isLt⟩ := by
  rw [block_sum]
  refine Finset.sum_congr rfl fun j _ => ?_
  exact congr (congr (congrArg part (read0 (V m c main_v20) t j)) (read1 (V m c main_v21) t j)) (read2 (V m c main_v19) t j)

/-- The sum of block `n`, zero from the twenty-fourth on. -/
def nthSum (n : ℕ) : EReal := if h : n < 24 then blockSum m c ⟨n, h⟩ else 0

/-- Before the last point, the result holds the sum of the blocks so far. -/
theorem running : ∀ (n : ℕ) (h : n < cfg0.N), n < 23 → outsAt0 m c n h = fun _ => ∑ i ∈ Finset.range (n + 1), nthSum m c i
  | 0, h, _ => by
    refine (outsAt0_A m c ⟨0, h⟩ rfl (by simp) (by simp)).trans ((Cert.Body.first_step ..).trans (funext fun _ => ?_))
    rw [step_sum, Finset.sum_range_one, nthSum, dif_pos (by decide)]
  | n + 1, h, hn => by
    refine (outsAt0_B m c ⟨n + 1, h⟩ (by dsimp only; omega) (by dsimp only; omega) (by dsimp only; omega)).trans
      ((Cert.Body.middle_step ..).trans (funext fun j => ?_))
    rw [step_sum]
    show outsAt0 m c n _ j + _ = _
    rw [running n (by omega) (by omega), Finset.sum_range_succ _ (n + 1)]
    refine congrArg (_ + ·) ?_
    rw [nthSum, dif_pos (by omega)]

/-- The whole sum. -/
def total : EReal := ∑ x : S12288x1024.Idx, partAt m c x

/-- The sums of the twenty-four blocks add up to the whole sum. -/
theorem total_eq : ∑ i ∈ Finset.range 24, nthSum m c i = total m c := by
  rw [← Fin.sum_univ_eq_sum_range (nthSum m c) 24]
  refine Eq.trans (Finset.sum_congr rfl fun t _ => ?_) (sum_blocks (partAt m c))
  rw [nthSum, dif_pos t.isLt]
  rfl

/-- The inverse of the number of elements, as the last step multiplies by it. -/
theorem scaled (x : EReal) : k0_pay3 (F := Ideal) x = x * ((12582912⁻¹ : ℝ) : EReal) := rfl

/-- What the kernel's result holds: the whole sum times the inverse of the number of elements. -/
def result : FVec Ideal S1x1 .f32 := fun _ => total m c * ((12582912⁻¹ : ℝ) : EReal)

/-- The last point leaves it. -/
theorem last (h : 23 < cfg0.N) : outsAt0 m c 23 h = result m c := by
  refine (outsAt0_C m c ⟨23, h⟩ (by dsimp only; decide) (by dsimp only; decide) (by dsimp only)).trans ((Cert.Body.last_step ..).trans (funext fun j => ?_))
  rw [step_sum, scaled]
  unfold result
  refine congrArg (· * _) ?_
  show outsAt0 m c 22 _ j + _ = _
  rw [running m c 22 _ (by decide), ← total_eq, Finset.sum_range_succ _ 23]
  refine congrArg (_ + ·) ?_
  rw [nthSum, dif_pos (by decide)]

/-- The one write-back, at the last point, writes it. -/
theorem flushed_result (t : Fin cfg0.N) (hf : (cfg0.win 3).flush t = true) :
    (dats m 0 c).flushed 3 t = ((cfg0.win 3).blk t).view.read (Elt Ideal) (result m c) := by
  have hN : cfg0.N = 24 := N_0
  have ht : t.val = 23 := by have := (flush0_3 t).mp hf; have := t.isLt; omega
  obtain ⟨n, h⟩ := t
  obtain rfl : n = 23 := ht
  rw [Cert.KernelIdeal.Value.flushed3, last m c h]
  funext j
  rw [View.read_apply]
  rfl

/-- The one block of the result covers its one index. -/
theorem covered (t : Fin cfg0.N) (i : S1x1.Idx) : i ∈ ((View.whole main_v22).slice (win0_3.rect t)).set := by
  rw [View.set_slice_whole, Rect.mem_set_unit]
  intro a
  have h0 : (i 0 : Nat) < 1 := (i 0).isLt
  have h1 : (i 1 : Nat) < 1 := (i 1).isLt
  match a with
  | ⟨0, _⟩ => exact ⟨by show 0 * 1 ≤ _; omega, by show (i 0 : Nat) < 0 * 1 + 1; omega⟩
  | ⟨1, _⟩ => exact ⟨by show 0 * 1 ≤ _; omega, by show (i 1 : Nat) < 0 * 1 + 1; omega⟩

/-- So the result array ends holding it. -/
theorem final : (dats m 0 c).arrAt 3 cfg0.N = result m c :=
  (dats m 0 c).arrAt_eq_of_cover 3 (result m c) (flushed_result m c) fun i =>
    ⟨⟨23, by rw [show cfg0.N = 24 from N_0]; decide⟩, (flush0_3 _).mpr rfl, covered _ i⟩

end Cert.Sums

end
-- ==== Proof.Mean.lean ====
/- The reference's mean as a weighted sum, over the elements in one row, and the kernel's sum beside it. -/
module

public import proofs.«01_k».proof.Proof.Host
public import proofs.«01_k».proof.Proof.Weights
public import proofs.«01_k».proof.Proof.Kernel

@[expose] public section

set_option maxRecDepth 16384

noncomputable section

namespace Cert.Mean

open Cert.ReferenceIdeal Cert.ReferenceIdeal.Gen Idealize.ShloMosaic Idealize.ShloMosaic.TcCoe Idealize.SL.Sem
open Cert.Reference

/-- The word of the reference's factor is two. -/
theorem word_two : Ideal.ofBits .f32 0x40000000#32 = ((2 : ℝ) : EReal) := by
  simp [Ideal.ofBits, Ideal.ieee, -EReal.coe_mul]
  norm_num

/-- The word of the reference's divisor is the number of elements. -/
theorem word_count : Ideal.ofBits .f32 0x4B400000#32 = ((12582912 : ℝ) : EReal) := by
  simp [Ideal.ofBits, Ideal.ieee, -EReal.coe_mul]

/-- Doubling the drawn entries multiplies every entry by its weight. -/
theorem doubled_apply (p : IVec S12582912 32) (f : FVec Ideal S12582912 .f32) (x : S12582912.Idx) :
    doubled p f x = f x * (((Cert.Host.weights p x).toInt : ℝ) : EReal) := by
  have e : mulf (Host.gather gather_S12582912_S6291456x1_S6291456_n_0_n_n_0_1_1 f (drawn p))
      (broadcastInDim S6291456 ![] bcast_S_S6291456 (constant (F := Ideal) S_ .f32 0x40000000#32))
      = fun k => Host.gather gather_S12582912_S6291456x1_S6291456_n_0_n_n_0_1_1 f (drawn p) k * ((2 : ℝ) : EReal) :=
    funext fun k => by
      show _ * Ideal.ofBits .f32 0x40000000#32 = _
      rw [word_two]
  unfold doubled
  rw [e]
  exact Cert.Weights.doubled_eq_weighted scatter_S12582912_S6291456x1_S6291456_n_0_0_1 rfl rfl rfl
    gather_S12582912_S6291456x1_S6291456_n_0_n_n_0_1_1 rfl rfl rfl rfl f (drawn p) x

/-- The reference's mean: the weighted squared differences added up, over the number of elements. -/
theorem mean_apply (a b : FVec Ideal S16x3x512x512 .f32) (p : IVec S12582912 32) (j : S1x1.Idx) :
    mean a b p j = (∑ x : S12582912.Idx, flat a b x * (((Cert.Host.weights p x).toInt : ℝ) : EReal)) * ((12582912⁻¹ : ℝ) : EReal) := by
  have hs : ∀ k, Host.reduceAdd (F := Ideal) (shapeCast S16x3x512x512 (doubled p (flat a b)) shapeCasts_S12582912_S16x3x512x512)
        (constant S_ .f32 0x00000000#32) reducesTo_S16x3x512x512_S_d0_1_2_3 h_S_ k
      = ∑ x : S12582912.Idx, flat a b x * (((Cert.Host.weights p x).toInt : ℝ) : EReal) := fun k => by
    refine (Ideal.hostReduceAdd_total _ (fun b => b.elim0) _ _ k).trans ?_
    have hz : (constant (F := Ideal) S_ .f32 0x00000000#32) (fun a => a.elim0) = 0 := Ideal.ofBits_zero_f32
    refine Eq.trans (congrArg (· + _) hz) ?_
    rw [zero_add]
    refine (Equiv.sum_comp (Shape.reshapeEquiv shapeCasts_S12582912_S16x3x512x512) (doubled p (flat a b))).trans ?_
    exact Finset.sum_congr rfl fun x _ => doubled_apply p _ x
  unfold mean
  refine (congrArg (Ideal.div · (Ideal.ofBits .f32 0x4B400000#32)) (hs (Shape.reshapeEquiv shapeCasts_S_S1x1 j))).trans ?_
  rw [word_count, Ideal.div_coe (by norm_num), one_div]

variable (m : (ℓ : Loc Cert.KernelIdeal.nD Cert.KernelIdeal.τ Cert.KernelIdeal.sig) → Buf (Elt Ideal) ℓ) (c : Dev Cert.KernelIdeal.nD)

/-- The kernel's sum over rows of 1024 is the sum over the elements in one row. -/
theorem total_flat : Cert.Sums.total m c
    = ∑ x : S12582912.Idx, flat (m ((c : Thread Cert.KernelIdeal.nD Cert.KernelIdeal.τ).loc Cert.KernelIdeal.main_arg0))
          (m ((c : Thread Cert.KernelIdeal.nD Cert.KernelIdeal.τ).loc Cert.KernelIdeal.main_arg1)) x
        * (((Cert.Host.weights (Cert.Host.shuffled m c Cert.KernelIdeal.main_v8) x).toInt : ℝ) : EReal) := by
  refine Eq.trans (Finset.sum_congr rfl fun x _ => ?_)
    (Equiv.sum_comp (Shape.reshapeEquiv Cert.KernelIdeal.Gen.shapeCasts_S12582912_S12288x1024) _)
  unfold Cert.Sums.partAt
  rw [Cert.Host.V_v20, Cert.Host.V_v21, Cert.Host.V_v19]
  unfold flat squared Cert.Sums.part shapeCast
  show _ = (_ - _) * (_ - _) * _
  rw [Shape.reshapeEquiv_reshapeEquiv]

/-- THE EQUATION: what the kernel's result holds is the reference's mean of the same arguments. -/
theorem result_eq_mean (V : Valuation Cert.ReferenceIdeal.τ Cert.ReferenceIdeal.sig (Elt Ideal)) :
    Cert.Sums.result m c
      = mean (m ((c : Thread Cert.KernelIdeal.nD Cert.KernelIdeal.τ).loc Cert.KernelIdeal.main_arg0))
          (m ((c : Thread Cert.KernelIdeal.nD Cert.KernelIdeal.τ).loc Cert.KernelIdeal.main_arg1)) (Cert.Reference.shuffled V main_v8) := by
  funext j
  rw [mean_apply, ← Cert.Host.same_perm (fun b => m (c, b)) V]
  unfold Cert.Sums.result
  rw [total_flat]

end Cert.Mean

end
-- ==== Proof.lean ====
/- The claims about the weighted mean squared error kernel, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Mean
public import Idealize.ShloMosaic.Adequacy
public import Idealize.ShloMosaic.Init

@[expose] public section

noncomputable section

namespace Cert.Proof

open Idealize.ShloMosaic Idealize.ShloMosaic.TcCoe Idealize.SL.Sem

/-- The reference's run: its result is the mean of its arguments, and these are unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v32)
          = Cert.Reference.mean (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (Cert.Reference.shuffled (StableHlo.launchContents m c) Cert.ReferenceIdeal.main_v8)
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1) :=
  (θ_run Cert.ReferenceIdeal.defs _ _).mono (fun r h c =>
      ⟨by rw [h c Cert.ReferenceIdeal.main_v32, Cert.Reference.after_ops, Cert.Reference.value, Cert.Reference.kept_arg0, Cert.Reference.kept_arg1],
       by rw [h c Cert.ReferenceIdeal.main_arg0, Cert.Reference.after_ops, Cert.Reference.behind_arg0, Cert.Reference.kept_arg0],
       by rw [h c Cert.ReferenceIdeal.main_arg1, Cert.Reference.after_ops, Cert.Reference.behind_arg1, Cert.Reference.kept_arg1]⟩)
    (Cert.Reference.run m ρ)

/-- The kernel's named constant is the inverse of the number of elements. -/
theorem preserves : Cert.preserves_Kernel_KernelIdeal :=
  IdealRules.named_const.statement Cert.KernelIdeal.κ "inv_n" .f32 0x33AAAAAB#32 ((12582912⁻¹ : ℝ) : EReal) rfl

/-- Kernel and reference compute the same value over the extended reals. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.Sums.result m c,
    (θ_run Cert.KernelIdeal.defs _ _).mono (fun _ h c => ⟨(h c).1.trans (Cert.Sums.final m c), (h c).2⟩)
      (Cert.KernelIdeal.Value.run_blocks (F := Ideal) m ρ),
    (θ_run Cert.ReferenceIdeal.defs _ _).mono (fun _ h c => ⟨(h c).1.trans ?_, (h c).2⟩) (reference_run m' ρ')⟩
  rw [(hagree c).1, (hagree c).2]
  exact (Cert.Mean.result_eq_mean m c _).symm

/-- The claims: the three programs run and leave their arguments, the idealization is the kernel's, and kernel and reference agree. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.Reference.frame m ρ, preserves, algebraic⟩

end Cert.Proof

end
